-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![4, 1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x1024 : Shape := ⟨3, ![1, 1024, 1024]⟩
abbrev S1024x1024 : Shape := ⟨2, ![1024, 1024]⟩
abbrev S1024 : Shape := ⟨1, ![1024]⟩
abbrev S1x1024 : Shape := ⟨2, ![1, 1024]⟩
abbrev S256x1024 : Shape := ⟨2, ![256, 1024]⟩
abbrev S128x1024 : Shape := ⟨2, ![128, 1024]⟩
abbrev S16 : Shape := ⟨1, ![16]⟩
abbrev S_ : Shape := ⟨0, ![]⟩
abbrev S1 : Shape := ⟨1, ![1]⟩
abbrev S1x128x1024 : Shape := ⟨3, ![1, 128, 1024]⟩
abbrev S64x1024 : Shape := ⟨2, ![64, 1024]⟩
abbrev S64 : Shape := ⟨1, ![64]⟩
abbrev S64x1 : Shape := ⟨2, ![64, 1]⟩

abbrev nBuf : Space → Nat
  | .hbm => 5
  | .vmem => 10
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1024, .f32⟩
  | .hbm, ⟨3, _⟩ => ⟨S1x1024, .f32⟩
  | .hbm, ⟨4, _⟩ => ⟨S1024x1024, .f32⟩
  | .local _ .vmem, ⟨0, _⟩ => ⟨S1x1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S256x1024, .f32⟩
  | .local _ .vmem, ⟨5, _⟩ => ⟨S256x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_20 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c2_i32_5 : BitVec 32 := 2#32
  let c2_i32 : BitVec 32 := 2#32
  let c0_i32 : BitVec 32 := 0#32
  let v4 : BitVec 1 := Scalar.cmpi .eq c2_i32 c0_i32
  let c1_i32_1 : BitVec 32 := 1#32
  let v5 : BitVec 32 := Scalar.select v4 c1_i32_1 c2_i32
  let v6 : BitVec 32 := Scalar.remsi v2 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let v14 : BitVec 32 := Scalar.muli c2_i32_5 v13
  let v15 : BitVec 32 := Scalar.subi v3 v14
  let c1_i32_19 : BitVec 32 := 1#32
  let v30 : BitVec 32 := Scalar.muli v15 c1_i32_19
  let v31 : BitVec 32 := Scalar.addi c0_i32_20 v30
  v31.toNat
def k0_dev2 (d0 : Dev nD) : Nat :=
  let c0_i32_23 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v16 : BitVec 32 := Scalar.subi c3_i32 v2
  let c1_i32_22 : BitVec 32 := 1#32
  let v32 : BitVec 32 := Scalar.muli v16 c1_i32_22
  let v33 : BitVec 32 := Scalar.addi c0_i32_23 v32
  v33.toNat
def k0_off1 (d0 : Dev nD) : Fin 2 → Nat :=
  let c128_i32_25 : BitVec 32 := 128#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_9 : BitVec 32 := 1#32
  let v21 : BitVec 1 := Scalar.cmpi .sle v2 c1_i32_9
  let c0_i32_10 : BitVec 32 := 0#32
  let c128_i32 : BitVec 32 := 128#32
  let v22 : BitVec 32 := Scalar.select v21 c0_i32_10 c128_i32
  let v37 : BitVec 32 := Scalar.subi c128_i32_25 v22
  let c0_i32_33 : BitVec 32 := 0#32
  ![v37.toNat, 0]
def k0_off2 (d0 : Dev nD) : Fin 3 → Nat :=
  let c0_i32_28 : BitVec 32 := 0#32
  let c256_i32_27 : BitVec 32 := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v17 : BitVec 1 := Scalar.cmpi .eq v2 c0_i32_6
  let c3_i32_7 : BitVec 32 := 3#32
  let v18 : BitVec 1 := Scalar.cmpi .eq v2 c3_i32_7
  let v19 : BitVec 1 := Scalar.ori v17 v18
  let c0_i32_8 : BitVec 32 := 0#32
  let c256_i32 : BitVec 32 := 256#32
  let v20 : BitVec 32 := Scalar.select v19 c0_i32_8 c256_i32
  let v39 : BitVec 32 := Scalar.subi c256_i32_27 v20
  let c128_i32_25 : BitVec 32 := 128#32
  let c1_i32_9 : BitVec 32 := 1#32
  let v21 : BitVec 1 := Scalar.cmpi .sle v2 c1_i32_9
  let c0_i32_10 : BitVec 32 := 0#32
  let c128_i32 : BitVec 32 := 128#32
  let v22 : BitVec 32 := Scalar.select v21 c0_i32_10 c128_i32
  let v37 : BitVec 32 := Scalar.subi c128_i32_25 v22
  let v40 : BitVec 32 := Scalar.addi v39 v37
  let c0_i32_34 : BitVec 32 := 0#32
  ![0, v40.toNat, 0]
def k0_dev3 (d0 : Dev nD) : Nat :=
  let c0_i32_32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c2_i32_5 : BitVec 32 := 2#32
  let c2_i32 : BitVec 32 := 2#32
  let c0_i32 : BitVec 32 := 0#32
  let v4 : BitVec 1 := Scalar.cmpi .eq c2_i32 c0_i32
  let c1_i32_1 : BitVec 32 := 1#32
  let v5 : BitVec 32 := Scalar.select v4 c1_i32_1 c2_i32
  let v6 : BitVec 32 := Scalar.remsi v2 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let v14 : BitVec 32 := Scalar.muli c2_i32_5 v13
  let v15 : BitVec 32 := Scalar.subi v3 v14
  let c1_i32_31 : BitVec 32 := 1#32
  let v41 : BitVec 32 := Scalar.muli v15 c1_i32_31
  let v42 : BitVec 32 := Scalar.addi c0_i32_32 v41
  v42.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_9 : BitVec 32 := 1#32
  let v21 : BitVec 1 := Scalar.cmpi .sle v2 c1_i32_9
  let c0_i32_10 : BitVec 32 := 0#32
  let c128_i32 : BitVec 32 := 128#32
  let v22 : BitVec 32 := Scalar.select v21 c0_i32_10 c128_i32
  let c0_i32_41 : BitVec 32 := 0#32
  ![v22.toNat, 0]
def k0_off4 (d0 : Dev nD) : Fin 3 → Nat :=
  let c0_i32_36 : BitVec 32 := 0#32
  let c256_i32_35 : BitVec 32 := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v17 : BitVec 1 := Scalar.cmpi .eq v2 c0_i32_6
  let c3_i32_7 : BitVec 32 := 3#32
  let v18 : BitVec 1 := Scalar.cmpi .eq v2 c3_i32_7
  let v19 : BitVec 1 := Scalar.ori v17 v18
  let c0_i32_8 : BitVec 32 := 0#32
  let c256_i32 : BitVec 32 := 256#32
  let v20 : BitVec 32 := Scalar.select v19 c0_i32_8 c256_i32
  let v50 : BitVec 32 := Scalar.subi c256_i32_35 v20
  let c1_i32_9 : BitVec 32 := 1#32
  let v21 : BitVec 1 := Scalar.cmpi .sle v2 c1_i32_9
  let c0_i32_10 : BitVec 32 := 0#32
  let c128_i32 : BitVec 32 := 128#32
  let v22 : BitVec 32 := Scalar.select v21 c0_i32_10 c128_i32
  let v51 : BitVec 32 := Scalar.addi v50 v22
  let c0_i32_42 : BitVec 32 := 0#32
  ![0, v51.toNat, 0]
def k0_dev4 (d0 : Dev nD) : Nat :=
  let c0_i32_40 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c2_i32_5 : BitVec 32 := 2#32
  let c2_i32 : BitVec 32 := 2#32
  let c0_i32 : BitVec 32 := 0#32
  let v4 : BitVec 1 := Scalar.cmpi .eq c2_i32 c0_i32
  let c1_i32_1 : BitVec 32 := 1#32
  let v5 : BitVec 32 := Scalar.select v4 c1_i32_1 c2_i32
  let v6 : BitVec 32 := Scalar.remsi v2 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let v14 : BitVec 32 := Scalar.muli c2_i32_5 v13
  let v15 : BitVec 32 := Scalar.subi v3 v14
  let c1_i32_39 : BitVec 32 := 1#32
  let v52 : BitVec 32 := Scalar.muli v15 c1_i32_39
  let v53 : BitVec 32 := Scalar.addi c0_i32_40 v52
  v53.toNat
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_14 : BitVec 32 := 0#32
  let v25 : BitVec 1 := Scalar.cmpi .eq v2 c0_i32_14
  let c2_i32_15 : BitVec 32 := 2#32
  let v26 : BitVec 1 := Scalar.cmpi .eq v2 c2_i32_15
  let v27 : BitVec 1 := Scalar.ori v25 v26
  let c0_i32_16 : BitVec 32 := 0#32
  let c128_i32_17 : BitVec 32 := 128#32
  let v28 : BitVec 32 := Scalar.select v27 c0_i32_16 c128_i32_17
  let c0_i32_50 : BitVec 32 := 0#32
  ![v28.toNat, 0]
def k0_off6 (d0 : Dev nD) : Fin 3 → Nat :=
  let c0_i32_45 : BitVec 32 := 0#32
  let c512_i32_44 : BitVec 32 := 512#32
  let c256_i32_43 : BitVec 32 := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_11 : BitVec 32 := 1#32
  let v23 : BitVec 1 := Scalar.cmpi .sle v2 c1_i32_11
  let c0_i32_12 : BitVec 32 := 0#32
  let c256_i32_13 : BitVec 32 := 256#32
  let v24 : BitVec 32 := Scalar.select v23 c0_i32_12 c256_i32_13
  let v61 : BitVec 32 := Scalar.subi c256_i32_43 v24
  let v62 : BitVec 32 := Scalar.addi c512_i32_44 v61
  let c0_i32_14 : BitVec 32 := 0#32
  let v25 : BitVec 1 := Scalar.cmpi .eq v2 c0_i32_14
  let c2_i32_15 : BitVec 32 := 2#32
  let v26 : BitVec 1 := Scalar.cmpi .eq v2 c2_i32_15
  let v27 : BitVec 1 := Scalar.ori v25 v26
  let c0_i32_16 : BitVec 32 := 0#32
  let c128_i32_17 : BitVec 32 := 128#32
  let v28 : BitVec 32 := Scalar.select v27 c0_i32_16 c128_i32_17
  let v63 : BitVec 32 := Scalar.addi v62 v28
  let c0_i32_51 : BitVec 32 := 0#32
  ![0, v63.toNat, 0]
def k0_dev5 (d0 : Dev nD) : Nat :=
  let c0_i32_49 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v16 : BitVec 32 := Scalar.subi c3_i32 v2
  let c1_i32_48 : BitVec 32 := 1#32
  let v64 : BitVec 32 := Scalar.muli v16 c1_i32_48
  let v65 : BitVec 32 := Scalar.addi c0_i32_49 v64
  v65.toNat
def k0_off7 (d0 : Dev nD) : Fin 2 → Nat :=
  let c128_i32_26 : BitVec 32 := 128#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_14 : BitVec 32 := 0#32
  let v25 : BitVec 1 := Scalar.cmpi .eq v2 c0_i32_14
  let c2_i32_15 : BitVec 32 := 2#32
  let v26 : BitVec 1 := Scalar.cmpi .eq v2 c2_i32_15
  let v27 : BitVec 1 := Scalar.ori v25 v26
  let c0_i32_16 : BitVec 32 := 0#32
  let c128_i32_17 : BitVec 32 := 128#32
  let v28 : BitVec 32 := Scalar.select v27 c0_i32_16 c128_i32_17
  let v38 : BitVec 32 := Scalar.subi c128_i32_26 v28
  let c0_i32_59 : BitVec 32 := 0#32
  ![v38.toNat, 0]
def k0_off8 (d0 : Dev nD) : Fin 3 → Nat :=
  let c0_i32_54 : BitVec 32 := 0#32
  let c512_i32_53 : BitVec 32 := 512#32
  let c256_i32_52 : BitVec 32 := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_11 : BitVec 32 := 1#32
  let v23 : BitVec 1 := Scalar.cmpi .sle v2 c1_i32_11
  let c0_i32_12 : BitVec 32 := 0#32
  let c256_i32_13 : BitVec 32 := 256#32
  let v24 : BitVec 32 := Scalar.select v23 c0_i32_12 c256_i32_13
  let v73 : BitVec 32 := Scalar.subi c256_i32_52 v24
  let v74 : BitVec 32 := Scalar.addi c512_i32_53 v73
  let c128_i32_26 : BitVec 32 := 128#32
  let c0_i32_14 : BitVec 32 := 0#32
  let v25 : BitVec 1 := Scalar.cmpi .eq v2 c0_i32_14
  let c2_i32_15 : BitVec 32 := 2#32
  let v26 : BitVec 1 := Scalar.cmpi .eq v2 c2_i32_15
  let v27 : BitVec 1 := Scalar.ori v25 v26
  let c0_i32_16 : BitVec 32 := 0#32
  let c128_i32_17 : BitVec 32 := 128#32
  let v28 : BitVec 32 := Scalar.select v27 c0_i32_16 c128_i32_17
  let v38 : BitVec 32 := Scalar.subi c128_i32_26 v28
  let v75 : BitVec 32 := Scalar.addi v74 v38
  let c0_i32_60 : BitVec 32 := 0#32
  ![0, v75.toNat, 0]
def k0_dev6 (d0 : Dev nD) : Nat :=
  let c0_i32_58 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v16 : BitVec 32 := Scalar.subi c3_i32 v2
  let c1_i32_57 : BitVec 32 := 1#32
  let v76 : BitVec 32 := Scalar.muli v16 c1_i32_57
  let v77 : BitVec 32 := Scalar.addi c0_i32_58 v76
  v77.toNat
def k0_off9 (d0 : Dev nD) : Fin 2 → Nat :=
  let c128_i32_25 : BitVec 32 := 128#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_9 : BitVec 32 := 1#32
  let v21 : BitVec 1 := Scalar.cmpi .sle v2 c1_i32_9
  let c0_i32_10 : BitVec 32 := 0#32
  let c128_i32 : BitVec 32 := 128#32
  let v22 : BitVec 32 := Scalar.select v21 c0_i32_10 c128_i32
  let v37 : BitVec 32 := Scalar.subi c128_i32_25 v22
  let v92 : Index := Scalar.indexCast v37
  let c0 : Index := 0#32
  ![v92.toNat, 0]
def k0_off10 (d0 : Dev nD) : Fin 3 → Nat :=
  let c0_68 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v17 : BitVec 1 := Scalar.cmpi .eq v2 c0_i32_6
  let c3_i32_7 : BitVec 32 := 3#32
  let v18 : BitVec 1 := Scalar.cmpi .eq v2 c3_i32_7
  let v19 : BitVec 1 := Scalar.ori v17 v18
  let c0_i32_8 : BitVec 32 := 0#32
  let c256_i32 : BitVec 32 := 256#32
  let v20 : BitVec 32 := Scalar.select v19 c0_i32_8 c256_i32
  let c128_i32_25 : BitVec 32 := 128#32
  let c1_i32_9 : BitVec 32 := 1#32
  let v21 : BitVec 1 := Scalar.cmpi .sle v2 c1_i32_9
  let c0_i32_10 : BitVec 32 := 0#32
  let c128_i32 : BitVec 32 := 128#32
  let v22 : BitVec 32 := Scalar.select v21 c0_i32_10 c128_i32
  let v37 : BitVec 32 := Scalar.subi c128_i32_25 v22
  let v94 : BitVec 32 := Scalar.addi v20 v37
  let v95 : Index := Scalar.indexCast v94
  let c0_69 : Index := 0#32
  ![0, v95.toNat, 0]
def k0_off11 (d0 : Dev nD) : Fin 2 → Nat :=
  let c128_i32_25 : BitVec 32 := 128#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_9 : BitVec 32 := 1#32
  let v21 : BitVec 1 := Scalar.cmpi .sle v2 c1_i32_9
  let c0_i32_10 : BitVec 32 := 0#32
  let c128_i32 : BitVec 32 := 128#32
  let v22 : BitVec 32 := Scalar.select v21 c0_i32_10 c128_i32
  let v37 : BitVec 32 := Scalar.subi c128_i32_25 v22
  let c0_i32_77 : BitVec 32 := 0#32
  ![v37.toNat, 0]
def k0_dev7 (d0 : Dev nD) : Nat :=
  let c0_i32_74 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v16 : BitVec 32 := Scalar.subi c3_i32 v2
  let c1_i32_73 : BitVec 32 := 1#32
  let v103 : BitVec 32 := Scalar.muli v16 c1_i32_73
  let v104 : BitVec 32 := Scalar.addi c0_i32_74 v103
  v104.toNat
def k0_off12 (d0 : Dev nD) : Fin 2 → Nat :=
  let c128_i32_25 : BitVec 32 := 128#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_9 : BitVec 32 := 1#32
  let v21 : BitVec 1 := Scalar.cmpi .sle v2 c1_i32_9
  let c0_i32_10 : BitVec 32 := 0#32
  let c128_i32 : BitVec 32 := 128#32
  let v22 : BitVec 32 := Scalar.select v21 c0_i32_10 c128_i32
  let v37 : BitVec 32 := Scalar.subi c128_i32_25 v22
  let c64_i32 : BitVec 32 := 64#32
  let v111 : BitVec 32 := Scalar.addi v37 c64_i32
  let c0_i32_83 : BitVec 32 := 0#32
  ![v111.toNat, 0]
def k0_dev8 (d0 : Dev nD) : Nat :=
  let c0_i32_80 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v16 : BitVec 32 := Scalar.subi c3_i32 v2
  let c1_i32_79 : BitVec 32 := 1#32
  let v112 : BitVec 32 := Scalar.muli v16 c1_i32_79
  let v113 : BitVec 32 := Scalar.addi c0_i32_80 v112
  v113.toNat
def k0_off13 (d0 : Dev nD) : Fin 2 → Nat :=
  let c128_i32_26 : BitVec 32 := 128#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_14 : BitVec 32 := 0#32
  let v25 : BitVec 1 := Scalar.cmpi .eq v2 c0_i32_14
  let c2_i32_15 : BitVec 32 := 2#32
  let v26 : BitVec 1 := Scalar.cmpi .eq v2 c2_i32_15
  let v27 : BitVec 1 := Scalar.ori v25 v26
  let c0_i32_16 : BitVec 32 := 0#32
  let c128_i32_17 : BitVec 32 := 128#32
  let v28 : BitVec 32 := Scalar.select v27 c0_i32_16 c128_i32_17
  let v38 : BitVec 32 := Scalar.subi c128_i32_26 v28
  let v127 : Index := Scalar.indexCast v38
  let c0_91 : Index := 0#32
  ![v127.toNat, 0]
def k0_off14 (d0 : Dev nD) : Fin 3 → Nat :=
  let c0_93 : Index := 0#32
  let c512_i32_92 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_11 : BitVec 32 := 1#32
  let v23 : BitVec 1 := Scalar.cmpi .sle v2 c1_i32_11
  let c0_i32_12 : BitVec 32 := 0#32
  let c256_i32_13 : BitVec 32 := 256#32
  let v24 : BitVec 32 := Scalar.select v23 c0_i32_12 c256_i32_13
  let v129 : BitVec 32 := Scalar.addi c512_i32_92 v24
  let c128_i32_26 : BitVec 32 := 128#32
  let c0_i32_14 : BitVec 32 := 0#32
  let v25 : BitVec 1 := Scalar.cmpi .eq v2 c0_i32_14
  let c2_i32_15 : BitVec 32 := 2#32
  let v26 : BitVec 1 := Scalar.cmpi .eq v2 c2_i32_15
  let v27 : BitVec 1 := Scalar.ori v25 v26
  let c0_i32_16 : BitVec 32 := 0#32
  let c128_i32_17 : BitVec 32 := 128#32
  let v28 : BitVec 32 := Scalar.select v27 c0_i32_16 c128_i32_17
  let v38 : BitVec 32 := Scalar.subi c128_i32_26 v28
  let v130 : BitVec 32 := Scalar.addi v129 v38
  let v131 : Index := Scalar.indexCast v130
  let c0_94 : Index := 0#32
  ![0, v131.toNat, 0]
def k0_off15 (d0 : Dev nD) : Fin 2 → Nat :=
  let c128_i32_26 : BitVec 32 := 128#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_14 : BitVec 32 := 0#32
  let v25 : BitVec 1 := Scalar.cmpi .eq v2 c0_i32_14
  let c2_i32_15 : BitVec 32 := 2#32
  let v26 : BitVec 1 := Scalar.cmpi .eq v2 c2_i32_15
  let v27 : BitVec 1 := Scalar.ori v25 v26
  let c0_i32_16 : BitVec 32 := 0#32
  let c128_i32_17 : BitVec 32 := 128#32
  let v28 : BitVec 32 := Scalar.select v27 c0_i32_16 c128_i32_17
  let v38 : BitVec 32 := Scalar.subi c128_i32_26 v28
  let c0_i32_101 : BitVec 32 := 0#32
  ![v38.toNat, 0]
def k0_dev9 (d0 : Dev nD) : Nat :=
  let c0_i32_98 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c2_i32_5 : BitVec 32 := 2#32
  let c2_i32 : BitVec 32 := 2#32
  let c0_i32 : BitVec 32 := 0#32
  let v4 : BitVec 1 := Scalar.cmpi .eq c2_i32 c0_i32
  let c1_i32_1 : BitVec 32 := 1#32
  let v5 : BitVec 32 := Scalar.select v4 c1_i32_1 c2_i32
  let v6 : BitVec 32 := Scalar.remsi v2 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let v14 : BitVec 32 := Scalar.muli c2_i32_5 v13
  let v15 : BitVec 32 := Scalar.subi v3 v14
  let c1_i32_97 : BitVec 32 := 1#32
  let v139 : BitVec 32 := Scalar.muli v15 c1_i32_97
  let v140 : BitVec 32 := Scalar.addi c0_i32_98 v139
  v140.toNat
def k0_off16 (d0 : Dev nD) : Fin 2 → Nat :=
  let c128_i32_26 : BitVec 32 := 128#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_14 : BitVec 32 := 0#32
  let v25 : BitVec 1 := Scalar.cmpi .eq v2 c0_i32_14
  let c2_i32_15 : BitVec 32 := 2#32
  let v26 : BitVec 1 := Scalar.cmpi .eq v2 c2_i32_15
  let v27 : BitVec 1 := Scalar.ori v25 v26
  let c0_i32_16 : BitVec 32 := 0#32
  let c128_i32_17 : BitVec 32 := 128#32
  let v28 : BitVec 32 := Scalar.select v27 c0_i32_16 c128_i32_17
  let v38 : BitVec 32 := Scalar.subi c128_i32_26 v28
  let c64_i32_102 : BitVec 32 := 64#32
  let v147 : BitVec 32 := Scalar.addi v38 c64_i32_102
  let c0_i32_108 : BitVec 32 := 0#32
  ![v147.toNat, 0]
def k0_dev10 (d0 : Dev nD) : Nat :=
  let c0_i32_105 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c2_i32_5 : BitVec 32 := 2#32
  let c2_i32 : BitVec 32 := 2#32
  let c0_i32 : BitVec 32 := 0#32
  let v4 : BitVec 1 := Scalar.cmpi .eq c2_i32 c0_i32
  let c1_i32_1 : BitVec 32 := 1#32
  let v5 : BitVec 32 := Scalar.select v4 c1_i32_1 c2_i32
  let v6 : BitVec 32 := Scalar.remsi v2 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let v14 : BitVec 32 := Scalar.muli c2_i32_5 v13
  let v15 : BitVec 32 := Scalar.subi v3 v14
  let c1_i32_104 : BitVec 32 := 1#32
  let v148 : BitVec 32 := Scalar.muli v15 c1_i32_104
  let v149 : BitVec 32 := Scalar.addi c0_i32_105 v148
  v149.toNat
def k0_off17 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_9 : BitVec 32 := 1#32
  let v21 : BitVec 1 := Scalar.cmpi .sle v2 c1_i32_9
  let c0_i32_10 : BitVec 32 := 0#32
  let c128_i32 : BitVec 32 := 128#32
  let v22 : BitVec 32 := Scalar.select v21 c0_i32_10 c128_i32
  let v163 : Index := Scalar.indexCast v22
  let c0_116 : Index := 0#32
  ![v163.toNat, 0]
def k0_off18 (d0 : Dev nD) : Fin 3 → Nat :=
  let c0_117 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v17 : BitVec 1 := Scalar.cmpi .eq v2 c0_i32_6
  let c3_i32_7 : BitVec 32 := 3#32
  let v18 : BitVec 1 := Scalar.cmpi .eq v2 c3_i32_7
  let v19 : BitVec 1 := Scalar.ori v17 v18
  let c0_i32_8 : BitVec 32 := 0#32
  let c256_i32 : BitVec 32 := 256#32
  let v20 : BitVec 32 := Scalar.select v19 c0_i32_8 c256_i32
  let c1_i32_9 : BitVec 32 := 1#32
  let v21 : BitVec 1 := Scalar.cmpi .sle v2 c1_i32_9
  let c0_i32_10 : BitVec 32 := 0#32
  let c128_i32 : BitVec 32 := 128#32
  let v22 : BitVec 32 := Scalar.select v21 c0_i32_10 c128_i32
  let v34 : BitVec 32 := Scalar.addi v20 v22
  let v165 : Index := Scalar.indexCast v34
  let c0_118 : Index := 0#32
  ![0, v165.toNat, 0]
def k0_off19 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v17 : BitVec 1 := Scalar.cmpi .eq v2 c0_i32_6
  let c3_i32_7 : BitVec 32 := 3#32
  let v18 : BitVec 1 := Scalar.cmpi .eq v2 c3_i32_7
  let v19 : BitVec 1 := Scalar.ori v17 v18
  let c0_i32_8 : BitVec 32 := 0#32
  let c256_i32 : BitVec 32 := 256#32
  let v20 : BitVec 32 := Scalar.select v19 c0_i32_8 c256_i32
  let c1_i32_9 : BitVec 32 := 1#32
  let v21 : BitVec 1 := Scalar.cmpi .sle v2 c1_i32_9
  let c0_i32_10 : BitVec 32 := 0#32
  let c128_i32 : BitVec 32 := 128#32
  let v22 : BitVec 32 := Scalar.select v21 c0_i32_10 c128_i32
  let v34 : BitVec 32 := Scalar.addi v20 v22
  let v169 : Index := Scalar.indexCast v34
  let c0_119 : Index := 0#32
  ![v169.toNat, 0]
def k0_off20 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_14 : BitVec 32 := 0#32
  let v25 : BitVec 1 := Scalar.cmpi .eq v2 c0_i32_14
  let c2_i32_15 : BitVec 32 := 2#32
  let v26 : BitVec 1 := Scalar.cmpi .eq v2 c2_i32_15
  let v27 : BitVec 1 := Scalar.ori v25 v26
  let c0_i32_16 : BitVec 32 := 0#32
  let c128_i32_17 : BitVec 32 := 128#32
  let v28 : BitVec 32 := Scalar.select v27 c0_i32_16 c128_i32_17
  let v183 : Index := Scalar.indexCast v28
  let c0_129 : Index := 0#32
  ![v183.toNat, 0]
def k0_off21 (d0 : Dev nD) : Fin 3 → Nat :=
  let c0_130 : Index := 0#32
  let c512_i32 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_11 : BitVec 32 := 1#32
  let v23 : BitVec 1 := Scalar.cmpi .sle v2 c1_i32_11
  let c0_i32_12 : BitVec 32 := 0#32
  let c256_i32_13 : BitVec 32 := 256#32
  let v24 : BitVec 32 := Scalar.select v23 c0_i32_12 c256_i32_13
  let v35 : BitVec 32 := Scalar.addi c512_i32 v24
  let c0_i32_14 : BitVec 32 := 0#32
  let v25 : BitVec 1 := Scalar.cmpi .eq v2 c0_i32_14
  let c2_i32_15 : BitVec 32 := 2#32
  let v26 : BitVec 1 := Scalar.cmpi .eq v2 c2_i32_15
  let v27 : BitVec 1 := Scalar.ori v25 v26
  let c0_i32_16 : BitVec 32 := 0#32
  let c128_i32_17 : BitVec 32 := 128#32
  let v28 : BitVec 32 := Scalar.select v27 c0_i32_16 c128_i32_17
  let v36 : BitVec 32 := Scalar.addi v35 v28
  let v185 : Index := Scalar.indexCast v36
  let c0_131 : Index := 0#32
  ![0, v185.toNat, 0]
def k0_off22 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_11 : BitVec 32 := 1#32
  let v23 : BitVec 1 := Scalar.cmpi .sle v2 c1_i32_11
  let c0_i32_12 : BitVec 32 := 0#32
  let c256_i32_13 : BitVec 32 := 256#32
  let v24 : BitVec 32 := Scalar.select v23 c0_i32_12 c256_i32_13
  let v35 : BitVec 32 := Scalar.addi c512_i32 v24
  let c0_i32_14 : BitVec 32 := 0#32
  let v25 : BitVec 1 := Scalar.cmpi .eq v2 c0_i32_14
  let c2_i32_15 : BitVec 32 := 2#32
  let v26 : BitVec 1 := Scalar.cmpi .eq v2 c2_i32_15
  let v27 : BitVec 1 := Scalar.ori v25 v26
  let c0_i32_16 : BitVec 32 := 0#32
  let c128_i32_17 : BitVec 32 := 128#32
  let v28 : BitVec 32 := Scalar.select v27 c0_i32_16 c128_i32_17
  let v36 : BitVec 32 := Scalar.addi v35 v28
  let v189 : Index := Scalar.indexCast v36
  let c0_132 : Index := 0#32
  ![v189.toNat, 0]
def k0_off23 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v17 : BitVec 1 := Scalar.cmpi .eq v2 c0_i32_6
  let c3_i32_7 : BitVec 32 := 3#32
  let v18 : BitVec 1 := Scalar.cmpi .eq v2 c3_i32_7
  let v19 : BitVec 1 := Scalar.ori v17 v18
  let c0_i32_8 : BitVec 32 := 0#32
  let c256_i32 : BitVec 32 := 256#32
  let v20 : BitVec 32 := Scalar.select v19 c0_i32_8 c256_i32
  let c1_i32_9 : BitVec 32 := 1#32
  let v21 : BitVec 1 := Scalar.cmpi .sle v2 c1_i32_9
  let c0_i32_10 : BitVec 32 := 0#32
  let c128_i32 : BitVec 32 := 128#32
  let v22 : BitVec 32 := Scalar.select v21 c0_i32_10 c128_i32
  let v34 : BitVec 32 := Scalar.addi v20 v22
  let v220 : Index := Scalar.indexCast v34
  let c0_150 : Index := 0#32
  ![v220.toNat, 0]
def k0_off24 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v17 : BitVec 1 := Scalar.cmpi .eq v2 c0_i32_6
  let c3_i32_7 : BitVec 32 := 3#32
  let v18 : BitVec 1 := Scalar.cmpi .eq v2 c3_i32_7
  let v19 : BitVec 1 := Scalar.ori v17 v18
  let c0_i32_8 : BitVec 32 := 0#32
  let c256_i32 : BitVec 32 := 256#32
  let v20 : BitVec 32 := Scalar.select v19 c0_i32_8 c256_i32
  let c1_i32_9 : BitVec 32 := 1#32
  let v21 : BitVec 1 := Scalar.cmpi .sle v2 c1_i32_9
  let c0_i32_10 : BitVec 32 := 0#32
  let c128_i32 : BitVec 32 := 128#32
  let v22 : BitVec 32 := Scalar.select v21 c0_i32_10 c128_i32
  let v34 : BitVec 32 := Scalar.addi v20 v22
  let c0_i32_154 : BitVec 32 := 0#32
  ![v34.toNat, 0]
def k0_dev11 (d0 : Dev nD) : Nat :=
  let c0_i32_153 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v16 : BitVec 32 := Scalar.subi c3_i32 v2
  let c1_i32_152 : BitVec 32 := 1#32
  let v222 : BitVec 32 := Scalar.muli v16 c1_i32_152
  let v223 : BitVec 32 := Scalar.addi c0_i32_153 v222
  v223.toNat
def k0_off25 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_11 : BitVec 32 := 1#32
  let v23 : BitVec 1 := Scalar.cmpi .sle v2 c1_i32_11
  let c0_i32_12 : BitVec 32 := 0#32
  let c256_i32_13 : BitVec 32 := 256#32
  let v24 : BitVec 32 := Scalar.select v23 c0_i32_12 c256_i32_13
  let v35 : BitVec 32 := Scalar.addi c512_i32 v24
  let c0_i32_14 : BitVec 32 := 0#32
  let v25 : BitVec 1 := Scalar.cmpi .eq v2 c0_i32_14
  let c2_i32_15 : BitVec 32 := 2#32
  let v26 : BitVec 1 := Scalar.cmpi .eq v2 c2_i32_15
  let v27 : BitVec 1 := Scalar.ori v25 v26
  let c0_i32_16 : BitVec 32 := 0#32
  let c128_i32_17 : BitVec 32 := 128#32
  let v28 : BitVec 32 := Scalar.select v27 c0_i32_16 c128_i32_17
  let v36 : BitVec 32 := Scalar.addi v35 v28
  let v254 : Index := Scalar.indexCast v36
  let c0_172 : Index := 0#32
  ![v254.toNat, 0]
def k0_off26 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_11 : BitVec 32 := 1#32
  let v23 : BitVec 1 := Scalar.cmpi .sle v2 c1_i32_11
  let c0_i32_12 : BitVec 32 := 0#32
  let c256_i32_13 : BitVec 32 := 256#32
  let v24 : BitVec 32 := Scalar.select v23 c0_i32_12 c256_i32_13
  let v35 : BitVec 32 := Scalar.addi c512_i32 v24
  let c0_i32_14 : BitVec 32 := 0#32
  let v25 : BitVec 1 := Scalar.cmpi .eq v2 c0_i32_14
  let c2_i32_15 : BitVec 32 := 2#32
  let v26 : BitVec 1 := Scalar.cmpi .eq v2 c2_i32_15
  let v27 : BitVec 1 := Scalar.ori v25 v26
  let c0_i32_16 : BitVec 32 := 0#32
  let c128_i32_17 : BitVec 32 := 128#32
  let v28 : BitVec 32 := Scalar.select v27 c0_i32_16 c128_i32_17
  let v36 : BitVec 32 := Scalar.addi v35 v28
  let c0_i32_176 : BitVec 32 := 0#32
  ![v36.toNat, 0]
def k0_dev12 (d0 : Dev nD) : Nat :=
  let c0_i32_175 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c2_i32_5 : BitVec 32 := 2#32
  let c2_i32 : BitVec 32 := 2#32
  let c0_i32 : BitVec 32 := 0#32
  let v4 : BitVec 1 := Scalar.cmpi .eq c2_i32 c0_i32
  let c1_i32_1 : BitVec 32 := 1#32
  let v5 : BitVec 32 := Scalar.select v4 c1_i32_1 c2_i32
  let v6 : BitVec 32 := Scalar.remsi v2 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let v14 : BitVec 32 := Scalar.muli c2_i32_5 v13
  let v15 : BitVec 32 := Scalar.subi v3 v14
  let c1_i32_174 : BitVec 32 := 1#32
  let v256 : BitVec 32 := Scalar.muli v15 c1_i32_174
  let v257 : BitVec 32 := Scalar.addi c0_i32_175 v256
  v257.toNat
def k0_off27 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v17 : BitVec 1 := Scalar.cmpi .eq v2 c0_i32_6
  let c3_i32_7 : BitVec 32 := 3#32
  let v18 : BitVec 1 := Scalar.cmpi .eq v2 c3_i32_7
  let v19 : BitVec 1 := Scalar.ori v17 v18
  let c0_i32_8 : BitVec 32 := 0#32
  let c256_i32 : BitVec 32 := 256#32
  let v20 : BitVec 32 := Scalar.select v19 c0_i32_8 c256_i32
  let c1_i32_9 : BitVec 32 := 1#32
  let v21 : BitVec 1 := Scalar.cmpi .sle v2 c1_i32_9
  let c0_i32_10 : BitVec 32 := 0#32
  let c128_i32 : BitVec 32 := 128#32
  let v22 : BitVec 32 := Scalar.select v21 c0_i32_10 c128_i32
  let v34 : BitVec 32 := Scalar.addi v20 v22
  let c64_i32_185 : BitVec 32 := 64#32
  let v270 : BitVec 32 := Scalar.addi v34 c64_i32_185
  let v289 : Index := Scalar.indexCast v270
  let c0_194 : Index := 0#32
  ![v289.toNat, 0]
def k0_off28 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v17 : BitVec 1 := Scalar.cmpi .eq v2 c0_i32_6
  let c3_i32_7 : BitVec 32 := 3#32
  let v18 : BitVec 1 := Scalar.cmpi .eq v2 c3_i32_7
  let v19 : BitVec 1 := Scalar.ori v17 v18
  let c0_i32_8 : BitVec 32 := 0#32
  let c256_i32 : BitVec 32 := 256#32
  let v20 : BitVec 32 := Scalar.select v19 c0_i32_8 c256_i32
  let c1_i32_9 : BitVec 32 := 1#32
  let v21 : BitVec 1 := Scalar.cmpi .sle v2 c1_i32_9
  let c0_i32_10 : BitVec 32 := 0#32
  let c128_i32 : BitVec 32 := 128#32
  let v22 : BitVec 32 := Scalar.select v21 c0_i32_10 c128_i32
  let v34 : BitVec 32 := Scalar.addi v20 v22
  let c64_i32_196 : BitVec 32 := 64#32
  let v292 : BitVec 32 := Scalar.addi v34 c64_i32_196
  let c0_i32_200 : BitVec 32 := 0#32
  ![v292.toNat, 0]
def k0_dev13 (d0 : Dev nD) : Nat :=
  let c0_i32_199 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v16 : BitVec 32 := Scalar.subi c3_i32 v2
  let c1_i32_198 : BitVec 32 := 1#32
  let v293 : BitVec 32 := Scalar.muli v16 c1_i32_198
  let v294 : BitVec 32 := Scalar.addi c0_i32_199 v293
  v294.toNat
def k0_off29 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_11 : BitVec 32 := 1#32
  let v23 : BitVec 1 := Scalar.cmpi .sle v2 c1_i32_11
  let c0_i32_12 : BitVec 32 := 0#32
  let c256_i32_13 : BitVec 32 := 256#32
  let v24 : BitVec 32 := Scalar.select v23 c0_i32_12 c256_i32_13
  let v35 : BitVec 32 := Scalar.addi c512_i32 v24
  let c0_i32_14 : BitVec 32 := 0#32
  let v25 : BitVec 1 := Scalar.cmpi .eq v2 c0_i32_14
  let c2_i32_15 : BitVec 32 := 2#32
  let v26 : BitVec 1 := Scalar.cmpi .eq v2 c2_i32_15
  let v27 : BitVec 1 := Scalar.ori v25 v26
  let c0_i32_16 : BitVec 32 := 0#32
  let c128_i32_17 : BitVec 32 := 128#32
  let v28 : BitVec 32 := Scalar.select v27 c0_i32_16 c128_i32_17
  let v36 : BitVec 32 := Scalar.addi v35 v28
  let c64_i32_209 : BitVec 32 := 64#32
  let v307 : BitVec 32 := Scalar.addi v36 c64_i32_209
  let v326 : Index := Scalar.indexCast v307
  let c0_219 : Index := 0#32
  ![v326.toNat, 0]
def k0_off30 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_11 : BitVec 32 := 1#32
  let v23 : BitVec 1 := Scalar.cmpi .sle v2 c1_i32_11
  let c0_i32_12 : BitVec 32 := 0#32
  let c256_i32_13 : BitVec 32 := 256#32
  let v24 : BitVec 32 := Scalar.select v23 c0_i32_12 c256_i32_13
  let v35 : BitVec 32 := Scalar.addi c512_i32 v24
  let c0_i32_14 : BitVec 32 := 0#32
  let v25 : BitVec 1 := Scalar.cmpi .eq v2 c0_i32_14
  let c2_i32_15 : BitVec 32 := 2#32
  let v26 : BitVec 1 := Scalar.cmpi .eq v2 c2_i32_15
  let v27 : BitVec 1 := Scalar.ori v25 v26
  let c0_i32_16 : BitVec 32 := 0#32
  let c128_i32_17 : BitVec 32 := 128#32
  let v28 : BitVec 32 := Scalar.select v27 c0_i32_16 c128_i32_17
  let v36 : BitVec 32 := Scalar.addi v35 v28
  let c64_i32_221 : BitVec 32 := 64#32
  let v329 : BitVec 32 := Scalar.addi v36 c64_i32_221
  let c0_i32_225 : BitVec 32 := 0#32
  ![v329.toNat, 0]
def k0_dev14 (d0 : Dev nD) : Nat :=
  let c0_i32_224 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c2_i32_5 : BitVec 32 := 2#32
  let c2_i32 : BitVec 32 := 2#32
  let c0_i32 : BitVec 32 := 0#32
  let v4 : BitVec 1 := Scalar.cmpi .eq c2_i32 c0_i32
  let c1_i32_1 : BitVec 32 := 1#32
  let v5 : BitVec 32 := Scalar.select v4 c1_i32_1 c2_i32
  let v6 : BitVec 32 := Scalar.remsi v2 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let v14 : BitVec 32 := Scalar.muli c2_i32_5 v13
  let v15 : BitVec 32 := Scalar.subi v3 v14
  let c1_i32_223 : BitVec 32 := 1#32
  let v330 : BitVec 32 := Scalar.muli v15 c1_i32_223
  let v331 : BitVec 32 := Scalar.addi c0_i32_224 v330
  v331.toNat
def k0_off31 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v17 : BitVec 1 := Scalar.cmpi .eq v2 c0_i32_6
  let c3_i32_7 : BitVec 32 := 3#32
  let v18 : BitVec 1 := Scalar.cmpi .eq v2 c3_i32_7
  let v19 : BitVec 1 := Scalar.ori v17 v18
  let c0_i32_8 : BitVec 32 := 0#32
  let c256_i32 : BitVec 32 := 256#32
  let v20 : BitVec 32 := Scalar.select v19 c0_i32_8 c256_i32
  let c1_i32_9 : BitVec 32 := 1#32
  let v21 : BitVec 1 := Scalar.cmpi .sle v2 c1_i32_9
  let c0_i32_10 : BitVec 32 := 0#32
  let c128_i32 : BitVec 32 := 128#32
  let v22 : BitVec 32 := Scalar.select v21 c0_i32_10 c128_i32
  let v34 : BitVec 32 := Scalar.addi v20 v22
  let c0_i32_230 : BitVec 32 := 0#32
  ![v34.toNat, 0]
def k0_dev15 (d0 : Dev nD) : Nat :=
  let c0_i32_229 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c2_i32_5 : BitVec 32 := 2#32
  let c2_i32 : BitVec 32 := 2#32
  let c0_i32 : BitVec 32 := 0#32
  let v4 : BitVec 1 := Scalar.cmpi .eq c2_i32 c0_i32
  let c1_i32_1 : BitVec 32 := 1#32
  let v5 : BitVec 32 := Scalar.select v4 c1_i32_1 c2_i32
  let v6 : BitVec 32 := Scalar.remsi v2 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let v14 : BitVec 32 := Scalar.muli c2_i32_5 v13
  let v15 : BitVec 32 := Scalar.subi v3 v14
  let c1_i32_228 : BitVec 32 := 1#32
  let v338 : BitVec 32 := Scalar.muli v15 c1_i32_228
  let v339 : BitVec 32 := Scalar.addi c0_i32_229 v338
  v339.toNat
def k0_off32 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_11 : BitVec 32 := 1#32
  let v23 : BitVec 1 := Scalar.cmpi .sle v2 c1_i32_11
  let c0_i32_12 : BitVec 32 := 0#32
  let c256_i32_13 : BitVec 32 := 256#32
  let v24 : BitVec 32 := Scalar.select v23 c0_i32_12 c256_i32_13
  let v35 : BitVec 32 := Scalar.addi c512_i32 v24
  let c0_i32_14 : BitVec 32 := 0#32
  let v25 : BitVec 1 := Scalar.cmpi .eq v2 c0_i32_14
  let c2_i32_15 : BitVec 32 := 2#32
  let v26 : BitVec 1 := Scalar.cmpi .eq v2 c2_i32_15
  let v27 : BitVec 1 := Scalar.ori v25 v26
  let c0_i32_16 : BitVec 32 := 0#32
  let c128_i32_17 : BitVec 32 := 128#32
  let v28 : BitVec 32 := Scalar.select v27 c0_i32_16 c128_i32_17
  let v36 : BitVec 32 := Scalar.addi v35 v28
  let c0_i32_235 : BitVec 32 := 0#32
  ![v36.toNat, 0]
def k0_dev16 (d0 : Dev nD) : Nat :=
  let c0_i32_234 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v16 : BitVec 32 := Scalar.subi c3_i32 v2
  let c1_i32_233 : BitVec 32 := 1#32
  let v346 : BitVec 32 := Scalar.muli v16 c1_i32_233
  let v347 : BitVec 32 := Scalar.addi c0_i32_234 v346
  v347.toNat
def k0_off33 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v17 : BitVec 1 := Scalar.cmpi .eq v2 c0_i32_6
  let c3_i32_7 : BitVec 32 := 3#32
  let v18 : BitVec 1 := Scalar.cmpi .eq v2 c3_i32_7
  let v19 : BitVec 1 := Scalar.ori v17 v18
  let c0_i32_8 : BitVec 32 := 0#32
  let c256_i32 : BitVec 32 := 256#32
  let v20 : BitVec 32 := Scalar.select v19 c0_i32_8 c256_i32
  let c128_i32_25 : BitVec 32 := 128#32
  let c1_i32_9 : BitVec 32 := 1#32
  let v21 : BitVec 1 := Scalar.cmpi .sle v2 c1_i32_9
  let c0_i32_10 : BitVec 32 := 0#32
  let c128_i32 : BitVec 32 := 128#32
  let v22 : BitVec 32 := Scalar.select v21 c0_i32_10 c128_i32
  let v37 : BitVec 32 := Scalar.subi c128_i32_25 v22
  let v367 : BitVec 32 := Scalar.addi v20 v37
  let c0_i32_252 : BitVec 32 := 0#32
  ![v367.toNat, 0]
def k0_dev17 (d0 : Dev nD) : Nat :=
  let c0_i32_251 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c2_i32_5 : BitVec 32 := 2#32
  let c2_i32 : BitVec 32 := 2#32
  let c0_i32 : BitVec 32 := 0#32
  let v4 : BitVec 1 := Scalar.cmpi .eq c2_i32 c0_i32
  let c1_i32_1 : BitVec 32 := 1#32
  let v5 : BitVec 32 := Scalar.select v4 c1_i32_1 c2_i32
  let v6 : BitVec 32 := Scalar.remsi v2 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let v14 : BitVec 32 := Scalar.muli c2_i32_5 v13
  let v15 : BitVec 32 := Scalar.subi v3 v14
  let c1_i32_250 : BitVec 32 := 1#32
  let v368 : BitVec 32 := Scalar.muli v15 c1_i32_250
  let v369 : BitVec 32 := Scalar.addi c0_i32_251 v368
  v369.toNat
def k0_off34 (d0 : Dev nD) : Fin 2 → Nat :=
  let c512_i32_267 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_11 : BitVec 32 := 1#32
  let v23 : BitVec 1 := Scalar.cmpi .sle v2 c1_i32_11
  let c0_i32_12 : BitVec 32 := 0#32
  let c256_i32_13 : BitVec 32 := 256#32
  let v24 : BitVec 32 := Scalar.select v23 c0_i32_12 c256_i32_13
  let v390 : BitVec 32 := Scalar.addi c512_i32_267 v24
  let c128_i32_26 : BitVec 32 := 128#32
  let c0_i32_14 : BitVec 32 := 0#32
  let v25 : BitVec 1 := Scalar.cmpi .eq v2 c0_i32_14
  let c2_i32_15 : BitVec 32 := 2#32
  let v26 : BitVec 1 := Scalar.cmpi .eq v2 c2_i32_15
  let v27 : BitVec 1 := Scalar.ori v25 v26
  let c0_i32_16 : BitVec 32 := 0#32
  let c128_i32_17 : BitVec 32 := 128#32
  let v28 : BitVec 32 := Scalar.select v27 c0_i32_16 c128_i32_17
  let v38 : BitVec 32 := Scalar.subi c128_i32_26 v28
  let v391 : BitVec 32 := Scalar.addi v390 v38
  let c0_i32_271 : BitVec 32 := 0#32
  ![v391.toNat, 0]
def k0_dev18 (d0 : Dev nD) : Nat :=
  let c0_i32_270 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v16 : BitVec 32 := Scalar.subi c3_i32 v2
  let c1_i32_269 : BitVec 32 := 1#32
  let v392 : BitVec 32 := Scalar.muli v16 c1_i32_269
  let v393 : BitVec 32 := Scalar.addi c0_i32_270 v392
  v393.toNat
abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4x1024x1024 : Shape := ⟨3, ![4, 1024, 1024]⟩
abbrev S1024x1024 : Shape := ⟨2, ![1024, 1024]⟩
abbrev S1024 : Shape := ⟨1, ![1024]⟩
abbrev S_ : Shape := ⟨0, ![]⟩
abbrev S1024x1 : Shape := ⟨2, ![1024, 1]⟩
abbrev S1x1024 : Shape := ⟨2, ![1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S1024x1024, .f32⟩
  | .hbm, ⟨2, _⟩ => ⟨S1024, .f32⟩
  | .hbm, ⟨3, _⟩ => ⟨S_, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S_, .f32⟩
  | .hbm, ⟨14, _⟩ => ⟨S1024x1, .f32⟩
  | .hbm, ⟨15, _⟩ => ⟨S1024x1, .f32⟩
  | .hbm, ⟨16, _⟩ => ⟨S1024x1, .f32⟩
  | .hbm, ⟨17, _⟩ => ⟨S1024x1024, .f32⟩
  | .hbm, ⟨18, _⟩ => ⟨S1024x1024, .f32⟩
  | .hbm, ⟨19, _⟩ => ⟨S1x1024, .f32⟩
  | .hbm, ⟨20, _⟩ => ⟨S1024x1024, .f32⟩
  | .hbm, ⟨21, _⟩ => ⟨S1024x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.Proto.lean ====
module

public import proofs.«01_k».proof.Proof.Gen.KernelIdeal
public import proofs.«01_k».proof.Proof.Gen.KernelIdeal.Skeleton
public import Idealize.ShloMosaic.Lib.StableHlo
public import Idealize.ShloMosaic.PureOps

/-! # The kernel's four devices: partners, row bands, addresses

Four devices sit in a ring `0 1 2 3`. In each of the two halves of the rows (0–511 and 512–1023) a device trades a
quarter of the matrix with a first partner, an eighth with a second partner, and gathers the finished rows back over
the same two partners in the other order. The lower half uses the partner `q1` first, the upper half `q2` first.
Every row offset of the program is a function of the device number alone, and is given here in closed form. -/

@[expose] public section

noncomputable section

namespace Proto

open Cert.KernelIdeal Cert.KernelIdeal.Gen
open Idealize.ShloMosaic Idealize.ShloMosaic.TcCoe

/-- The partner across the pairs 0–1 and 2–3. -/
def q1 (c : Dev nD) : Dev nD := ![1, 0, 3, 2] c
/-- The partner across the pairs 0–3 and 1–2. -/
def q2 (c : Dev nD) : Dev nD := ![3, 2, 1, 0] c

/-- Lower half: the first row of the quarter a device keeps after the first exchange. -/
def a1 (c : Dev nD) : ℕ := ![0, 256, 256, 0] c
/-- Upper half: the same, relative to row 512. -/
def a2 (c : Dev nD) : ℕ := ![0, 0, 256, 256] c
/-- Lower half: where the kept eighth starts within the kept quarter. -/
def c1 (c : Dev nD) : ℕ := ![0, 0, 128, 128] c
/-- Upper half: the same. -/
def c2 (c : Dev nD) : ℕ := ![0, 128, 0, 128] c
/-- Lower half: where the forwarded eighth starts within the kept quarter. -/
def f1 (c : Dev nD) : ℕ := ![128, 128, 0, 0] c
/-- Upper half: the same. -/
def f2 (c : Dev nD) : ℕ := ![128, 0, 128, 0] c
/-- Lower half: the first row a device finishes. -/
def o1 (c : Dev nD) : ℕ := ![0, 256, 384, 128] c
/-- Upper half: the first row a device finishes. -/
def o2 (c : Dev nD) : ℕ := ![512, 640, 768, 896] c
/-- Lower half: the first row of the forwarded eighth, which the partner `q2` finishes. -/
def g1 (c : Dev nD) : ℕ := ![128, 384, 256, 0] c
/-- Upper half: the first row of the forwarded eighth, which the partner `q1` finishes. -/
def g2 (c : Dev nD) : ℕ := ![640, 512, 896, 768] c

/-- `q1` is its own inverse. -/
theorem q1_q1 (c : Dev nD) : q1 (q1 c) = c := by revert c; decide +kernel
/-- `q2` is its own inverse. -/
theorem q2_q2 (c : Dev nD) : q2 (q2 c) = c := by revert c; decide +kernel
/-- Distinct devices have distinct partners `q1`. -/
theorem q1_inj (c : Dev nD) : ∀ d, q1 c = q1 d ↔ c = d := by revert c; decide +kernel
/-- Distinct devices have distinct partners `q2`. -/
theorem q2_inj (c : Dev nD) : ∀ d, q2 c = q2 d ↔ c = d := by revert c; decide +kernel

/-- Target 1 of the program is the partner `q1`. -/
theorem dev1_eq (c : Dev nD) : (⟨k0_dev1 c, k0_dev1_lt c⟩ : Dev nD) = q1 c := by revert c; decide +kernel
/-- Target 3 of the program is the partner `q1`. -/
theorem dev3_eq (c : Dev nD) : (⟨k0_dev3 c, k0_dev3_lt c⟩ : Dev nD) = q1 c := by revert c; decide +kernel
/-- Target 4 of the program is the partner `q1`. -/
theorem dev4_eq (c : Dev nD) : (⟨k0_dev4 c, k0_dev4_lt c⟩ : Dev nD) = q1 c := by revert c; decide +kernel
/-- Target 9 of the program is the partner `q1`. -/
theorem dev9_eq (c : Dev nD) : (⟨k0_dev9 c, k0_dev9_lt c⟩ : Dev nD) = q1 c := by revert c; decide +kernel
/-- Target 10 of the program is the partner `q1`. -/
theorem dev10_eq (c : Dev nD) : (⟨k0_dev10 c, k0_dev10_lt c⟩ : Dev nD) = q1 c := by revert c; decide +kernel
/-- Target 12 of the program is the partner `q1`. -/
theorem dev12_eq (c : Dev nD) : (⟨k0_dev12 c, k0_dev12_lt c⟩ : Dev nD) = q1 c := by revert c; decide +kernel
/-- Target 14 of the program is the partner `q1`. -/
theorem dev14_eq (c : Dev nD) : (⟨k0_dev14 c, k0_dev14_lt c⟩ : Dev nD) = q1 c := by revert c; decide +kernel
/-- Target 15 of the program is the partner `q1`. -/
theorem dev15_eq (c : Dev nD) : (⟨k0_dev15 c, k0_dev15_lt c⟩ : Dev nD) = q1 c := by revert c; decide +kernel
/-- Target 17 of the program is the partner `q1`. -/
theorem dev17_eq (c : Dev nD) : (⟨k0_dev17 c, k0_dev17_lt c⟩ : Dev nD) = q1 c := by revert c; decide +kernel
/-- Target 2 of the program is the partner `q2`. -/
theorem dev2_eq (c : Dev nD) : (⟨k0_dev2 c, k0_dev2_lt c⟩ : Dev nD) = q2 c := by revert c; decide +kernel
/-- Target 5 of the program is the partner `q2`. -/
theorem dev5_eq (c : Dev nD) : (⟨k0_dev5 c, k0_dev5_lt c⟩ : Dev nD) = q2 c := by revert c; decide +kernel
/-- Target 6 of the program is the partner `q2`. -/
theorem dev6_eq (c : Dev nD) : (⟨k0_dev6 c, k0_dev6_lt c⟩ : Dev nD) = q2 c := by revert c; decide +kernel
/-- Target 7 of the program is the partner `q2`. -/
theorem dev7_eq (c : Dev nD) : (⟨k0_dev7 c, k0_dev7_lt c⟩ : Dev nD) = q2 c := by revert c; decide +kernel
/-- Target 8 of the program is the partner `q2`. -/
theorem dev8_eq (c : Dev nD) : (⟨k0_dev8 c, k0_dev8_lt c⟩ : Dev nD) = q2 c := by revert c; decide +kernel
/-- Target 11 of the program is the partner `q2`. -/
theorem dev11_eq (c : Dev nD) : (⟨k0_dev11 c, k0_dev11_lt c⟩ : Dev nD) = q2 c := by revert c; decide +kernel
/-- Target 13 of the program is the partner `q2`. -/
theorem dev13_eq (c : Dev nD) : (⟨k0_dev13 c, k0_dev13_lt c⟩ : Dev nD) = q2 c := by revert c; decide +kernel
/-- Target 16 of the program is the partner `q2`. -/
theorem dev16_eq (c : Dev nD) : (⟨k0_dev16 c, k0_dev16_lt c⟩ : Dev nD) = q2 c := by revert c; decide +kernel
/-- Target 18 of the program is the partner `q2`. -/
theorem dev18_eq (c : Dev nD) : (⟨k0_dev18 c, k0_dev18_lt c⟩ : Dev nD) = q2 c := by revert c; decide +kernel
/-- Offset 1 of the program, in closed form. -/
theorem off1_eq (c : Dev nD) : k0_off1 c = ![f1 c, 0] := by revert c; decide +kernel
/-- Offset 2 of the program, in closed form. -/
theorem off2_eq (c : Dev nD) : k0_off2 c = ![0, 384 - o1 c, 0] := by revert c; decide +kernel
/-- Offset 3 of the program, in closed form. -/
theorem off3_eq (c : Dev nD) : k0_off3 c = ![c1 c, 0] := by revert c; decide +kernel
/-- Offset 4 of the program, in closed form. -/
theorem off4_eq (c : Dev nD) : k0_off4 c = ![0, c1 c + 256 - a1 c, 0] := by revert c; decide +kernel
/-- Offset 5 of the program, in closed form. -/
theorem off5_eq (c : Dev nD) : k0_off5 c = ![c2 c, 0] := by revert c; decide +kernel
/-- Offset 6 of the program, in closed form. -/
theorem off6_eq (c : Dev nD) : k0_off6 c = ![0, c2 c + 768 - a2 c, 0] := by revert c; decide +kernel
/-- Offset 7 of the program, in closed form. -/
theorem off7_eq (c : Dev nD) : k0_off7 c = ![f2 c, 0] := by revert c; decide +kernel
/-- Offset 8 of the program, in closed form. -/
theorem off8_eq (c : Dev nD) : k0_off8 c = ![0, 896 - (a2 c + c2 c), 0] := by revert c; decide +kernel
/-- Offset 9 of the program, in closed form. -/
theorem off9_eq (c : Dev nD) : k0_off9 c = ![f1 c, 0] := by revert c; decide +kernel
/-- Offset 10 of the program, in closed form. -/
theorem off10_eq (c : Dev nD) : k0_off10 c = ![0, a1 c + f1 c, 0] := by revert c; decide +kernel
/-- Offset 11 of the program, in closed form. -/
theorem off11_eq (c : Dev nD) : k0_off11 c = ![f1 c, 0] := by revert c; decide +kernel
/-- Offset 12 of the program, in closed form. -/
theorem off12_eq (c : Dev nD) : k0_off12 c = ![f1 c + 64, 0] := by revert c; decide +kernel
/-- Offset 13 of the program, in closed form. -/
theorem off13_eq (c : Dev nD) : k0_off13 c = ![f2 c, 0] := by revert c; decide +kernel
/-- Offset 14 of the program, in closed form. -/
theorem off14_eq (c : Dev nD) : k0_off14 c = ![0, 512 + a2 c + f2 c, 0] := by revert c; decide +kernel
/-- Offset 15 of the program, in closed form. -/
theorem off15_eq (c : Dev nD) : k0_off15 c = ![f2 c, 0] := by revert c; decide +kernel
/-- Offset 16 of the program, in closed form. -/
theorem off16_eq (c : Dev nD) : k0_off16 c = ![f2 c + 64, 0] := by revert c; decide +kernel
/-- Offset 17 of the program, in closed form. -/
theorem off17_eq (c : Dev nD) : k0_off17 c = ![c1 c, 0] := by revert c; decide +kernel
/-- Offset 18 of the program, in closed form. -/
theorem off18_eq (c : Dev nD) : k0_off18 c = ![0, o1 c, 0] := by revert c; decide +kernel
/-- Offset 19 of the program, in closed form. -/
theorem off19_eq (c : Dev nD) : k0_off19 c = ![o1 c, 0] := by revert c; decide +kernel
/-- Offset 20 of the program, in closed form. -/
theorem off20_eq (c : Dev nD) : k0_off20 c = ![c2 c, 0] := by revert c; decide +kernel
/-- Offset 21 of the program, in closed form. -/
theorem off21_eq (c : Dev nD) : k0_off21 c = ![0, o2 c, 0] := by revert c; decide +kernel
/-- Offset 22 of the program, in closed form. -/
theorem off22_eq (c : Dev nD) : k0_off22 c = ![o2 c, 0] := by revert c; decide +kernel
/-- Offset 23 of the program, in closed form. -/
theorem off23_eq (c : Dev nD) : k0_off23 c = ![o1 c, 0] := by revert c; decide +kernel
/-- Offset 24 of the program, in closed form. -/
theorem off24_eq (c : Dev nD) : k0_off24 c = ![o1 c, 0] := by revert c; decide +kernel
/-- Offset 25 of the program, in closed form. -/
theorem off25_eq (c : Dev nD) : k0_off25 c = ![o2 c, 0] := by revert c; decide +kernel
/-- Offset 26 of the program, in closed form. -/
theorem off26_eq (c : Dev nD) : k0_off26 c = ![o2 c, 0] := by revert c; decide +kernel
/-- Offset 27 of the program, in closed form. -/
theorem off27_eq (c : Dev nD) : k0_off27 c = ![o1 c + 64, 0] := by revert c; decide +kernel
/-- Offset 28 of the program, in closed form. -/
theorem off28_eq (c : Dev nD) : k0_off28 c = ![o1 c + 64, 0] := by revert c; decide +kernel
/-- Offset 29 of the program, in closed form. -/
theorem off29_eq (c : Dev nD) : k0_off29 c = ![o2 c + 64, 0] := by revert c; decide +kernel
/-- Offset 30 of the program, in closed form. -/
theorem off30_eq (c : Dev nD) : k0_off30 c = ![o2 c + 64, 0] := by revert c; decide +kernel
/-- Offset 31 of the program, in closed form. -/
theorem off31_eq (c : Dev nD) : k0_off31 c = ![o1 c, 0] := by revert c; decide +kernel
/-- Offset 32 of the program, in closed form. -/
theorem off32_eq (c : Dev nD) : k0_off32 c = ![o2 c, 0] := by revert c; decide +kernel
/-- Offset 33 of the program, in closed form. -/
theorem off33_eq (c : Dev nD) : k0_off33 c = ![g1 c, 0] := by revert c; decide +kernel
/-- Offset 34 of the program, in closed form. -/
theorem off34_eq (c : Dev nD) : k0_off34 c = ![g2 c, 0] := by revert c; decide +kernel

end Proto
-- ==== Proof.Conts.lean ====
module

public import proofs.«01_k».proof.Proof.Proto
public import Idealize.ShloMosaic.Lib.ValueIdx

/-! # What every buffer holds

The launch gives each device three blocks: its addend `x`, its copy of the residual `r`, its copy of the scale `g`.
From them this file spells, for each device, the contents of every buffer the kernel fills: the landing buffers, the
partial sums sent on, the running totals, and the finished matrix, which is the same on every device. -/

@[expose] public section

noncomputable section

namespace Proto

open Cert.KernelIdeal Cert.KernelIdeal.Gen
open Idealize.ShloMosaic Idealize.ShloMosaic.TcCoe Idealize.ShloMosaic.ValueIdx

/-! ## Bands of rows -/

/-- The `n` rows from row `o` of a matrix of `R` rows. -/
def rows (R o n : ℕ) : Finset (⟨2, ![R, 1024]⟩ : Shape).Idx := Finset.univ.filter fun i => o ≤ (i 0).val ∧ (i 0).val < o + n

/-- The `n` rows from row `o` of the addend's block. -/
def rowsX (o n : ℕ) : Finset S1x1024x1024.Idx := Finset.univ.filter fun i => o ≤ (i 1).val ∧ (i 1).val < o + n

/-- Membership in a band of rows. -/
theorem mem_rows {R o n : ℕ} {i : (⟨2, ![R, 1024]⟩ : Shape).Idx} : i ∈ rows R o n ↔ o ≤ (i 0).val ∧ (i 0).val < o + n := by
  unfold rows; rw [Finset.mem_filter]; exact ⟨fun h => h.2, fun h => ⟨Finset.mem_univ _, h⟩⟩

/-- Membership in a band of rows of the addend's block. -/
theorem mem_rowsX {o n : ℕ} {i : S1x1024x1024.Idx} : i ∈ rowsX o n ↔ o ≤ (i 1).val ∧ (i 1).val < o + n := by
  unfold rowsX; rw [Finset.mem_filter]; exact ⟨fun h => h.2, fun h => ⟨Finset.mem_univ _, h⟩⟩

/-- The elements of a full-width unit rectangle are a band of rows. -/
theorem unit_rows {R o n : ℕ} {off : Fin 2 → ℕ} (ho : off = ![o, 0]) (inb) :
    (Rect.unit (s := (⟨2, ![R, 1024]⟩ : Shape)) off (⟨2, ![n, 1024]⟩ : Shape).size inb).set = rows R o n := by
  subst ho
  ext i
  rw [Rect.mem_set_unit, mem_rows]
  refine ⟨fun h => h 0, fun h a => ?_⟩
  match a with
  | ⟨0, _⟩ => exact h
  | ⟨1, _⟩ => exact ⟨Nat.zero_le _, (Nat.zero_add 1024).symm ▸ idx2_lt1 i⟩

/-- The elements of a full-width unit rectangle of the addend's block are a band of rows. -/
theorem unit_rowsX {o n : ℕ} {off : Fin 3 → ℕ} (ho : off = ![0, o, 0]) (inb) :
    (Rect.unit (s := S1x1024x1024) off (⟨3, ![1, n, 1024]⟩ : Shape).size inb).set = rowsX o n := by
  subst ho
  ext i
  rw [Rect.mem_set_unit, mem_rowsX]
  refine ⟨fun h => h 1, fun h a => ?_⟩
  match a with
  | ⟨0, _⟩ => exact ⟨Nat.zero_le _, (Nat.zero_add 1).symm ▸ (i 0).isLt⟩
  | ⟨1, _⟩ => exact h
  | ⟨2, _⟩ => exact ⟨Nat.zero_le _, (Nat.zero_add 1024).symm ▸ (i 2).isLt⟩

section Cut
variable {α : Type}

/-- The `n` rows from row `o` of a matrix, as a matrix. -/
def cut {R : ℕ} [NeZero R] (n o : ℕ) (X : (⟨2, ![R, 1024]⟩ : Shape).Idx → α) : (⟨2, ![n, 1024]⟩ : Shape).Idx → α :=
  fun x => X (ix2 (Fin.ofNat R (o + (x 0).val)) (x 1))

/-- The `n` rows from row `o` of the addend's block, as a matrix. -/
def cutX (n o : ℕ) (X : S1x1024x1024.Idx → α) : (⟨2, ![n, 1024]⟩ : Shape).Idx → α :=
  fun x => X (ix3 (0 : Fin 1) (Fin.ofNat 1024 (o + (x 0).val)) (x 1))

/-- The `n` rows from row `o` of the addend's block, as a block with one leading index. -/
def cutB (n o : ℕ) (X : S1x1024x1024.Idx → α) : (⟨3, ![1, n, 1024]⟩ : Shape).Idx → α :=
  fun x => X (ix3 (0 : Fin 1) (Fin.ofNat 1024 (o + (x 1).val)) (x 2))

/-- A matrix of `R` rows repeating the `n` rows of `V`. -/
def tile {R : ℕ} (n : ℕ) [NeZero n] (V : (⟨2, ![n, 1024]⟩ : Shape).Idx → α) : (⟨2, ![R, 1024]⟩ : Shape).Idx → α :=
  fun i => V (ix2 (Fin.ofNat n (i 0).val) (i 1))

/-- Reading under a full-width unit rectangle is taking its rows. -/
theorem emb_cut {R o n : ℕ} [NeZero R] {off : Fin 2 → ℕ} (ho : off = ![o, 0]) (inb) (X : (⟨2, ![R, 1024]⟩ : Shape).Idx → α) (x) :
    X ((Rect.unit (s := (⟨2, ![R, 1024]⟩ : Shape)) off (⟨2, ![n, 1024]⟩ : Shape).size inb).emb x) = cut n o X x := by
  subst ho
  unfold cut
  congr 1
  funext a
  have h0 : o + n ≤ R := inb 0
  have hx : (x 0).val < n := (x 0).isLt
  match a with
  | ⟨0, _⟩ =>
    apply Fin.ext
    show o + 1 * (x 0).val = (o + (x 0).val) % R
    rw [Nat.mod_eq_of_lt (by omega), Nat.one_mul]
  | ⟨1, _⟩ =>
    apply Fin.ext
    show 0 + 1 * (x 1).val = (x 1).val
    omega

/-- Reading under a full-width unit rectangle of the addend's block is taking its rows. -/
theorem emb_cutB {o n : ℕ} {off : Fin 3 → ℕ} (ho : off = ![0, o, 0]) (inb) (X : S1x1024x1024.Idx → α) (x) :
    X ((Rect.unit (s := S1x1024x1024) off (⟨3, ![1, n, 1024]⟩ : Shape).size inb).emb x) = cutB n o X x := by
  subst ho
  unfold cutB
  congr 1
  funext a
  have h0 : o + n ≤ 1024 := inb 1
  have hx : (x 1).val < n := (x 1).isLt
  match a with
  | ⟨0, _⟩ =>
    apply Fin.ext
    have : (x 0).val < 1 := (x 0).isLt
    show 0 + 1 * (x 0).val = 0
    omega
  | ⟨1, _⟩ =>
    apply Fin.ext
    show o + 1 * (x 1).val = (o + (x 1).val) % 1024
    rw [Nat.mod_eq_of_lt (by omega), Nat.one_mul]
  | ⟨2, _⟩ =>
    apply Fin.ext
    show 0 + 1 * (x 2).val = (x 2).val
    omega

/-- Reading under such a rectangle with its leading index dropped is taking the rows as a matrix. -/
theorem emb_cutX {o n : ℕ} {off : Fin 3 → ℕ} (ho : off = ![0, o, 0]) (inb) (X : S1x1024x1024.Idx → α)
    (h : (⟨2, ![n, 1024]⟩ : Shape).numel = (⟨3, ![1, n, 1024]⟩ : Shape).numel) (x) :
    X ((Rect.unit (s := S1x1024x1024) off (⟨3, ![1, n, 1024]⟩ : Shape).size inb).emb (Shape.reshapeEquiv h x)) = cutX n o X x := by
  rw [emb_cutB ho inb X, Shape.reshapeEquiv_cons_one (d := ![n, 1024]) h x]
  rfl

end Cut

/-! ## The launch's blocks and everything computed from them -/

/-- What the launch gives each device: its addend, its residual, its scale. -/
structure Given (F : FTy → Type) where
  /-- Each device's addend. -/
  x : Dev nD → Vec F S1x1024x1024 .f32
  /-- Each device's residual. -/
  r : Dev nD → Vec F S1024x1024 .f32
  /-- Each device's scale. -/
  g : Dev nD → Vec F S1x1024 .f32

variable {F : FTy → Type} [FloatOps F]
variable (I : Given F)

/-- Lower half, first exchange: the quarter the partner `q1` sends, the rows this device keeps. -/
def R1a (d : Dev nD) : Vec F S256x1024 .f32 := fun i => I.x (q1 d) (ix3 (0 : Fin 1) (Fin.ofNat 1024 (a1 d + (i 0).val)) (i 1))
/-- Upper half, first exchange: the quarter the partner `q2` sends. -/
def R2a (d : Dev nD) : Vec F S256x1024 .f32 := fun i => I.x (q2 d) (ix3 (0 : Fin 1) (Fin.ofNat 1024 (512 + a2 d + (i 0).val)) (i 1))
/-- Lower half: the two-device sum of the forwarded eighth. -/
def P1 (d : Dev nD) : Vec F S128x1024 .f32 := k0_pay1 (cut 128 (f1 d) (R1a I d)) (cutB 128 (g1 d) (I.x d))
/-- Upper half: the two-device sum of the forwarded eighth. -/
def P2 (d : Dev nD) : Vec F S128x1024 .f32 := k0_pay2 (cut 128 (f2 d) (R2a I d)) (cutB 128 (g2 d) (I.x d))
/-- The lower landing buffer once the forwarded eighth is summed in place. -/
def R1b (d : Dev nD) : Vec F S256x1024 .f32 := tile 128 (P1 I d)
/-- The upper landing buffer once the forwarded eighth is summed in place. -/
def R2b (d : Dev nD) : Vec F S256x1024 .f32 := tile 128 (P2 I d)
/-- Lower half, second exchange: the partner `q2`'s two-device sum. -/
def R3 (d : Dev nD) : Vec F S128x1024 .f32 := P1 I (q2 d)
/-- Upper half, second exchange: the partner `q1`'s two-device sum. -/
def R4 (d : Dev nD) : Vec F S128x1024 .f32 := P2 I (q1 d)
/-- Lower half: this device's own two-device sum with the residual. -/
def T1 (d : Dev nD) : Vec F S128x1024 .f32 := k0_pay3 (cut 128 (c1 d) (R1a I d)) (cutB 128 (o1 d) (I.x d)) (cut 128 (o1 d) (I.r d))
/-- Upper half: this device's own two-device sum with the residual. -/
def T2 (d : Dev nD) : Vec F S128x1024 .f32 := k0_pay5 (k0_pay4 (cut 128 (c2 d) (R2a I d)) (cutB 128 (o2 d) (I.x d)) (cut 128 (o2 d) (I.r d)))
/-- The lower 128 rows device `d` finishes, in two blocks of 64. -/
def fin1 (d : Dev nD) : Vec F S128x1024 .f32 := fun i =>
  if (i 0).val < 64 then k0_pay6 (cut 64 0 (R3 I d)) (cut 64 0 (T1 I d)) (I.g d) (ix2 (Fin.ofNat 64 (i 0).val) (i 1))
  else k0_pay8 (cut 64 64 (R3 I d)) (cut 64 64 (T1 I d)) (I.g d) (ix2 (Fin.ofNat 64 (i 0).val) (i 1))
/-- The upper 128 rows device `d` finishes, in two blocks of 64. -/
def fin2 (d : Dev nD) : Vec F S128x1024 .f32 := fun i =>
  if (i 0).val < 64 then k0_pay7 (cut 64 0 (R4 I d)) (cut 64 0 (T2 I d)) (I.g d) (ix2 (Fin.ofNat 64 (i 0).val) (i 1))
  else k0_pay9 (cut 64 64 (R4 I d)) (cut 64 64 (T2 I d)) (I.g d) (ix2 (Fin.ofNat 64 (i 0).val) (i 1))
/-- Row `r` of the finished matrix: taken from the device that finishes it. -/
def outRow (r : ℕ) (k : Fin 1024) : F .f32 :=
  if r < 128 then fin1 I 0 (ix2 (Fin.ofNat 128 r) k)
  else if r < 256 then fin1 I 3 (ix2 (Fin.ofNat 128 r) k)
  else if r < 384 then fin1 I 1 (ix2 (Fin.ofNat 128 r) k)
  else if r < 512 then fin1 I 2 (ix2 (Fin.ofNat 128 r) k)
  else if r < 640 then fin2 I 0 (ix2 (Fin.ofNat 128 r) k)
  else if r < 768 then fin2 I 1 (ix2 (Fin.ofNat 128 r) k)
  else if r < 896 then fin2 I 2 (ix2 (Fin.ofNat 128 r) k)
  else fin2 I 3 (ix2 (Fin.ofNat 128 r) k)
/-- The finished matrix. -/
def OUT : Vec F S1024x1024 .f32 := fun i => outRow I (i 0).val (i 1)

/-! ## The bands agree where they meet -/

/-- The row offsets, one by the others. -/
theorem num (c : Dev nD) : (a1 c = 0 ∨ a1 c = 256) ∧ (a2 c = 0 ∨ a2 c = 256) ∧ (c1 c = 0 ∨ c1 c = 128) ∧ (c2 c = 0 ∨ c2 c = 128)
    ∧ f1 c + c1 c = 128 ∧ f2 c + c2 c = 128 ∧ o1 c = a1 c + c1 c ∧ o2 c = 512 + a2 c + c2 c ∧ g1 c = a1 c + f1 c ∧ g2 c = 512 + a2 c + f2 c := by
  revert c; decide +kernel
/-- The offsets of the partner `q1`. -/
theorem num1 (c : Dev nD) : a1 (q1 c) + a1 c = 256 ∧ a2 (q1 c) = a2 c ∧ c1 (q1 c) = c1 c ∧ c2 (q1 c) = f2 c ∧ f1 (q1 c) = f1 c ∧ f2 (q1 c) = c2 c
    ∧ g2 (q1 c) = o2 c := by
  revert c; decide +kernel
/-- The offsets of the partner `q2`. -/
theorem num2 (c : Dev nD) : a1 (q2 c) = a1 c ∧ a2 (q2 c) + a2 c = 256 ∧ c1 (q2 c) = f1 c ∧ c2 (q2 c) = f2 c ∧ f1 (q2 c) = c1 c ∧ f2 (q2 c) = c2 c
    ∧ g1 (q2 c) = o1 c := by
  revert c; decide +kernel

omit [FloatOps F] in
/-- Copies 0 and 1: rows of this device's addend are the rows the partner `q1` keeps. -/
theorem land1 (c : Dev nD) (o o' : ℕ) (ho : o + 128 ≤ 256) (h : a1 (q1 c) + o = o') :
    cut 128 o (R1a I (q1 c)) = cutX 128 o' (I.x c) := by
  funext x
  have hx : (x 0).val < 128 := idx2_lt0 x
  unfold cut cutX R1a
  rw [q1_q1]
  refine congrArg (I.x c) (funext fun a => ?_)
  match a with
  | ⟨0, _⟩ => rfl
  | ⟨1, _⟩ =>
    apply Fin.ext
    show (a1 (q1 c) + (o + (x 0).val) % 256) % 1024 = (o' + (x 0).val) % 1024
    rw [Nat.mod_eq_of_lt (a := o + (x 0).val) (by omega)]
    omega
  | ⟨2, _⟩ => rfl

omit [FloatOps F] in
/-- Copies 2 and 3: rows of this device's addend are the rows the partner `q2` keeps. -/
theorem land2 (c : Dev nD) (o o' : ℕ) (ho : o + 128 ≤ 256) (h : 512 + a2 (q2 c) + o = o') :
    cut 128 o (R2a I (q2 c)) = cutX 128 o' (I.x c) := by
  funext x
  have hx : (x 0).val < 128 := idx2_lt0 x
  unfold cut cutX R2a
  rw [q2_q2]
  refine congrArg (I.x c) (funext fun a => ?_)
  match a with
  | ⟨0, _⟩ => rfl
  | ⟨1, _⟩ =>
    apply Fin.ext
    show (512 + a2 (q2 c) + (o + (x 0).val) % 256) % 1024 = (o' + (x 0).val) % 1024
    rw [Nat.mod_eq_of_lt (a := o + (x 0).val) (by omega)]
    omega
  | ⟨2, _⟩ => rfl

omit [FloatOps F] in
/-- Cutting a repeated matrix at a whole repetition gives rows of the matrix. -/
theorem cut_tile (n o p : ℕ) (V : Vec F S128x1024 .f32) (ho : o = p ∨ o = p + 128) (hp : p + n ≤ 128) :
    cut n o (tile 128 V : Vec F S256x1024 .f32) = cut n p V := by
  funext x
  have hx : (x 0).val < n := idx2_lt0 x
  unfold cut tile
  refine congrArg V (funext fun a => ?_)
  match a with
  | ⟨0, _⟩ =>
    apply Fin.ext
    show ((o + (x 0).val) % 256) % 128 = (p + (x 0).val) % 128
    omega
  | ⟨1, _⟩ => rfl

omit [FloatOps F] in
/-- All rows of a matrix are the matrix. -/
theorem cut_all (V : Vec F S128x1024 .f32) : cut 128 0 V = V := by
  funext x
  have hx : (x 0).val < 128 := idx2_lt0 x
  unfold cut
  refine congrArg V (funext fun a => ?_)
  match a with
  | ⟨0, _⟩ =>
    apply Fin.ext
    show (0 + (x 0).val) % 128 = (x 0).val
    omega
  | ⟨1, _⟩ => rfl

/-- The rows of the finished matrix that device `d` finishes in the lower half. -/
theorem outRow_lo (d : Dev nD) (r : ℕ) (k : Fin 1024) (hr : o1 d ≤ r) (hr' : r < o1 d + 128) :
    outRow I r k = fin1 I d (ix2 (Fin.ofNat 128 r) k) := by
  match d with
  | 0 =>
    have h1 : 0 ≤ r := hr
    have h2 : r < 0 + 128 := hr'
    unfold outRow
    rw [if_pos (by omega)]
  | 1 =>
    have h1 : 256 ≤ r := hr
    have h2 : r < 256 + 128 := hr'
    unfold outRow
    rw [if_neg (by omega), if_neg (by omega), if_pos (by omega)]
  | 2 =>
    have h1 : 384 ≤ r := hr
    have h2 : r < 384 + 128 := hr'
    unfold outRow
    rw [if_neg (by omega), if_neg (by omega), if_neg (by omega), if_pos (by omega)]
  | 3 =>
    have h1 : 128 ≤ r := hr
    have h2 : r < 128 + 128 := hr'
    unfold outRow
    rw [if_neg (by omega), if_pos (by omega)]

/-- The finished matrix over the lower rows device `d` finishes. -/
theorem out_lo (d : Dev nD) : cut 128 (o1 d) (OUT I) = fin1 I d := by
  funext x
  have hx : (x 0).val < 128 := idx2_lt0 x
  have hb : o1 d ≤ 896 := by revert d; decide +kernel
  have hm : o1 d % 128 = 0 := by revert d; decide +kernel
  show outRow I ((o1 d + (x 0).val) % 1024) (x 1) = _
  rw [Nat.mod_eq_of_lt (by omega)]
  refine (outRow_lo I d _ _ (by omega) (by omega)).trans ?_
  refine congrArg (fin1 I d) (funext fun a => ?_)
  match a with
  | ⟨0, _⟩ =>
    apply Fin.ext
    show (o1 d + (x 0).val) % 128 = (x 0).val
    omega
  | ⟨1, _⟩ => rfl

/-- The rows of the finished matrix that device `d` finishes in the upper half. -/
theorem outRow_hi (d : Dev nD) (r : ℕ) (k : Fin 1024) (hr : o2 d ≤ r) (hr' : r < o2 d + 128) :
    outRow I r k = fin2 I d (ix2 (Fin.ofNat 128 r) k) := by
  match d with
  | 0 =>
    have h1 : 512 ≤ r := hr
    have h2 : r < 512 + 128 := hr'
    unfold outRow
    rw [if_neg (by omega), if_neg (by omega), if_neg (by omega), if_neg (by omega), if_pos (by omega)]
  | 1 =>
    have h1 : 640 ≤ r := hr
    have h2 : r < 640 + 128 := hr'
    unfold outRow
    rw [if_neg (by omega), if_neg (by omega), if_neg (by omega), if_neg (by omega), if_neg (by omega), if_pos (by omega)]
  | 2 =>
    have h1 : 768 ≤ r := hr
    have h2 : r < 768 + 128 := hr'
    unfold outRow
    rw [if_neg (by omega), if_neg (by omega), if_neg (by omega), if_neg (by omega), if_neg (by omega), if_neg (by omega), if_pos (by omega)]
  | 3 =>
    have h1 : 896 ≤ r := hr
    have h2 : r < 896 + 128 := hr'
    unfold outRow
    rw [if_neg (by omega), if_neg (by omega), if_neg (by omega), if_neg (by omega), if_neg (by omega), if_neg (by omega), if_neg (by omega)]

/-- The finished matrix over the upper rows device `d` finishes. -/
theorem out_hi (d : Dev nD) : cut 128 (o2 d) (OUT I) = fin2 I d := by
  funext x
  have hx : (x 0).val < 128 := idx2_lt0 x
  have hb : o2 d ≤ 896 := by revert d; decide +kernel
  have hm : o2 d % 128 = 0 := by revert d; decide +kernel
  show outRow I ((o2 d + (x 0).val) % 1024) (x 1) = _
  rw [Nat.mod_eq_of_lt (by omega)]
  refine (outRow_hi I d _ _ (by omega) (by omega)).trans ?_
  refine congrArg (fin2 I d) (funext fun a => ?_)
  match a with
  | ⟨0, _⟩ =>
    apply Fin.ext
    show (o2 d + (x 0).val) % 128 = (x 0).val
    omega
  | ⟨1, _⟩ => rfl

omit [FloatOps F] in
/-- Rows of rows. -/
theorem cut_cut (X : Vec F S1024x1024 .f32) (o p : ℕ) (hp : p + 64 ≤ 128) : cut 64 p (cut 128 o X : Vec F S128x1024 .f32) = cut 64 (o + p) X := by
  funext x
  have hx : (x 0).val < 64 := idx2_lt0 x
  unfold cut
  refine congrArg X (funext fun a => ?_)
  match a with
  | ⟨0, _⟩ =>
    apply Fin.ext
    show (o + (p + (x 0).val) % 128) % 1024 = (o + p + (x 0).val) % 1024
    rw [Nat.mod_eq_of_lt (a := p + (x 0).val) (by omega), Nat.add_assoc]
  | ⟨1, _⟩ => rfl

omit [FloatOps F] in
/-- The first 64 of 128 rows given in two blocks of 64. -/
theorem cut_two_lo (A B : Vec F S64x1024 .f32) :
    cut 64 0 (fun i => if (i 0).val < 64 then A (ix2 (Fin.ofNat 64 (i 0).val) (i 1)) else B (ix2 (Fin.ofNat 64 (i 0).val) (i 1)) : Vec F S128x1024 .f32) = A := by
  funext x
  have hx : (x 0).val < 64 := idx2_lt0 x
  unfold cut
  have hv : (0 + (x 0).val) % 128 = (x 0).val := by omega
  show (if (0 + (x 0).val) % 128 < 64 then _ else _) = _
  rw [if_pos (by omega)]
  refine congrArg A (funext fun a => ?_)
  match a with
  | ⟨0, _⟩ =>
    apply Fin.ext
    show ((0 + (x 0).val) % 128) % 64 = (x 0).val
    omega
  | ⟨1, _⟩ => rfl

omit [FloatOps F] in
/-- The last 64 of 128 rows given in two blocks of 64. -/
theorem cut_two_hi (A B : Vec F S64x1024 .f32) :
    cut 64 64 (fun i => if (i 0).val < 64 then A (ix2 (Fin.ofNat 64 (i 0).val) (i 1)) else B (ix2 (Fin.ofNat 64 (i 0).val) (i 1)) : Vec F S128x1024 .f32) = B := by
  funext x
  have hx : (x 0).val < 64 := idx2_lt0 x
  unfold cut
  have hv : (64 + (x 0).val) % 128 = 64 + (x 0).val := by omega
  show (if (64 + (x 0).val) % 128 < 64 then _ else _) = _
  rw [if_neg (by omega)]
  refine congrArg B (funext fun a => ?_)
  match a with
  | ⟨0, _⟩ =>
    apply Fin.ext
    show ((64 + (x 0).val) % 128) % 64 = (x 0).val
    omega
  | ⟨1, _⟩ => rfl

/-- The first block of 64 lower rows device `d` finishes. -/
theorem out_1 (d : Dev nD) : cut 64 (o1 d) (OUT I) = k0_pay6 (cut 64 0 (R3 I d)) (cut 64 0 (T1 I d)) (I.g d) := by
  rw [← Nat.add_zero (o1 d), ← cut_cut _ _ _ (by decide), out_lo]; exact cut_two_lo _ _
/-- The first block of 64 upper rows device `d` finishes. -/
theorem out_2 (d : Dev nD) : cut 64 (o2 d) (OUT I) = k0_pay7 (cut 64 0 (R4 I d)) (cut 64 0 (T2 I d)) (I.g d) := by
  rw [← Nat.add_zero (o2 d), ← cut_cut _ _ _ (by decide), out_hi]; exact cut_two_lo _ _
/-- The second block of 64 lower rows device `d` finishes. -/
theorem out_3 (d : Dev nD) : cut 64 (o1 d + 64) (OUT I) = k0_pay8 (cut 64 64 (R3 I d)) (cut 64 64 (T1 I d)) (I.g d) := by
  rw [← cut_cut _ _ _ (by decide), out_lo]; exact cut_two_hi _ _
/-- The second block of 64 upper rows device `d` finishes. -/
theorem out_4 (d : Dev nD) : cut 64 (o2 d + 64) (OUT I) = k0_pay9 (cut 64 64 (R4 I d)) (cut 64 64 (T2 I d)) (I.g d) := by
  rw [← cut_cut _ _ _ (by decide), out_hi]; exact cut_two_hi _ _

end Proto
-- ==== Proof.Sched.lean ====
module

public import proofs.«01_k».proof.Proof.Conts
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Rounds
public import Idealize.ShloMosaic.Lib.Tactic

/-! # The exchange as a schedule of payments

Every device has one barrier cell, sixteen send cells and sixteen receive cells, each used for one round. A copy pays
the sender's send cell (the source comes back) and the receiver's receive cell (the landed rows). A barrier signal pays
the partner's barrier cell with the landing places the partner will copy into. -/

@[expose] public section

noncomputable section

namespace Proto

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type}

/-- The protocol's ghost state: rounds over all cells, two duties a cell. -/
abbrev UB : Type := URounds (GSem nD τ sig) Bool
/-- The pipeline's ghost state and the protocol's, side by side. -/
abbrev UU : Type := UR sig nD τ × UB

local notation "𝕄" => MT nD τ sig Unit (Elt F) ℕ UU ℕ

/-- The pipeline's part. -/
abbrev EP : Emb (UR sig nD τ) (MT nD τ sig Unit (Elt F) ℕ UU ℕ) := embL
/-- The protocol's part. -/
abbrev ER : Emb UB (MT nD τ sig Unit (Elt F) ℕ UU ℕ) := embR

/-! ## The buffers -/

/-- The addend's block. -/
abbrev xB : Ref sig .tc := cc0_stg0_0
/-- The residual's block. -/
abbrev rB : Ref sig .tc := cc0_stg1_0
/-- The scale's block. -/
abbrev gB : Ref sig .tc := cc0_stg2_0
/-- The result's block. -/
abbrev oB : Ref sig .tc := cc0_stg3_0
/-- The lower landing buffer of the first exchange. -/
abbrev r1B : Ref sig .tc := cc0_scratch0
/-- The upper landing buffer of the first exchange. -/
abbrev r2B : Ref sig .tc := cc0_scratch1
/-- The lower landing buffer of the second exchange. -/
abbrev r3B : Ref sig .tc := cc0_scratch2
/-- The upper landing buffer of the second exchange. -/
abbrev r4B : Ref sig .tc := cc0_scratch3
/-- The lower running total. -/
abbrev t1B : Ref sig .tc := cc0_scratch4
/-- The upper running total. -/
abbrev t2B : Ref sig .tc := cc0_scratch5

/-- Part `S` of a buffer on device `d`, held at share `q` with contents `f`. -/
def pt (b : Ref sig .tc) (d : Dev nD) (q : PosShare TreeShare) (S : Finset (Idx ((d : Thread nD τ).loc b))) (f : Buf (Elt F) ((d : Thread nD τ).loc b)) :
    sProp 𝕄 := ((d : Thread nD τ).loc b) ↦[S]{q} f

/-- What is owned of a buffer can sit in an invariant. -/
instance pt_storable (b : Ref sig .tc) (d : Dev nD) (q) (S) (f) : BI.Storable (upEmb : UEmb _ 𝕄) (pt (F := F) b d q S f) := by
  unfold pt; infer_instance

/-! ## The cells -/

/-- The barrier semaphore. -/
abbrev barS : Sem sig := (SemArray.scalar (sig.barrier 0 rfl) : Sems sig S_).sem
/-- The kernel's own semaphores: the sixteen send ones, then the sixteen receive ones. -/
def ownS (i : Fin 32) : DmaSem sig := (⟨4 + i.val, by omega⟩ : Fin 36)
/-- The send semaphore of copy `j`. -/
def sndS (j : Fin 16) : DmaSem sig := ownS ⟨j.val, by omega⟩
/-- The receive semaphore of copy `j`. -/
def rcvS (j : Fin 16) : DmaSem sig := ownS ⟨16 + j.val, by omega⟩

/-- A one-element slice of the send semaphores, its axis dropped, names one of them. -/
theorem snd_at (j : Fin 16) {o : ℕ} (ho : o = j.val) (inb) :
    ((cc0_scratch6.slice (Rect.unit (s := S16) ![o] S1.size inb)).squeeze S_ squeezes_S1_S_).sem = sndS j := by
  subst ho
  apply Fin.ext
  show 4 + (S16.rowMajor _ : ℕ) = 4 + j.val
  rw [Shape.rowMajor_val_one]
  generalize (Shape.reshapeEquiv squeezes_S1_S_.numel_eq fun i => i.elim0 : S1.Idx) = y
  have hy : (y 0).val < 1 := (y 0).isLt
  show 4 + (j.val + 1 * (y 0).val) = _
  omega

/-- A one-element slice of the receive semaphores, its axis dropped, names one of them. -/
theorem rcv_at (j : Fin 16) {o : ℕ} (ho : o = j.val) (inb) :
    ((cc0_scratch7.slice (Rect.unit (s := S16) ![o] S1.size inb)).squeeze S_ squeezes_S1_S_).sem = rcvS j := by
  subst ho
  apply Fin.ext
  show 20 + (S16.rowMajor _ : ℕ) = 4 + (16 + j.val)
  rw [Shape.rowMajor_val_one]
  generalize (Shape.reshapeEquiv squeezes_S1_S_.numel_eq fun i => i.elim0 : S1.Idx) = y
  have hy : (y 0).val < 1 := (y 0).isLt
  show 20 + (j.val + 1 * (y 0).val) = _
  omega

/-- Device `c`'s barrier cell. -/
abbrev barCell (c : Dev nD) : GSem nD τ sig := ((c : Thread nD τ), .reg barS)
/-- Device `c`'s own cell `i`. -/
abbrev ownCell (c : Dev nD) (i : Fin 32) : GSem nD τ sig := ((c : Thread nD τ), .dma (ownS i))
/-- Device `c`'s send cell of copy `j`. -/
abbrev sndCell (c : Dev nD) (j : Fin 16) : GSem nD τ sig := ((c : Thread nD τ), .dma (sndS j))
/-- Device `c`'s receive cell of copy `j`. -/
abbrev rcvCell (c : Dev nD) (j : Fin 16) : GSem nD τ sig := ((c : Thread nD τ), .dma (rcvS j))

/-- The credit of a copy of 128 rows. -/
def N128 : ℕ := (Memref.whole cc0_scratch2 : Memref sig .tc .vmem S128x1024 .f32).view.dmaCredit
/-- The credit of a copy of 64 rows. -/
def N64 : ℕ := ((Memref.whole cc0_scratch2 : Memref sig .tc .vmem S128x1024 .f32).slice (Rect.unit (s := S128x1024) ![0, 0] S64x1024.size inb_S128x1024_S64x1024_0_0)
  (fun _ => rfl)).view.dmaCredit
/-- Whether copy `j` moves 64 rows. -/
def small (j : Fin 16) : Bool := 4 ≤ j.val && j.val < 12
/-- The credit of copy `j`. -/
def amt (j : Fin 16) : ℕ := if small j then N64 else N128
/-- A copy's credit is not zero. -/
theorem amt_pos (j : Fin 16) : 0 < amt j := by
  unfold amt N64 N128
  split
  · exact View.dmaCredit_pos _ (by decide)
  · exact View.dmaCredit_pos _ (by decide)

/-- The copies that go to the partner `q1`. -/
def toQ1 (j : Fin 16) : Bool := ![true, true, false, false, false, false, true, true, false, false, true, true, true, true, false, false] j
/-- The partner copy `j` goes to, and comes from. -/
def pr (j : Fin 16) (c : Dev nD) : Dev nD := if toQ1 j then q1 c else q2 c
/-- Partners are mutual. -/
theorem pr_pr (j : Fin 16) (c : Dev nD) : pr j (pr j c) = c := by revert j c; decide +kernel

/-! ## What each copy carries -/

variable [FloatOps F] (I : Given F)

/-- The source of copy `j` on device `c`, which its send cell gives back. -/
def sendPay (c : Dev nD) (j : Fin 16) : sProp 𝕄 :=
  match j.val with
  | 0 => pt xB c fullShare.right (rowsX (g1 (q1 c)) 128) (I.x c)
  | 1 => pt xB c fullShare.right (rowsX (o1 (q1 c)) 128) (I.x c)
  | 2 => pt xB c fullShare.right (rowsX (g2 (q2 c)) 128) (I.x c)
  | 3 => pt xB c fullShare.right (rowsX (o2 (q2 c)) 128) (I.x c)
  | 4 => pt r1B c fullShare (rows 256 (f1 c) 64) (R1b I c)
  | 5 => pt r1B c fullShare (rows 256 (f1 c + 64) 64) (R1b I c)
  | 6 => pt r2B c fullShare (rows 256 (f2 c) 64) (R2b I c)
  | 7 => pt r2B c fullShare (rows 256 (f2 c + 64) 64) (R2b I c)
  | 8 => pt oB c fullShare.left (rows 1024 (o1 c) 64) (OUT I)
  | 9 => pt oB c fullShare.left (rows 1024 (o1 c + 64) 64) (OUT I)
  | 10 => pt oB c fullShare.left (rows 1024 (o2 c) 64) (OUT I)
  | 11 => pt oB c fullShare.left (rows 1024 (o2 c + 64) 64) (OUT I)
  | 12 => pt oB c fullShare.right (rows 1024 (o1 c) 128) (OUT I)
  | 13 => pt oB c fullShare (rows 1024 (g1 c) 128) (OUT I)
  | 14 => pt oB c fullShare.right (rows 1024 (o2 c) 128) (OUT I)
  | _ => pt oB c fullShare (rows 1024 (g2 c) 128) (OUT I)

/-- The landed rows of copy `j` on device `d`, which its receive cell gives. -/
def recvPay (d : Dev nD) (j : Fin 16) : sProp 𝕄 :=
  match j.val with
  | 0 => pt r1B d fullShare (rows 256 (f1 d) 128) (R1a I d)
  | 1 => pt r1B d fullShare (rows 256 (c1 d) 128) (R1a I d)
  | 2 => pt r2B d fullShare (rows 256 (f2 d) 128) (R2a I d)
  | 3 => pt r2B d fullShare (rows 256 (c2 d) 128) (R2a I d)
  | 4 => pt r3B d fullShare (rows 128 0 64) (R3 I d)
  | 5 => pt r3B d fullShare (rows 128 64 64) (R3 I d)
  | 6 => pt r4B d fullShare (rows 128 0 64) (R4 I d)
  | 7 => pt r4B d fullShare (rows 128 64 64) (R4 I d)
  | 8 => pt oB d fullShare (rows 1024 (g1 d) 64) (OUT I)
  | 9 => pt oB d fullShare (rows 1024 (g1 d + 64) 64) (OUT I)
  | 10 => pt oB d fullShare (rows 1024 (g2 d) 64) (OUT I)
  | 11 => pt oB d fullShare (rows 1024 (g2 d + 64) 64) (OUT I)
  | 12 => pt oB d fullShare (rows 1024 (o1 (q1 d)) 128) (OUT I)
  | 13 => pt oB d fullShare (rows 1024 (g1 (q1 d)) 128) (OUT I)
  | 14 => pt oB d fullShare (rows 1024 (o2 (q2 d)) 128) (OUT I)
  | _ => pt oB d fullShare (rows 1024 (g2 (q2 d)) 128) (OUT I)

/-- The landing place of copy `j` on device `d`, at whatever it holds. -/
def landing (d : Dev nD) (j : Fin 16) : sProp 𝕄 :=
  match j.val with
  | 0 => iprop(∃ f, pt r1B d fullShare (rows 256 (f1 d) 128) f)
  | 1 => iprop(∃ f, pt r1B d fullShare (rows 256 (c1 d) 128) f)
  | 2 => iprop(∃ f, pt r2B d fullShare (rows 256 (f2 d) 128) f)
  | 3 => iprop(∃ f, pt r2B d fullShare (rows 256 (c2 d) 128) f)
  | 4 => iprop(∃ f, pt r3B d fullShare (rows 128 0 64) f)
  | 5 => iprop(∃ f, pt r3B d fullShare (rows 128 64 64) f)
  | 6 => iprop(∃ f, pt r4B d fullShare (rows 128 0 64) f)
  | 7 => iprop(∃ f, pt r4B d fullShare (rows 128 64 64) f)
  | 8 => iprop(∃ f, pt oB d fullShare (rows 1024 (g1 d) 64) f)
  | 9 => iprop(∃ f, pt oB d fullShare (rows 1024 (g1 d + 64) 64) f)
  | 10 => iprop(∃ f, pt oB d fullShare (rows 1024 (g2 d) 64) f)
  | 11 => iprop(∃ f, pt oB d fullShare (rows 1024 (g2 d + 64) 64) f)
  | 12 => iprop(∃ f, pt oB d fullShare (rows 1024 (o1 (q1 d)) 128) f)
  | 13 => iprop(∃ f, pt oB d fullShare (rows 1024 (g1 (q1 d)) 128) f)
  | 14 => iprop(∃ f, pt oB d fullShare (rows 1024 (o2 (q2 d)) 128) f)
  | _ => iprop(∃ f, pt oB d fullShare (rows 1024 (g2 (q2 d)) 128) f)

/-- A returned source may be kept in a cell. -/
instance sendPay_storable (c : Dev nD) (j : Fin 16) : BI.Storable (upEmb : UEmb _ 𝕄) (sendPay I c j) := by
  unfold sendPay; split <;> infer_instance
/-- Landed rows may be kept in a cell. -/
instance recvPay_storable (c : Dev nD) (j : Fin 16) : BI.Storable (upEmb : UEmb _ 𝕄) (recvPay I c j) := by
  unfold recvPay; split <;> infer_instance
omit [FloatOps F] in
/-- A landing place may be kept in a cell. -/
instance landing_storable (c : Dev nD) (j : Fin 16) : BI.Storable (upEmb : UEmb _ 𝕄) (landing (F := F) c j) := by
  unfold landing; split <;> infer_instance

/-- What a device offers for copy `j`: the landing place, and that the receive cell stands at its round. -/
def offer (d : Dev nD) (j : Fin 16) : sProp 𝕄 := iprop(landing d j ∗ reached ER (rcvCell d j) 0)
omit [FloatOps F] in
/-- An offer of a landing place may be kept in a cell. -/
instance offer_storable (c : Dev nD) (j : Fin 16) : BI.Storable (upEmb : UEmb _ 𝕄) (offer (F := F) c j) := by
  unfold offer; infer_instance

/-- What the barrier signal of one partner hands device `c`: that partner's landing places for the copies `c` sends it. -/
def barPay (c : Dev nD) (b : Bool) : sProp 𝕄 := bigSep (Finset.univ.filter fun j => toQ1 j = b) fun j => offer (pr j c) j
omit [FloatOps F] in
/-- A barrier's payment may be kept in a cell. -/
instance barPay_storable (c : Dev nD) (b : Bool) : BI.Storable (upEmb : UEmb _ 𝕄) (barPay (F := F) c b) := by
  unfold barPay; infer_instance

/-! ## The schedule -/

/-- The index of a copy from its semaphore. -/
def ofS (s : DmaSem sig) : Fin 16 := Fin.ofNat 16 (s.val - 4)
/-- A send cell's copy. -/
theorem ofS_snd (j : Fin 16) : ofS (sndS j) = j := by revert j; decide +kernel
/-- A receive cell's copy. -/
theorem ofS_rcv (j : Fin 16) : ofS (rcvS j) = j := by revert j; decide +kernel

/-- One round: a barrier cell has two duties of one unit, a send or receive cell one duty of its copy's credit. -/
def sch : Rounds.Schedule (GSem nD τ sig) Bool 𝕄 where
  duties g r := if r = 0 ∧ g.1.2 = .tc then (match g.2 with
      | .reg s => if s = barS then Finset.univ else ∅
      | .dma s => if 4 ≤ s.val then {false} else ∅) else ∅
  unitless _ := False
  amount g _ _ := match g.2 with
    | .reg _ => 1
    | .dma s => amt (ofS s)
  payload g _ b := match g.2 with
    | .reg _ => barPay g.1.1 b
    | .dma s => if s.val < 20 then sendPay I g.1.1 (ofS s) else recvPay I g.1.1 (ofS s)
  amount_pos g _ _ _ := by
    rcases g with ⟨t, s | s⟩
    · exact Nat.one_pos
    · exact amt_pos _

/-- Every payment of the schedule may be kept in a cell. -/
instance sch_payload_storable (g : GSem nD τ sig) (r : ℕ) (d : Bool) : BI.Storable (upEmb : UEmb _ 𝕄) ((sch I).payload g r d) := by
  rcases g with ⟨t, s | s⟩
  · show BI.Storable upEmb (barPay t.1 d); infer_instance
  · show BI.Storable upEmb (if s.val < 20 then sendPay I t.1 (ofS s) else recvPay I t.1 (ofS s))
    split <;> infer_instance

section Sched
variable (c : Dev nD) (j : Fin 16)

/-- A barrier cell has both duties. -/
theorem duties_bar : (sch I).duties (barCell c) 0 = Finset.univ := by dsimp only [sch]; rw [if_pos ⟨rfl, rfl⟩, if_pos rfl]
/-- A copy cell has one duty. -/
theorem duties_own (i : Fin 32) : (sch I).duties (ownCell c i) 0 = {false} := by
  dsimp only [sch]; rw [if_pos ⟨rfl, rfl⟩]; exact if_pos (Nat.le_add_right 4 i.val)
/-- A send cell has one duty. -/
theorem duties_snd : (sch I).duties (sndCell c j) 0 = {false} := duties_own I c _
/-- A receive cell has one duty. -/
theorem duties_rcv : (sch I).duties (rcvCell c j) 0 = {false} := duties_own I c _
/-- No cell has a duty after the first round. -/
theorem duties_later (g : GSem nD τ sig) : ∀ r, 1 ≤ r → (sch I).duties g r = ∅ :=
  fun r hr => by dsimp only [sch]; rw [if_neg fun h => by omega]

/-- A barrier signal is one unit. -/
theorem amount_bar (b : Bool) : (sch I).amount (barCell c) 0 b = 1 := rfl
/-- A send cell's amount is its copy's. -/
theorem amount_snd (b : Bool) : (sch I).amount (sndCell c j) 0 b = amt j := by show amt (ofS (sndS j)) = _; rw [ofS_snd]
/-- A receive cell's amount is its copy's. -/
theorem amount_rcv (b : Bool) : (sch I).amount (rcvCell c j) 0 b = amt j := by show amt (ofS (rcvS j)) = _; rw [ofS_rcv]

/-- A barrier wait is for two units. -/
theorem expect_bar : (sch I).expect (barCell c) 0 = 2 := by
  unfold Schedule.expect Schedule.amountOf
  rw [duties_bar, Finset.sum_congr rfl fun d _ => amount_bar I c d, Finset.sum_const, Finset.card_univ, Fintype.card_bool, smul_eq_mul]
/-- A send wait is for its copy's amount. -/
theorem expect_snd : (sch I).expect (sndCell c j) 0 = amt j := by
  unfold Schedule.expect Schedule.amountOf; rw [duties_snd, Finset.sum_singleton, amount_snd]
/-- A receive wait is for its copy's amount. -/
theorem expect_rcv : (sch I).expect (rcvCell c j) 0 = amt j := by
  unfold Schedule.expect Schedule.amountOf; rw [duties_rcv, Finset.sum_singleton, amount_rcv]

/-- What a barrier signal hands over. -/
theorem payload_bar (b : Bool) : (sch I).payload (barCell c) 0 b = barPay c b := rfl
/-- What a copy's completion gives back to its sender. -/
theorem payload_snd (b : Bool) : (sch I).payload (sndCell c j) 0 b = sendPay I c j := by
  show (if (sndS j).val < 20 then sendPay I c (ofS (sndS j)) else recvPay I c (ofS (sndS j))) = _
  rw [if_pos (by revert j; decide +kernel), ofS_snd]
/-- What a copy's landing hands over. -/
theorem payload_rcv (b : Bool) : (sch I).payload (rcvCell c j) 0 b = recvPay I c j := by
  show (if (rcvS j).val < 20 then sendPay I c (ofS (rcvS j)) else recvPay I c (ofS (rcvS j))) = _
  rw [if_neg (by revert j; decide +kernel), ofS_rcv]

/-- The whole of a barrier cell's round: both partners' offers. -/
theorem rest_bar : bigSep ((sch I).duties (barCell c) 0 \ ∅) (fun b => (sch I).payload (barCell c) 0 b) = iprop(barPay c false ∗ barPay c true) := by
  rw [Finset.sdiff_empty, duties_bar, bigSep_univ_eq_bigSepL [false, true] (by decide) (by decide), bigSepL_cons_cons, bigSepL_singleton,
    payload_bar, payload_bar]
  rfl
/-- A send cell's payments are the one payment. -/
theorem rest_snd : bigSep ((sch I).duties (sndCell c j) 0 \ ∅) (fun b => (sch I).payload (sndCell c j) 0 b) = sendPay I c j := by
  rw [Finset.sdiff_empty, duties_snd, bigSep_singleton, payload_snd]
/-- A receive cell's payments are the one payment. -/
theorem rest_rcv : bigSep ((sch I).duties (rcvCell c j) 0 \ ∅) (fun b => (sch I).payload (rcvCell c j) 0 b) = recvPay I c j := by
  rw [Finset.sdiff_empty, duties_rcv, bigSep_singleton, payload_rcv]

end Sched

/-! ## What a device owes, and in which order cells may be waited on -/

/-- The receive credits owed for the copies of a list still to be sent, the next one outermost. -/
def Ol (c : Dev nD) : List (Fin 16) → CellTallies nD τ sig Unit
  | [] => 0
  | j :: l => Ol c l + tallyAt (rcvCell (pr j c) j) () (amt j)

/-- The order in which the program sends. -/
def order : List (Fin 16) := [0, 1, 2, 3, 4, 5, 6, 7, 8, 10, 9, 11, 12, 14, 13, 15]
/-- All a device owes at the start: every copy, and a unit to each partner's barrier cell. -/
def O₀ (c : Dev nD) : CellTallies nD τ sig Unit := Ol c order + tallyAt (barCell (q2 c)) () 1 + tallyAt (barCell (q1 c)) () 1

/-- The cells a device may wait on: those of its tensor core. -/
def L (g : GSem nD τ sig) : Finset Unit := if g.1.2 = .tc then {()} else ∅
/-- Levels: send cells and the pipeline's own lowest, then the barrier, then the receive cells four by four. -/
def lv (g : GSem nD τ sig) (_ : Unit) : ℕ := match g.2 with
  | .reg _ => 1
  | .dma s => if 20 ≤ s.val then 2 + (ofS s).val / 4 else 0

/-- Only the main cores' cells are watched. -/
theorem L_of_ne (g : GSem nD τ sig) (h : g.1.2 ≠ .tc) : L g = ∅ := if_neg h
/-- Every cell of a main core is watched. -/
theorem L_tc (c : Dev nD) (sm : SemLoc sig) : L ((c : Thread nD τ), sm) = {()} := if_pos rfl
/-- A receive cell's level grows with the copy's number. -/
theorem lv_rcv (c : Dev nD) (j : Fin 16) : lv (rcvCell c j) () = 2 + j.val / 4 := by
  show (if 20 ≤ (rcvS j).val then 2 + (ofS (rcvS j)).val / 4 else 0) = _
  rw [if_pos (by revert j; decide +kernel), ofS_rcv]
/-- The barrier's level is below every receive cell's. -/
theorem lv_bar (c : Dev nD) : lv (barCell c) () = 1 := rfl

/-- An owed cell of a list is the receive cell of one of its copies. -/
theorem Ol_pos {c : Dev nD} {l : List (Fin 16)} {g : GSem nD τ sig} {u : Unit} (h : 0 < Ol c l g u) : ∃ j ∈ l, g = rcvCell (pr j c) j := by
  induction l with
  | nil => exact absurd h (Nat.lt_irrefl 0)
  | cons j l ih =>
    unfold Ol at h
    rw [Pi.add_apply, Finsupp.add_apply, tallyAt_apply] at h
    by_cases hg : g = rcvCell (pr j c) j ∧ u = ()
    · exact ⟨j, List.mem_cons_self, hg.1⟩
    · rw [if_neg hg, Nat.add_zero] at h
      obtain ⟨i, hi, e⟩ := ih h
      exact ⟨i, List.mem_cons_of_mem _ hi, e⟩

/-- An owed cell is a receive cell of a partner or a partner's barrier cell. -/
theorem O₀_pos {c : Dev nD} {g : GSem nD τ sig} {u : Unit} (h : 0 < O₀ c g u) :
    (∃ j, g = rcvCell (pr j c) j) ∨ g = barCell (q1 c) ∨ g = barCell (q2 c) := by
  unfold O₀ at h
  rw [Pi.add_apply, Finsupp.add_apply, Pi.add_apply, Finsupp.add_apply, tallyAt_apply, tallyAt_apply] at h
  by_cases h1 : g = barCell (q1 c) ∧ u = ()
  · exact .inr (.inl h1.1)
  by_cases h2 : g = barCell (q2 c) ∧ u = ()
  · exact .inr (.inr h2.1)
  rw [if_neg h1, if_neg h2] at h
  obtain ⟨j, -, e⟩ := Ol_pos (by simpa using h)
  exact .inl ⟨j, e⟩

omit [FloatOps F] in
/-- A device may wait on a cell below every receive cell it still owes. -/
theorem mayWait_lt (c : Dev nD) (sm : SemLoc sig) (n : ℕ) (hn : lv ((c : Thread nD τ), sm) () ≤ n) (l : List (Fin 16)) (h : ∀ i ∈ l, n < 2 + i.val / 4) :
    (levAts L lv : sProp 𝕄) ⊢ MayWait (c : Thread nD τ) sm () (Ol c l) :=
  MayOwe.of_cut (L := L) (lev := lv) n (fun p hp => by rw [Finset.mem_singleton.mp hp, L_tc]; exact Finset.mem_singleton_self _)
    (fun g u hg => by obtain ⟨j, -, rfl⟩ := Ol_pos hg; rw [L_tc]; exact Finset.mem_singleton_self _)
    (fun p hp => by rw [Finset.mem_singleton.mp hp]; exact hn)
    (fun g u hg => by obtain ⟨j, hj, rfl⟩ := Ol_pos hg; rw [lv_rcv]; exact h j hj)

end Proto
-- ==== Proof.Steps.lean ====
module

public import proofs.«01_k».proof.Proof.Sched

/-! # One step of the program at a time

A load, a store, a copy sent, a copy's arrival or its source's return, a barrier signal and the barrier wait: what each
takes from the device's holdings and what it leaves. -/

@[expose] public section

noncomputable section

namespace Proto

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type}

local notation "𝕄" => MT nD τ sig Unit (Elt F) ℕ UU ℕ

/-! ## Holdings split and joined -/

section Pt
variable {b : Ref sig .tc} {d : Dev nD} {q : PosShare TreeShare} {S T : Finset (Idx ((d : Thread nD τ).loc b))}
  {f g : Buf (Elt F) ((d : Thread nD τ).loc b)}

/-- Disjoint parts held apart or together. -/
theorem pt_union (h : Disjoint S T) : pt (F := F) b d q (S ∪ T) f = iprop(pt b d q S f ∗ pt b d q T f) := by
  unfold pt; exact BI.equiv_iff.mp ⟨(pointsTo_union h).1, (pointsTo_union h).2⟩

/-- Contents matter only on the part held. -/
theorem pt_congr (h : ∀ i ∈ S, f i = g i) : pt (F := F) b d q S f = pt b d q S g := by
  unfold pt; exact pointsTo_congr h

/-- A full share is its two halves. -/
theorem pt_halves : pt (F := F) b d fullShare S f = iprop(pt b d fullShare.left S f ∗ pt b d fullShare.right S f) := by
  unfold pt
  exact BI.equiv_iff.mp ⟨(pointsTo_share (PosShare.mem_left_op_right fullShare)).1, (pointsTo_share (PosShare.mem_left_op_right fullShare)).2⟩

end Pt

/-- A band of 128 rows is its two halves. -/
theorem rows_two (R o : ℕ) : rows R o 128 = rows R o 64 ∪ rows R (o + 64) 64 := by
  ext i; rw [Finset.mem_union, mem_rows, mem_rows, mem_rows]; omega
/-- Bands apart are disjoint. -/
theorem rows_disjoint (R o n o' n' : ℕ) (h : o + n ≤ o' ∨ o' + n' ≤ o) : Disjoint (rows R o n) (rows R o' n') := by
  rw [Finset.disjoint_left]; intro i hi hi'; rw [mem_rows] at hi hi'; omega

/-! ## Records -/

variable [FloatOps F] (I : Given F)

/-- Every cell of every device follows the schedule, under the names `K`. -/
def records (K : GSem nD τ sig → ℕ) : sProp 𝕄 :=
  iprop(bigSep Finset.univ (fun d : Dev nD => cellInv ER (sch I) (K (barCell d)) (barCell d))
    ∗ bigSep Finset.univ (fun p : Dev nD × Fin 32 => cellInv ER (sch I) (K (ownCell p.1 p.2)) (ownCell p.1 p.2)))

/-- The records may be used again and again. -/
instance records_persistent (K : GSem nD τ sig → ℕ) : BI.Persistent (records I K) := by unfold records; infer_instance

/-- The record of a barrier cell. -/
theorem rec_bar (K : GSem nD τ sig → ℕ) (d : Dev nD) : records I K ⊢ cellInv ER (sch I) (K (barCell d)) (barCell d) := by
  unfold records
  have h : bigSep Finset.univ (fun d : Dev nD => cellInv ER (sch I) (K (barCell d)) (barCell d)) ⊢ cellInv ER (sch I) (K (barCell d)) (barCell d) :=
    bigSep_elim (Finset.mem_univ d)
  exact Laws.sep_and.trans (and_elimL.trans h)
/-- The record of a device's own cell. -/
theorem rec_own (K : GSem nD τ sig → ℕ) (d : Dev nD) (i : Fin 32) : records I K ⊢ cellInv ER (sch I) (K (ownCell d i)) (ownCell d i) := by
  unfold records
  have h : bigSep Finset.univ (fun p : Dev nD × Fin 32 => cellInv ER (sch I) (K (ownCell p.1 p.2)) (ownCell p.1 p.2))
      ⊢ cellInv ER (sch I) (K (ownCell d i)) (ownCell d i) := bigSep_elim (i := (d, i)) (Finset.mem_univ _)
  exact Laws.sep_and.trans (and_elimR.trans h)
/-- The record of a send cell. -/
theorem rec_snd (K : GSem nD τ sig → ℕ) (d : Dev nD) (j : Fin 16) : records I K ⊢ cellInv ER (sch I) (K (sndCell d j)) (sndCell d j) := rec_own I K d _
/-- The record of a receive cell. -/
theorem rec_rcv (K : GSem nD τ sig → ℕ) (d : Dev nD) (j : Fin 16) : records I K ⊢ cellInv ER (sch I) (K (rcvCell d j)) (rcvCell d j) := rec_own I K d _

/-! ## The program's logic -/

/-- No variants: the kernel has no loop. -/
abbrev 𝒱₀ : Variants := Variants.none

/-- Device `c` may run `p` to the end `Q`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- What a device still owes: the copies of a list. -/
def owed (c : Dev nD) (l : List (Fin 16)) : sProp 𝕄 := iprop(∃ W, owes (c : Thread nD τ) (Ol c l) W)

/-- The right to send copy `j`. -/
def tok (c : Dev nD) (j : Fin 16) : sProp 𝕄 :=
  iprop(dutyTok ER (sndCell c j) 0 false ∗ reached ER (sndCell c j) 0 ∗ dutyTok ER (rcvCell (pr j c) j) 0 false)
/-- The right to wait for copy `j`'s arrival. -/
def rtok (c : Dev nD) (j : Fin 16) : sProp 𝕄 := iprop(atPos ER (rcvCell c j) 0 ∅ 0 ∗ cred (tallyAt (rcvCell c j) () (amt j)))
/-- The place at copy `j`'s send cell. -/
def spos (c : Dev nD) (j : Fin 16) : sProp 𝕄 := atPos ER (sndCell c j) 0 ∅ 0
/-- The credit for copy `j`'s source. -/
def scred (c : Dev nD) (j : Fin 16) : sProp 𝕄 := cred (tallyAt (sndCell c j) () (amt j))

/-- A cell whose one round is over comes back at zero. -/
theorem close (κ : ℕ) (g : GSem nD τ sig) : iprop(cellInv ER (sch I) κ g ∗ atPos ER g (0 + 1) ∅ 0) ⊢ (|={Set.univ}=> semVal g 0 : sProp 𝕄) :=
  Rounds.cell_close ER (sch I) (Set.mem_univ κ) id (duties_later I g)

section Steps
variable {c : Dev nD} {α : Type} {Q : α → sProp (MT nD τ sig Unit (Elt F) ℕ UU ℕ)}

/-- A load of a rectangle: the part held covers it, and `v` is what is there. -/
theorem ld {cs : CoreSpace} {s : Shape} {e : EltTy} {m : Memref sig .tc cs s e} {r : Rect s} {hl : m.view.LoadsAt r.toLoadRect}
    {k : (r.toLoadRect.shape.Idx → Elt F e) → Prog (TpuEff nD τ sig (Elt F) Λ₀ .tc) α} {P : sProp 𝕄}
    {S : Finset (Idx (m.view.loc (c : Thread nD τ)))} {q : PosShare TreeShare} {f : Buf (Elt F) (m.view.loc (c : Thread nD τ))} (v : r.toLoadRect.shape.Idx → Elt F e)
    (hP : P = iprop(m.view.loc (c : Thread nD τ) ↦[S]{q} f)) (hS : ∀ x, m.view.emb (r.emb x) ∈ S)
    (hv : ∀ x, m.view.readAt (Elt F) r.toLoadRect f x = v x) :
    P ⊢ iprop((P -∗ WP c (k v) Q) -∗ WP c (.op (.load m r.toLoadRect hl) k) Q) := by
  subst hP
  rw [← show m.view.readAt (Elt F) r.toLoadRect f = v from funext hv]
  exact wp_load 𝒱₀ (c : Thread nD τ) none Set.univ
    (by intro i hi
        obtain ⟨x, hx, rfl⟩ := Finset.mem_map.mp hi
        rw [← Rect.map_emb_univ, Finset.mem_map] at hx
        obtain ⟨y, -, rfl⟩ := hx
        exact hS y)

/-- A load whose value is not used: it is whatever the part held gives. -/
theorem ldd {cs : CoreSpace} {s : Shape} {e : EltTy} {m : Memref sig .tc cs s e} {r : Rect s} {hl : m.view.LoadsAt r.toLoadRect}
    {k : (r.toLoadRect.shape.Idx → Elt F e) → Prog (TpuEff nD τ sig (Elt F) Λ₀ .tc) α} {P : sProp 𝕄}
    {S : Finset (Idx (m.view.loc (c : Thread nD τ)))} {q : PosShare TreeShare} {f : Buf (Elt F) (m.view.loc (c : Thread nD τ))}
    (hP : P = iprop(m.view.loc (c : Thread nD τ) ↦[S]{q} f)) (hS : ∀ x, m.view.emb (r.emb x) ∈ S) :
    P ⊢ iprop((P -∗ WP c (k (m.view.readAt (Elt F) r.toLoadRect f)) Q) -∗ WP c (.op (.load m r.toLoadRect hl) k) Q) :=
  ld _ hP hS fun _ => rfl

/-- A store over a rectangle: exactly the part held, which then holds `Y`. -/
theorem st {cs : CoreSpace} {s : Shape} {e : EltTy} {m : Memref sig .tc cs s e} {r : Rect s} {w : r.shape.Idx → Elt F e}
    {hx : (m.access r).Stores Finset.univ} {hm : (Finset.univ : Finset r.shape.Idx) = Finset.univ ∨ ∀ a, r.stride a = 1}
    {k : PUnit → Prog (TpuEff nD τ sig (Elt F) Λ₀ .tc) α} {P P' : sProp 𝕄}
    {S : Finset (Idx ((m.access r).loc (c : Thread nD τ)))} {f Y : Buf (Elt F) ((m.access r).loc (c : Thread nD τ))}
    (hP : P = iprop((m.access r).loc (c : Thread nD τ) ↦[S]{fullShare} f)) (hP' : P' = iprop((m.access r).loc (c : Thread nD τ) ↦[S]{fullShare} Y))
    (hS : (m.access r).set = S) (hY : ∀ x, (m.access r).read (Elt F) Y x = w x) :
    P ⊢ iprop((P' -∗ WP c (k ⟨⟩) Q) -∗ WP c (.op (.store m r w Finset.univ hx hm) k) Q) := by
  subst hP hP' hS
  have hc : (iprop((m.access r).loc (c : Thread nD τ) ↦[(m.access r).set]{fullShare} ((m.access r).write (Elt F) f w Finset.univ)) : sProp 𝕄)
      = iprop((m.access r).loc (c : Thread nD τ) ↦[(m.access r).set]{fullShare} Y) := by
    refine pointsTo_congr fun i hi => ?_
    obtain ⟨x, -, rfl⟩ := Finset.mem_map.mp hi
    rw [View.write_emb_of_mem (v := m.access r) (Val := Elt F) f _ (Finset.mem_univ x), ← hY x, View.read_apply]
    exact cast_cast _ _ _ |>.trans (cast_eq _ _)
  rw [← hc]
  exact wp_store 𝒱₀ (c : Thread nD τ) none Set.univ (View.setOn_univ _).subset

/-- Copy `j` sent: its source and the offered landing place go, the credit for the source's return comes. -/
theorem send (K : GSem nD τ sig → ℕ) (j : Fin 16) {n : Dev nD} (hn : n = pr j c) {sp sp' : Space} {s : Shape} {e : EltTy} {src : Memref sig .tc sp s e} {dst : Memref sig .tc sp' s e}
    {sS rS : DmaSem sig} (hsS : sS = sndS j) (hrS : rS = rcvS j) {hsc : dst.view.ref.isScScratch = false} {hsrc : src.view.WordExact} {hdst : dst.view.WordExact}
    {hsem : DmaTarget.Typed sp (.dma rS) (.remote (Dev.tc n) dst (.dma sS) hsc)}
    {k : PUnit → Prog (TpuEff nD τ sig (Elt F) Λ₀ .tc) α} (l : List (Fin 16)) {q : PosShare TreeShare}
    {fs : Buf (Elt F) (src.view.loc (c : Thread nD τ))} {Y : Buf (Elt F) (dst.view.loc (pr j c : Thread nD τ))}
    (hs : sendPay I c j = iprop(src.view.loc (c : Thread nD τ) ↦[src.view.set]{q} fs))
    (hl : landing (pr j c) j = (iprop(∃ fd, dst.view.loc (pr j c : Thread nD τ) ↦[dst.view.set]{fullShare} fd) : sProp 𝕄))
    (hr : recvPay I (pr j c) j = iprop(dst.view.loc (pr j c : Thread nD τ) ↦[dst.view.set]{fullShare} Y))
    (hw : ∀ x, dst.view.read (Elt F) Y x = src.view.read (Elt F) fs x) (hN : dst.view.dmaCredit = amt j) :
    iprop(records I K ∗ sendPay I c j ∗ offer (pr j c) j ∗ tok c j ∗ owed c (j :: l))
      ⊢ iprop((scred c j ∗ owed c l -∗ WP c (k ⟨⟩) Q)
        -∗ WP c (.op (.enqueueDma src (.remote (Dev.tc n) dst (.dma sS) hsc) (.dma rS) hsrc hdst hsem) k) Q) := by
  subst hn hsS hrS
  unfold offer tok owed scred
  rw [hs, hl]
  iintro ⟨#Hr, Hs, ⟨⟨%fd, Hd⟩, #Hrr⟩, ⟨Hts, #Hrs, Htr⟩, %W, HO⟩ Hk
  have hp : (iprop(dst.view.loc (pr j c : Thread nD τ) ↦[dst.view.set]{fullShare} (dst.view.write (Elt F) fd (src.view.read (Elt F) fs) Finset.univ)) : sProp 𝕄)
      ⊢ (sch I).payload (rcvCell (pr j c) j) 0 false := by
    rw [payload_rcv, hr]
    refine Entails.of_eq (pointsTo_congr fun i hi => ?_)
    obtain ⟨x, -, rfl⟩ := Finset.mem_map.mp hi
    rw [View.write_emb_of_mem (v := dst.view) (Val := Elt F) fd _ (Finset.mem_univ x), ← hw x, View.read_apply]
    exact cast_cast _ _ _ |>.trans (cast_eq _ _)
  iapply (Rounds.wp_send_pointsTo 𝒱₀ ER (sch I) (c : Thread nD τ) none (κ₁ := K (sndCell c j)) (κ₂ := K (rcvCell (pr j c) j))
    (r₁ := 0) (r₂ := 0) (d₁ := false) (d₂ := false) (fd := fd)
    (by rw [duties_snd]; exact Finset.mem_singleton_self _) (by rw [duties_rcv]; exact Finset.mem_singleton_self _)
    () () (amt j) (by rw [View.amount_dma]; exact hN) (amount_snd I c j false) (amount_rcv I (pr j c) j false) (Ol c l) rfl (W := W)
    (by rw [payload_snd, hs]) hp) $$ [Hs Hd HO Hts Htr]
  · isplitr; · iapply (rec_snd I K c j); iexact Hr
    isplitr; · iapply (rec_rcv I K (pr j c) j); iexact Hr
    isplitl [Hs]; · iexact Hs
    isplitl [Hd]; · iexact Hd
    isplitl [HO]; · iexact HO
    isplitl [Hts]; · iexact Hts
    isplitr; · iexact Hrs
    isplitl [Htr]; · iexact Htr
    iexact Hrr
  iintro ⟨Hc, HO⟩
  iapply Hk
  isplitl [Hc]; · iexact Hc
  iexists W
  iexact HO

/-- Copy `j`'s arrival waited for: the landed rows come, and the receive cell is over. -/
theorem recv (K : GSem nD τ sig → ℕ) (j : Fin 16) {sp sp' : Space} {s s' : Shape} {e e' : EltTy} {src : Memref sig .tc sp' s' e'} {κ' : Kind} {dst : Memref sig κ' sp s e}
    {rS : DmaSem sig} (hrS : rS = rcvS j) {hsrc : src.view.WordExact} {hdst : dst.view.WordExact}
    {k : PUnit → Prog (TpuEff nD τ sig (Elt F) Λ₀ .tc) α} (l : List (Fin 16)) (hN : dst.view.dmaCredit = amt j) (hlt : ∀ i ∈ l, j.val / 4 < i.val / 4) :
    iprop(records I K ∗ levAts L lv ∗ rtok c j ∗ owed c l)
      ⊢ iprop((semVal (rcvCell c j) 0 ∗ recvPay I c j ∗ owed c l -∗ WP c (k ⟨⟩) Q)
        -∗ WP c (.op (.waitDma2 rS src dst hsrc hdst) k) Q) := by
  subst hrS
  unfold rtok owed
  iintro ⟨#Hr, #Hlev, ⟨Hat, Hc⟩, %W, HO⟩ Hk
  iapply (Rounds.wp_wait_rest_token 𝒱₀ ER (sch I) (c : Thread nD τ) none (κ := K (rcvCell c j))
      (wpE_waitDma2_eq 𝒱₀ (c : Thread nD τ) none Set.univ) (Set.mem_univ _) () (O := Ol c l) (W := W) (R := 0) (m := 0) (T := ∅)
      (by rw [Nat.zero_add, expect_rcv, hN])) $$ [Hc HO Hat]
  · isplitr; · iapply (rec_rcv I K c j); iexact Hr
    isplitl [Hc]; · rw [hN]; iexact Hc
    isplitl [HO]; · iexact HO
    isplitr
    · iapply (mayWait_lt c (.dma (rcvS j)) (2 + j.val / 4) (lv_rcv c j).le l fun i hi => Nat.add_lt_add_left (hlt i hi) 2); iexact Hlev
    iexact Hat
  iintro ⟨HO, Hat, -, Hp⟩
  imod (close I (K (rcvCell c j)) (rcvCell c j)) $$ [Hat] with Hv
  · isplitr; · iapply (rec_rcv I K c j); iexact Hr
    iexact Hat
  iapply Hk
  isplitl [Hv]; · iexact Hv
  isplitl [Hp]; · iapply (Entails.of_eq (rest_rcv I c j)); iexact Hp
  iexists _
  iexact HO

/-- Copy `j`'s source waited for, nothing owed any more: it comes back, and the send cell is over. -/
theorem back (K : GSem nD τ sig → ℕ) (j : Fin 16) {sp sp' : Space} {s s' : Shape} {e e' : EltTy} {src : Memref sig .tc sp' s' e'} {κ' : Kind} {dst : Memref sig κ' sp s e}
    {sS : DmaSem sig} (hsS : sS = sndS j) {hsrc : src.view.WordExact} {hdst : dst.view.WordExact}
    {k : PUnit → Prog (TpuEff nD τ sig (Elt F) Λ₀ .tc) α} (hN : dst.view.dmaCredit = amt j) :
    iprop(records I K ∗ spos c j ∗ scred c j ∗ owed c [])
      ⊢ iprop((semVal (sndCell c j) 0 ∗ sendPay I c j ∗ owed c [] -∗ WP c (k ⟨⟩) Q)
        -∗ WP c (.op (.waitDma2 sS src dst hsrc hdst) k) Q) := by
  subst hsS
  unfold spos scred owed
  iintro ⟨#Hr, Hat, Hc, %W, HO⟩ Hk
  iapply (Rounds.wp_wait_rest_token 𝒱₀ ER (sch I) (c : Thread nD τ) none (κ := K (sndCell c j))
      (wpE_waitDma2_eq 𝒱₀ (c : Thread nD τ) none Set.univ) (Set.mem_univ _) () (O := 0) (W := W) (R := 0) (m := 0) (T := ∅)
      (by rw [Nat.zero_add, expect_snd, hN])) $$ [Hc HO Hat]
  · isplitr; · iapply (rec_snd I K c j); iexact Hr
    isplitl [Hc]; · rw [hN]; iexact Hc
    isplitl [HO]; · iexact HO
    isplitr; · rw [MayWait_zero]; iempintro
    iexact Hat
  iintro ⟨HO, Hat, -, Hp⟩
  imod (close I (K (sndCell c j)) (sndCell c j)) $$ [Hat] with Hv
  · isplitr; · iapply (rec_snd I K c j); iexact Hr
    iexact Hat
  iapply Hk
  isplitl [Hv]; · iexact Hv
  isplitl [Hp]; · iapply (Entails.of_eq (rest_snd I c j)); iexact Hp
  iexists _
  iexact HO

/-- The barrier signal to the partner at `d`: the landing places the partner will copy into go with it. -/
theorem signal (K : GSem nD τ sig → ℕ) (b : Bool) {d n : Dev nD} (hn : n = d) {k : PUnit → Prog (TpuEff nD τ sig (Elt F) Λ₀ .tc) α} (O : CellTallies nD τ sig Unit) {W} :
    iprop(records I K ∗ barPay (F := F) d b ∗ dutyTok ER (barCell d) 0 b ∗ reached ER (barCell d) 0 ∗ owes (c : Thread nD τ) (O + tallyAt (barCell d) () 1) W)
      ⊢ iprop((owes (c : Thread nD τ) O W -∗ WP c (k ⟨⟩) Q) -∗ WP c (.op (.semSignal ((n, Proc.tc) : Thread nD τ) barS (1#32).toInt) k) Q) := by
  subst hn
  iintro ⟨#Hr, Hp, Ht, #Hrr, HO⟩ Hk
  iapply (Rounds.wp_signal 𝒱₀ ER (sch I) (c : Thread nD τ) none (dst := (n : Thread nD τ)) (κ := K (barCell n))
      (by rw [duties_bar]; exact Finset.mem_univ b) ((amount_bar I n b).trans (by decide)) () O rfl) $$ [HO Ht Hp]
  · isplitr; · iapply (rec_bar I K n); iexact Hr
    isplitl [HO]; · iexact HO
    isplitl [Ht]; · iexact Ht
    isplitl [Hp]; · rw [payload_bar]; iexact Hp
    iexact Hrr
  iexact Hk

/-- The barrier wait: both partners' landing places come, and the barrier cell is over. -/
theorem barWait (K : GSem nD τ sig → ℕ) (l : List (Fin 16)) {k : PUnit → Prog (TpuEff nD τ sig (Elt F) Λ₀ .tc) α} {W} :
    iprop(records I K ∗ levAts L lv ∗ atPos ER (barCell c) 0 ∅ 0 ∗ cred (tallyAt (barCell c) () 2) ∗ owes (c : Thread nD τ) (Ol c l) W)
      ⊢ iprop((semVal (barCell c) 0 ∗ barPay (F := F) c false ∗ barPay (F := F) c true ∗ owed c l -∗ WP c (k ⟨⟩) Q)
        -∗ WP c (.op (.semWait barS (2#32).toInt) k) Q) := by
  unfold owed
  iintro ⟨#Hr, #Hlev, Hat, Hc, HO⟩ Hk
  iapply (Rounds.wp_wait_rest_token 𝒱₀ ER (sch I) (c : Thread nD τ) none (κ := K (barCell c))
      (wpE_semWait_eq 𝒱₀ (c : Thread nD τ) none Set.univ) (Set.mem_univ _) () (O := Ol c l) (W := W) (R := 0) (m := 0) (T := ∅)
      (by rw [expect_bar]; decide)) $$ [Hc HO Hat]
  · isplitr; · iapply (rec_bar I K c); iexact Hr
    isplitl [Hc]; · iexact Hc
    isplitl [HO]; · iexact HO
    isplitr; · iapply (mayWait_lt c (.reg barS) 1 (lv_bar c).le l fun i _ => by omega); iexact Hlev
    iexact Hat
  iintro ⟨HO, Hat, -, Hp⟩
  ihave Hp' := (Entails.of_eq (rest_bar I c)) $$ Hp
  icases Hp' with ⟨H1, H2⟩
  imod (close I (K (barCell c)) (barCell c)) $$ [Hat] with Hv
  · isplitr; · iapply (rec_bar I K c); iexact Hr
    iexact Hat
  iapply Hk
  isplitl [Hv]; · iexact Hv
  isplitl [H1]; · iexact H1
  isplitl [H2]; · iexact H2
  iexists _
  iexact HO

end Steps

end Proto
-- ==== Proof.Views.lean ====
module

public import proofs.«01_k».proof.Proof.Steps

/-! # The sixteen copies, seen as bands of rows

A copy's source and landing place are slices of buffers; each is a band of rows, and what lands is what the schedule
says lands. -/

@[expose] public section

noncomputable section

namespace Proto

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type}

local notation "𝕄" => MT nD τ sig Unit (Elt F) ℕ UU ℕ

/-! ## Slices -/

/-- A slice of a whole buffer, held, is the part of the buffer under its rectangle, held. -/
theorem pt_slice (b : Ref sig .tc) (c : Dev nD) (q : PosShare TreeShare) (r : Rect b.ty.shape) (h : ∀ a, r.stride a = 1)
    {S : Finset (Idx ((c : Thread nD τ).loc b))} (hS : r.set = S) (f : Buf (Elt F) ((c : Thread nD τ).loc b)) :
    pt b c q S f = (iprop(((Memref.whole b).slice r h).view.loc (c : Thread nD τ) ↦[((Memref.whole b).slice r h).view.set]{q} f) : sProp 𝕄) := by
  subst hS
  have e : ((Memref.whole b).slice r h).view.set = r.set := View.set_slice_whole b r
  rw [e]; rfl

/-- The same for the addend's block with its leading index dropped. -/
theorem pt_sliceX (c : Dev nD) (q : PosShare TreeShare) {off : Fin 3 → ℕ} {o : ℕ} (ho : off = ![0, o, 0]) (inb) (f : Buf (Elt F) ((c : Thread nD τ).loc xB)) :
    pt xB c q (rowsX o 128) f
      = (iprop((((Memref.whole cc0_stg0_0 : Memref sig .tc .vmem S1x1024x1024 .f32).slice (Rect.unit (s := S1x1024x1024) off S1x128x1024.size inb) (fun _ => rfl)).squeeze S128x1024 squeezes_S1x128x1024_S128x1024).view.loc (c : Thread nD τ)
        ↦[(((Memref.whole cc0_stg0_0 : Memref sig .tc .vmem S1x1024x1024 .f32).slice (Rect.unit (s := S1x1024x1024) off S1x128x1024.size inb) (fun _ => rfl)).squeeze S128x1024 squeezes_S1x128x1024_S128x1024).view.set]{q} f) : sProp 𝕄) := by
  have e : (((Memref.whole cc0_stg0_0 : Memref sig .tc .vmem S1x1024x1024 .f32).slice (Rect.unit (s := S1x1024x1024) off S1x128x1024.size inb) (fun _ => rfl)).squeeze S128x1024 squeezes_S1x128x1024_S128x1024).view.set = rowsX o 128 :=
    (View.set_reshape _ _).trans ((View.set_slice_whole cc0_stg0_0 (Rect.unit (s := S1x1024x1024) off S1x128x1024.size inb)).trans (unit_rowsX ho inb))
  rw [e]; rfl

/-- A landing place, at whatever it holds. -/
theorem land_slice {P : sProp 𝕄} (b : Ref sig .tc) (c : Dev nD) (r : Rect b.ty.shape) (h : ∀ a, r.stride a = 1)
    {S : Finset (Idx ((c : Thread nD τ).loc b))} (hS : r.set = S) (hP : P = iprop(∃ f, pt b c fullShare S f)) :
    P = (iprop(∃ f, ((Memref.whole b).slice r h).view.loc (c : Thread nD τ) ↦[((Memref.whole b).slice r h).view.set]{fullShare} f) : sProp 𝕄) := by
  subst hP
  exact congrArg _ (funext fun f => pt_slice b c fullShare r h hS f)

/-- An index under a full-width unit rectangle lies in its band. -/
theorem mem_unit {R o n : ℕ} {off : Fin 2 → ℕ} (ho : off = ![o, 0]) (inb) (x) :
    (Rect.unit (s := (⟨2, ![R, 1024]⟩ : Shape)) off (⟨2, ![n, 1024]⟩ : Shape).size inb).emb x ∈ rows R o n := by
  rw [← unit_rows ho inb, ← Rect.map_emb_univ]; exact Finset.mem_map_of_mem _ (Finset.mem_univ x)

/-- All the rows of a matrix. -/
theorem rows_all (R : ℕ) : rows R 0 R = Finset.univ := by
  ext i; rw [mem_rows]; exact ⟨fun _ => Finset.mem_univ _, fun _ => ⟨Nat.zero_le _, (Nat.zero_add R).symm ▸ idx2_lt0 i⟩⟩

/-! ## What is read and written -/

variable [FloatOps F] (I : Given F)

/-- The forwarded lower eighth, summed in place. -/
theorem cut_R1b (c : Dev nD) : cut 128 (f1 c) (R1b I c) = P1 I c := by
  unfold R1b; rw [cut_tile 128 (f1 c) 0 _ (by revert c; decide +kernel) (by decide), cut_all]
/-- The forwarded upper eighth, summed in place. -/
theorem cut_R2b (c : Dev nD) : cut 128 (f2 c) (R2b I c) = P2 I c := by
  unfold R2b; rw [cut_tile 128 (f2 c) 0 _ (by revert c; decide +kernel) (by decide), cut_all]
/-- Copies 4 and 5: what lands is what was summed. -/
theorem fwd3 (c : Dev nD) (p o : ℕ) (hp : p = 0 ∨ p = 64) (ho : o = f1 c + p) : cut 64 p (R3 I (q2 c)) = cut 64 o (R1b I c) := by
  have hf : f1 c = 0 ∨ f1 c = 128 := by clear ho; revert c; decide +kernel
  unfold R3 R1b; rw [q2_q2, cut_tile 64 o p _ (by omega) (by omega)]
/-- Copies 6 and 7: what lands is what was summed. -/
theorem fwd4 (c : Dev nD) (p o : ℕ) (hp : p = 0 ∨ p = 64) (ho : o = f2 c + p) : cut 64 p (R4 I (q1 c)) = cut 64 o (R2b I c) := by
  have hf : f2 c = 0 ∨ f2 c = 128 := by clear ho; revert c; decide +kernel
  unfold R4 R2b; rw [q1_q1, cut_tile 64 o p _ (by omega) (by omega)]

omit [FloatOps F] in
/-- The scale's block is its one row. -/
theorem cut_g (g : Vec F S1x1024 .f32) : cut 1 0 g = g := by
  funext x
  have hx : (x 0).val < 1 := (x 0).isLt
  unfold cut
  refine congrArg g (funext fun a => ?_)
  match a with
  | ⟨0, _⟩ => exact Fin.ext (by show (0 + (x 0).val) % 1 = (x 0).val; omega)
  | ⟨1, _⟩ => rfl

/-- The forwarded lower eighth's rows of the addend. -/
theorem off10_g (c : Dev nD) : k0_off10 c = ![0, g1 c, 0] := (off10_eq c).trans (by revert c; decide +kernel)
/-- The forwarded upper eighth's rows of the addend. -/
theorem off14_g (c : Dev nD) : k0_off14 c = ![0, g2 c, 0] := (off14_eq c).trans (by revert c; decide +kernel)

/-! ## Landing places and landed rows, in the sender's offsets -/

omit [FloatOps F] in
/-- Where copy 0 lands. -/
theorem dst0 (c : Dev nD) : landing (F := F) (pr 0 c) 0 = iprop(∃ f, pt r1B (pr 0 c) fullShare (rows 256 (f1 c) 128) f) := by
  have h : f1 (pr 0 c) = f1 c := by revert c; decide +kernel
  show iprop(∃ f, pt r1B (pr 0 c) fullShare (rows 256 (f1 (pr 0 c)) 128) f) = _
  rw [h]
/-- What copy 0 lands. -/
theorem got0 (c : Dev nD) : recvPay I (pr 0 c) 0 = pt r1B (pr 0 c) fullShare (rows 256 (f1 c) 128) (R1a I (pr 0 c)) := by
  have h : f1 (pr 0 c) = f1 c := by revert c; decide +kernel
  show pt r1B (pr 0 c) fullShare (rows 256 (f1 (pr 0 c)) 128) (R1a I (pr 0 c)) = _
  rw [h]
omit [FloatOps F] in
/-- Where copy 1 lands. -/
theorem dst1 (c : Dev nD) : landing (F := F) (pr 1 c) 1 = iprop(∃ f, pt r1B (pr 1 c) fullShare (rows 256 (c1 c) 128) f) := by
  have h : c1 (pr 1 c) = c1 c := by revert c; decide +kernel
  show iprop(∃ f, pt r1B (pr 1 c) fullShare (rows 256 (c1 (pr 1 c)) 128) f) = _
  rw [h]
/-- What copy 1 lands. -/
theorem got1 (c : Dev nD) : recvPay I (pr 1 c) 1 = pt r1B (pr 1 c) fullShare (rows 256 (c1 c) 128) (R1a I (pr 1 c)) := by
  have h : c1 (pr 1 c) = c1 c := by revert c; decide +kernel
  show pt r1B (pr 1 c) fullShare (rows 256 (c1 (pr 1 c)) 128) (R1a I (pr 1 c)) = _
  rw [h]
omit [FloatOps F] in
/-- Where copy 2 lands. -/
theorem dst2 (c : Dev nD) : landing (F := F) (pr 2 c) 2 = iprop(∃ f, pt r2B (pr 2 c) fullShare (rows 256 (c2 c) 128) f) := by
  have h : f2 (pr 2 c) = c2 c := by revert c; decide +kernel
  show iprop(∃ f, pt r2B (pr 2 c) fullShare (rows 256 (f2 (pr 2 c)) 128) f) = _
  rw [h]
/-- What copy 2 lands. -/
theorem got2 (c : Dev nD) : recvPay I (pr 2 c) 2 = pt r2B (pr 2 c) fullShare (rows 256 (c2 c) 128) (R2a I (pr 2 c)) := by
  have h : f2 (pr 2 c) = c2 c := by revert c; decide +kernel
  show pt r2B (pr 2 c) fullShare (rows 256 (f2 (pr 2 c)) 128) (R2a I (pr 2 c)) = _
  rw [h]
omit [FloatOps F] in
/-- Where copy 3 lands. -/
theorem dst3 (c : Dev nD) : landing (F := F) (pr 3 c) 3 = iprop(∃ f, pt r2B (pr 3 c) fullShare (rows 256 (f2 c) 128) f) := by
  have h : c2 (pr 3 c) = f2 c := by revert c; decide +kernel
  show iprop(∃ f, pt r2B (pr 3 c) fullShare (rows 256 (c2 (pr 3 c)) 128) f) = _
  rw [h]
/-- What copy 3 lands. -/
theorem got3 (c : Dev nD) : recvPay I (pr 3 c) 3 = pt r2B (pr 3 c) fullShare (rows 256 (f2 c) 128) (R2a I (pr 3 c)) := by
  have h : c2 (pr 3 c) = f2 c := by revert c; decide +kernel
  show pt r2B (pr 3 c) fullShare (rows 256 (c2 (pr 3 c)) 128) (R2a I (pr 3 c)) = _
  rw [h]
omit [FloatOps F] in
/-- Where copy 4 lands. -/
theorem dst4 (c : Dev nD) : landing (F := F) (pr 4 c) 4 = iprop(∃ f, pt r3B (pr 4 c) fullShare (rows 128 (0) 64) f) := by
  have h : 0 = 0 := by revert c; decide +kernel
  show iprop(∃ f, pt r3B (pr 4 c) fullShare (rows 128 (0) 64) f) = _
  rw [h]
/-- What copy 4 lands. -/
theorem got4 (c : Dev nD) : recvPay I (pr 4 c) 4 = pt r3B (pr 4 c) fullShare (rows 128 (0) 64) (R3 I (pr 4 c)) := by
  have h : 0 = 0 := by revert c; decide +kernel
  show pt r3B (pr 4 c) fullShare (rows 128 (0) 64) (R3 I (pr 4 c)) = _
  rw [h]
omit [FloatOps F] in
/-- Where copy 5 lands. -/
theorem dst5 (c : Dev nD) : landing (F := F) (pr 5 c) 5 = iprop(∃ f, pt r3B (pr 5 c) fullShare (rows 128 (64) 64) f) := by
  have h : 64 = 64 := by revert c; decide +kernel
  show iprop(∃ f, pt r3B (pr 5 c) fullShare (rows 128 (64) 64) f) = _
  rw [h]
/-- What copy 5 lands. -/
theorem got5 (c : Dev nD) : recvPay I (pr 5 c) 5 = pt r3B (pr 5 c) fullShare (rows 128 (64) 64) (R3 I (pr 5 c)) := by
  have h : 64 = 64 := by revert c; decide +kernel
  show pt r3B (pr 5 c) fullShare (rows 128 (64) 64) (R3 I (pr 5 c)) = _
  rw [h]
omit [FloatOps F] in
/-- Where copy 6 lands. -/
theorem dst6 (c : Dev nD) : landing (F := F) (pr 6 c) 6 = iprop(∃ f, pt r4B (pr 6 c) fullShare (rows 128 (0) 64) f) := by
  have h : 0 = 0 := by revert c; decide +kernel
  show iprop(∃ f, pt r4B (pr 6 c) fullShare (rows 128 (0) 64) f) = _
  rw [h]
/-- What copy 6 lands. -/
theorem got6 (c : Dev nD) : recvPay I (pr 6 c) 6 = pt r4B (pr 6 c) fullShare (rows 128 (0) 64) (R4 I (pr 6 c)) := by
  have h : 0 = 0 := by revert c; decide +kernel
  show pt r4B (pr 6 c) fullShare (rows 128 (0) 64) (R4 I (pr 6 c)) = _
  rw [h]
omit [FloatOps F] in
/-- Where copy 7 lands. -/
theorem dst7 (c : Dev nD) : landing (F := F) (pr 7 c) 7 = iprop(∃ f, pt r4B (pr 7 c) fullShare (rows 128 (64) 64) f) := by
  have h : 64 = 64 := by revert c; decide +kernel
  show iprop(∃ f, pt r4B (pr 7 c) fullShare (rows 128 (64) 64) f) = _
  rw [h]
/-- What copy 7 lands. -/
theorem got7 (c : Dev nD) : recvPay I (pr 7 c) 7 = pt r4B (pr 7 c) fullShare (rows 128 (64) 64) (R4 I (pr 7 c)) := by
  have h : 64 = 64 := by revert c; decide +kernel
  show pt r4B (pr 7 c) fullShare (rows 128 (64) 64) (R4 I (pr 7 c)) = _
  rw [h]
omit [FloatOps F] in
/-- Where copy 8 lands. -/
theorem dst8 (c : Dev nD) : landing (F := F) (pr 8 c) 8 = iprop(∃ f, pt oB (pr 8 c) fullShare (rows 1024 (o1 c) 64) f) := by
  have h : g1 (pr 8 c) = o1 c := by revert c; decide +kernel
  show iprop(∃ f, pt oB (pr 8 c) fullShare (rows 1024 (g1 (pr 8 c)) 64) f) = _
  rw [h]
/-- What copy 8 lands. -/
theorem got8 (c : Dev nD) : recvPay I (pr 8 c) 8 = pt oB (pr 8 c) fullShare (rows 1024 (o1 c) 64) (OUT I) := by
  have h : g1 (pr 8 c) = o1 c := by revert c; decide +kernel
  show pt oB (pr 8 c) fullShare (rows 1024 (g1 (pr 8 c)) 64) (OUT I) = _
  rw [h]
omit [FloatOps F] in
/-- Where copy 9 lands. -/
theorem dst9 (c : Dev nD) : landing (F := F) (pr 9 c) 9 = iprop(∃ f, pt oB (pr 9 c) fullShare (rows 1024 (o1 c + 64) 64) f) := by
  have h : g1 (pr 9 c) + 64 = o1 c + 64 := by revert c; decide +kernel
  show iprop(∃ f, pt oB (pr 9 c) fullShare (rows 1024 (g1 (pr 9 c) + 64) 64) f) = _
  rw [h]
/-- What copy 9 lands. -/
theorem got9 (c : Dev nD) : recvPay I (pr 9 c) 9 = pt oB (pr 9 c) fullShare (rows 1024 (o1 c + 64) 64) (OUT I) := by
  have h : g1 (pr 9 c) + 64 = o1 c + 64 := by revert c; decide +kernel
  show pt oB (pr 9 c) fullShare (rows 1024 (g1 (pr 9 c) + 64) 64) (OUT I) = _
  rw [h]
omit [FloatOps F] in
/-- Where copy 10 lands. -/
theorem dst10 (c : Dev nD) : landing (F := F) (pr 10 c) 10 = iprop(∃ f, pt oB (pr 10 c) fullShare (rows 1024 (o2 c) 64) f) := by
  have h : g2 (pr 10 c) = o2 c := by revert c; decide +kernel
  show iprop(∃ f, pt oB (pr 10 c) fullShare (rows 1024 (g2 (pr 10 c)) 64) f) = _
  rw [h]
/-- What copy 10 lands. -/
theorem got10 (c : Dev nD) : recvPay I (pr 10 c) 10 = pt oB (pr 10 c) fullShare (rows 1024 (o2 c) 64) (OUT I) := by
  have h : g2 (pr 10 c) = o2 c := by revert c; decide +kernel
  show pt oB (pr 10 c) fullShare (rows 1024 (g2 (pr 10 c)) 64) (OUT I) = _
  rw [h]
omit [FloatOps F] in
/-- Where copy 11 lands. -/
theorem dst11 (c : Dev nD) : landing (F := F) (pr 11 c) 11 = iprop(∃ f, pt oB (pr 11 c) fullShare (rows 1024 (o2 c + 64) 64) f) := by
  have h : g2 (pr 11 c) + 64 = o2 c + 64 := by revert c; decide +kernel
  show iprop(∃ f, pt oB (pr 11 c) fullShare (rows 1024 (g2 (pr 11 c) + 64) 64) f) = _
  rw [h]
/-- What copy 11 lands. -/
theorem got11 (c : Dev nD) : recvPay I (pr 11 c) 11 = pt oB (pr 11 c) fullShare (rows 1024 (o2 c + 64) 64) (OUT I) := by
  have h : g2 (pr 11 c) + 64 = o2 c + 64 := by revert c; decide +kernel
  show pt oB (pr 11 c) fullShare (rows 1024 (g2 (pr 11 c) + 64) 64) (OUT I) = _
  rw [h]
omit [FloatOps F] in
/-- Where copy 12 lands. -/
theorem dst12 (c : Dev nD) : landing (F := F) (pr 12 c) 12 = iprop(∃ f, pt oB (pr 12 c) fullShare (rows 1024 (o1 c) 128) f) := by
  have h : o1 (q1 (pr 12 c)) = o1 c := by revert c; decide +kernel
  show iprop(∃ f, pt oB (pr 12 c) fullShare (rows 1024 (o1 (q1 (pr 12 c))) 128) f) = _
  rw [h]
/-- What copy 12 lands. -/
theorem got12 (c : Dev nD) : recvPay I (pr 12 c) 12 = pt oB (pr 12 c) fullShare (rows 1024 (o1 c) 128) (OUT I) := by
  have h : o1 (q1 (pr 12 c)) = o1 c := by revert c; decide +kernel
  show pt oB (pr 12 c) fullShare (rows 1024 (o1 (q1 (pr 12 c))) 128) (OUT I) = _
  rw [h]
omit [FloatOps F] in
/-- Where copy 13 lands. -/
theorem dst13 (c : Dev nD) : landing (F := F) (pr 13 c) 13 = iprop(∃ f, pt oB (pr 13 c) fullShare (rows 1024 (g1 c) 128) f) := by
  have h : g1 (q1 (pr 13 c)) = g1 c := by revert c; decide +kernel
  show iprop(∃ f, pt oB (pr 13 c) fullShare (rows 1024 (g1 (q1 (pr 13 c))) 128) f) = _
  rw [h]
/-- What copy 13 lands. -/
theorem got13 (c : Dev nD) : recvPay I (pr 13 c) 13 = pt oB (pr 13 c) fullShare (rows 1024 (g1 c) 128) (OUT I) := by
  have h : g1 (q1 (pr 13 c)) = g1 c := by revert c; decide +kernel
  show pt oB (pr 13 c) fullShare (rows 1024 (g1 (q1 (pr 13 c))) 128) (OUT I) = _
  rw [h]
omit [FloatOps F] in
/-- Where copy 14 lands. -/
theorem dst14 (c : Dev nD) : landing (F := F) (pr 14 c) 14 = iprop(∃ f, pt oB (pr 14 c) fullShare (rows 1024 (o2 c) 128) f) := by
  have h : o2 (q2 (pr 14 c)) = o2 c := by revert c; decide +kernel
  show iprop(∃ f, pt oB (pr 14 c) fullShare (rows 1024 (o2 (q2 (pr 14 c))) 128) f) = _
  rw [h]
/-- What copy 14 lands. -/
theorem got14 (c : Dev nD) : recvPay I (pr 14 c) 14 = pt oB (pr 14 c) fullShare (rows 1024 (o2 c) 128) (OUT I) := by
  have h : o2 (q2 (pr 14 c)) = o2 c := by revert c; decide +kernel
  show pt oB (pr 14 c) fullShare (rows 1024 (o2 (q2 (pr 14 c))) 128) (OUT I) = _
  rw [h]
omit [FloatOps F] in
/-- Where copy 15 lands. -/
theorem dst15 (c : Dev nD) : landing (F := F) (pr 15 c) 15 = iprop(∃ f, pt oB (pr 15 c) fullShare (rows 1024 (g2 c) 128) f) := by
  have h : g2 (q2 (pr 15 c)) = g2 c := by revert c; decide +kernel
  show iprop(∃ f, pt oB (pr 15 c) fullShare (rows 1024 (g2 (q2 (pr 15 c))) 128) f) = _
  rw [h]
/-- What copy 15 lands. -/
theorem got15 (c : Dev nD) : recvPay I (pr 15 c) 15 = pt oB (pr 15 c) fullShare (rows 1024 (g2 c) 128) (OUT I) := by
  have h : g2 (q2 (pr 15 c)) = g2 c := by revert c; decide +kernel
  show pt oB (pr 15 c) fullShare (rows 1024 (g2 (q2 (pr 15 c))) 128) (OUT I) = _
  rw [h]

end Proto
-- ==== Proof.PartsA.lean ====
module

public import proofs.«01_k».proof.Proof.Views

/-! # The first exchange -/

@[expose] public section

noncomputable section

namespace Proto

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] (I : Given F)

local notation "𝕄" => MT nD τ sig Unit (Elt F) ℕ UU ℕ

/-- Copies 2 and 3 leave; copy 0 lands. -/
theorem part3 (K : GSem nD τ sig → ℕ) (c : Dev nD) {α : Type} (Kt : (PUnit) → Prog (TpuEff nD τ sig (Elt F) Λ₀ .tc) α) (Q : α → sProp 𝕄) (v15 : BitVec 32) (v16 : BitVec 32) (v24 : BitVec 32) (v28 : BitVec 32) (v37 : BitVec 32) (v38 : BitVec 32) (w : BitVec 32) :
    iprop(records I K ∗ levAts L lv ∗ sendPay I c 2
        ∗ offer (pr 2 c) 2
        ∗ tok c 2
        ∗ sendPay I c 3
        ∗ offer (pr 3 c) 3
        ∗ tok c 3
        ∗ rtok c 0
        ∗ owed c [2, 3, 4, 5, 6, 7, 8, 10, 9, 11, 12, 14, 13, 15])
      ⊢ iprop(((scred c 2
        ∗ scred c 3
        ∗ semVal (rcvCell c 0) 0
        ∗ recvPay I c 0
        ∗ owed c [4, 5, 6, 7, 8, 10, 9, 11, 12, 14, 13, 15])
        -∗ WP c (Kt ⟨⟩) Q)
        -∗ WP c (k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 c v15 v16 v24 v28 v37 v38 w >>= Kt) Q) := by
  rw [k0_part3_eq_skeleton]; unfold k0_part3_skel
  simp only [semSignalWord, semWaitWord, Prog.lift, Prog.bind_op, Prog.bind_ret, Prog.pure_eq_ret]
  iintro ⟨#Hrec, #Hlev, Hs2, Ho2, Ht2, Hs3, Ho3, Ht3, Hr0, HO⟩ Hk
  -- copy 2 leaves for q2
  iapply (send I K 2 (dev5_eq c) (snd_at 2 rfl _) (rcv_at 2 rfl _) [3, 4, 5, 6, 7, 8, 10, 9, 11, 12, 14, 13, 15]
      (by exact pt_sliceX c fullShare.right (o := g2 (q2 c)) ((off6_eq c).trans (by revert c; decide +kernel)) _ (I.x c))
      (by exact land_slice r2B (pr 2 c) (Rect.unit (s := S256x1024) (k0_off5 c) S128x1024.size (k0_off5_inb c)) (fun _ => rfl) (unit_rows (off5_eq c) _) (dst2 c))
      (by exact (got2 I c).trans (pt_slice r2B (pr 2 c) fullShare (Rect.unit (s := S256x1024) (k0_off5 c) S128x1024.size (k0_off5_inb c)) (fun _ => rfl) (unit_rows (off5_eq c) _) _))
      (by intro x; exact (emb_cut (off5_eq c) _ _ x).trans ((congrFun (land2 I c (c2 c) (g2 (q2 c)) (by revert c; decide +kernel) (by revert c; decide +kernel)) x).trans (emb_cutX (o := g2 (q2 c)) ((off6_eq c).trans (by revert c; decide +kernel)) _ _ _ x).symm))
      (by rfl)) $$ [Hs2 Ho2 Ht2 HO]
  · isplitr; · iexact Hrec
    isplitl [Hs2]; · iexact Hs2
    isplitl [Ho2]; · iexact Ho2
    isplitl [Ht2]; · iexact Ht2
    iexact HO
  iintro ⟨Hc2, HO⟩
  -- copy 3 leaves for q2
  iapply (send I K 3 (dev6_eq c) (snd_at 3 rfl _) (rcv_at 3 rfl _) [4, 5, 6, 7, 8, 10, 9, 11, 12, 14, 13, 15]
      (by exact pt_sliceX c fullShare.right (o := o2 (q2 c)) ((off8_eq c).trans (by revert c; decide +kernel)) _ (I.x c))
      (by exact land_slice r2B (pr 3 c) (Rect.unit (s := S256x1024) (k0_off7 c) S128x1024.size (k0_off7_inb c)) (fun _ => rfl) (unit_rows (off7_eq c) _) (dst3 c))
      (by exact (got3 I c).trans (pt_slice r2B (pr 3 c) fullShare (Rect.unit (s := S256x1024) (k0_off7 c) S128x1024.size (k0_off7_inb c)) (fun _ => rfl) (unit_rows (off7_eq c) _) _))
      (by intro x; exact (emb_cut (off7_eq c) _ _ x).trans ((congrFun (land2 I c (f2 c) (o2 (q2 c)) (by revert c; decide +kernel) (by revert c; decide +kernel)) x).trans (emb_cutX (o := o2 (q2 c)) ((off8_eq c).trans (by revert c; decide +kernel)) _ _ _ x).symm))
      (by rfl)) $$ [Hs3 Ho3 Ht3 HO]
  · isplitr; · iexact Hrec
    isplitl [Hs3]; · iexact Hs3
    isplitl [Ho3]; · iexact Ho3
    isplitl [Ht3]; · iexact Ht3
    iexact HO
  iintro ⟨Hc3, HO⟩
  -- copy 0 has landed
  iapply (recv I K 0 (rcv_at 0 rfl _) [4, 5, 6, 7, 8, 10, 9, 11, 12, 14, 13, 15] (by rfl) (by decide)) $$ [Hr0 HO]
  · isplitr; · iexact Hrec
    isplitr; · iexact Hlev
    isplitl [Hr0]; · iexact Hr0
    iexact HO
  iintro ⟨Hy0, Hp0, HO⟩
  iapply Hk
  isplitl [Hc2]; · iexact Hc2
  isplitl [Hc3]; · iexact Hc3
  isplitl [Hy0]; · iexact Hy0
  isplitl [Hp0]; · iexact Hp0
  iexact HO

/-- The lower forwarded eighth is summed and leaves as copies 4 and 5. -/
theorem part4 (K : GSem nD τ sig → ℕ) (c : Dev nD) {α : Type} (Kt : (PUnit) → Prog (TpuEff nD τ sig (Elt F) Λ₀ .tc) α) (Q : α → sProp 𝕄) (v16 : BitVec 32) (v20 : BitVec 32) (v37 : BitVec 32) :
    iprop(records I K ∗ levAts L lv ∗ recvPay I c 0
        ∗ pt xB c fullShare.left Finset.univ (I.x c)
        ∗ offer (pr 4 c) 4
        ∗ tok c 4
        ∗ offer (pr 5 c) 5
        ∗ tok c 5
        ∗ owed c [4, 5, 6, 7, 8, 10, 9, 11, 12, 14, 13, 15])
      ⊢ iprop(((pt xB c fullShare.left Finset.univ (I.x c)
        ∗ scred c 4
        ∗ scred c 5
        ∗ owed c [6, 7, 8, 10, 9, 11, 12, 14, 13, 15])
        -∗ WP c (Kt ⟨⟩) Q)
        -∗ WP c (k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 c v16 v20 v37 >>= Kt) Q) := by
  rw [k0_part4_eq_skeleton]; unfold k0_part4_skel
  simp only [semSignalWord, semWaitWord, Prog.lift, Prog.bind_op, Prog.bind_ret, Prog.pure_eq_ret]
  iintro ⟨#Hrec, #Hlev, Hp0, HxL, Ho4, Ht4, Ho5, Ht5, HO⟩ Hk
  ihave Hq := (Entails.of_eq (show recvPay I c 0 = pt r1B c fullShare (rows 256 (f1 c) 128) (R1a I c) from rfl)) $$ Hp0
  icases Hq with Hf
  iapply (ld (m := (Memref.whole cc0_scratch0 : Memref sig .tc .vmem S256x1024 .f32)) (r := (Rect.unit (s := S256x1024) (k0_off9 c) S128x1024.size (k0_off9_inb c))) (P := pt r1B c fullShare (rows 256 (f1 c) 128) (R1a I c)) (cut 128 (f1 c) (R1a I c)) (by exact rfl) (by intro x; exact mem_unit (off9_eq c) _ x) (by intro x; exact emb_cut (o := f1 c) (off9_eq c) _ _ x)) $$ Hf; iintro Hf
  iapply (ld (m := (Memref.whole cc0_stg0_0 : Memref sig .tc .vmem S1x1024x1024 .f32)) (r := (Rect.unit (s := S1x1024x1024) (k0_off10 c) S1x128x1024.size (k0_off10_inb c))) (P := pt xB c fullShare.left Finset.univ (I.x c)) (cutB 128 (g1 c) (I.x c)) (by exact rfl) (by intro x; exact Finset.mem_univ _) (by intro x; exact emb_cutB (off10_g c) _ _ x)) $$ HxL; iintro HxL
  iapply (ldd (m := (Memref.whole cc0_scratch0 : Memref sig .tc .vmem S256x1024 .f32)) (r := (Rect.unit (s := S256x1024) (k0_off9 c) S128x1024.size (k0_off9_inb c))) (P := pt r1B c fullShare (rows 256 (f1 c) 128) (R1a I c)) (by exact rfl) (by intro x; exact mem_unit (off9_eq c) _ x)) $$ Hf; iintro Hf
  iapply (st (m := (Memref.whole cc0_scratch0 : Memref sig .tc .vmem S256x1024 .f32)) (r := (Rect.unit (s := S256x1024) (k0_off9 c) S128x1024.size (k0_off9_inb c))) (P := pt r1B c fullShare (rows 256 (f1 c) 128) (R1a I c)) (P' := pt r1B c fullShare (rows 256 (f1 c) 128) (R1b I c)) (by exact rfl) (by exact rfl) (by exact (View.set_slice_whole cc0_scratch0 (Rect.unit (s := S256x1024) (k0_off9 c) S128x1024.size (k0_off9_inb c))).trans (unit_rows (off9_eq c) _)) (by intro x; exact (emb_cut (off9_eq c) _ _ x).trans (congrFun (cut_R1b I c) x))) $$ Hf; iintro Hf
  ihave Hq := (Entails.of_eq (show pt r1B c fullShare (rows 256 (f1 c) 128) (R1b I c) = iprop(sendPay I c 4 ∗ sendPay I c 5) from (congrArg (fun S => pt r1B c fullShare S (R1b I c)) (rows_two 256 (f1 c))).trans (pt_union (rows_disjoint _ _ _ _ _ (Or.inl le_rfl))))) $$ Hf
  icases Hq with ⟨Hs4, Hs5⟩
  -- copy 4 leaves for q2
  iapply (send I K 4 (dev7_eq c) (snd_at 4 rfl _) (rcv_at 4 rfl _) [5, 6, 7, 8, 10, 9, 11, 12, 14, 13, 15]
      (by exact pt_slice r1B c fullShare (Rect.unit (s := S256x1024) (k0_off11 c) S64x1024.size (k0_off11_inb c)) (fun _ => rfl) (unit_rows (off11_eq c) _) (R1b I c))
      (by exact land_slice r3B (pr 4 c) (Rect.unit (s := S128x1024) ![0, 0] S64x1024.size inb_S128x1024_S64x1024_0_0) (fun _ => rfl) (unit_rows rfl _) (dst4 c))
      (by exact (got4 I c).trans (pt_slice r3B (pr 4 c) fullShare (Rect.unit (s := S128x1024) ![0, 0] S64x1024.size inb_S128x1024_S64x1024_0_0) (fun _ => rfl) (unit_rows rfl _) _))
      (by intro x; exact (emb_cut (o := 0) rfl _ _ x).trans ((congrFun (fwd3 I c 0 (f1 c) (by decide) rfl) x).trans (emb_cut (off11_eq c) _ _ x).symm))
      (by rfl)) $$ [Hs4 Ho4 Ht4 HO]
  · isplitr; · iexact Hrec
    isplitl [Hs4]; · iexact Hs4
    isplitl [Ho4]; · iexact Ho4
    isplitl [Ht4]; · iexact Ht4
    iexact HO
  iintro ⟨Hc4, HO⟩
  -- copy 5 leaves for q2
  iapply (send I K 5 (dev8_eq c) (snd_at 5 rfl _) (rcv_at 5 rfl _) [6, 7, 8, 10, 9, 11, 12, 14, 13, 15]
      (by exact pt_slice r1B c fullShare (Rect.unit (s := S256x1024) (k0_off12 c) S64x1024.size (k0_off12_inb c)) (fun _ => rfl) (unit_rows (off12_eq c) _) (R1b I c))
      (by exact land_slice r3B (pr 5 c) (Rect.unit (s := S128x1024) ![64, 0] S64x1024.size inb_S128x1024_S64x1024_64_0) (fun _ => rfl) (unit_rows rfl _) (dst5 c))
      (by exact (got5 I c).trans (pt_slice r3B (pr 5 c) fullShare (Rect.unit (s := S128x1024) ![64, 0] S64x1024.size inb_S128x1024_S64x1024_64_0) (fun _ => rfl) (unit_rows rfl _) _))
      (by intro x; exact (emb_cut (o := 64) rfl _ _ x).trans ((congrFun (fwd3 I c 64 (f1 c + 64) (by decide) rfl) x).trans (emb_cut (off12_eq c) _ _ x).symm))
      (by rfl)) $$ [Hs5 Ho5 Ht5 HO]
  · isplitr; · iexact Hrec
    isplitl [Hs5]; · iexact Hs5
    isplitl [Ho5]; · iexact Ho5
    isplitl [Ht5]; · iexact Ht5
    iexact HO
  iintro ⟨Hc5, HO⟩
  iapply Hk
  isplitl [HxL]; · iexact HxL
  isplitl [Hc4]; · iexact Hc4
  isplitl [Hc5]; · iexact Hc5
  iexact HO

/-- Copy 2 lands; the upper forwarded eighth is summed and leaves as copies 6 and 7. -/
theorem part5 (K : GSem nD τ sig → ℕ) (c : Dev nD) {α : Type} (Kt : (BitVec 32) → Prog (TpuEff nD τ sig (Elt F) Λ₀ .tc) α) (Q : α → sProp 𝕄) (v15 : BitVec 32) (v24 : BitVec 32) (v38 : BitVec 32) :
    iprop(records I K ∗ levAts L lv ∗ rtok c 2
        ∗ pt xB c fullShare.left Finset.univ (I.x c)
        ∗ offer (pr 6 c) 6
        ∗ tok c 6
        ∗ offer (pr 7 c) 7
        ∗ tok c 7
        ∗ owed c [6, 7, 8, 10, 9, 11, 12, 14, 13, 15])
      ⊢ iprop((∀ a, (semVal (rcvCell c 2) 0
        ∗ pt xB c fullShare.left Finset.univ (I.x c)
        ∗ scred c 6
        ∗ scred c 7
        ∗ owed c [8, 10, 9, 11, 12, 14, 13, 15])
        -∗ WP c (Kt a) Q)
        -∗ WP c (k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 c v15 v24 v38 >>= Kt) Q) := by
  rw [k0_part5_eq_skeleton]; unfold k0_part5_skel
  simp only [semSignalWord, semWaitWord, Prog.lift, Prog.bind_op, Prog.bind_ret, Prog.pure_eq_ret]
  iintro ⟨#Hrec, #Hlev, Hr2, HxL, Ho6, Ht6, Ho7, Ht7, HO⟩ Hk
  -- copy 2 has landed
  iapply (recv I K 2 (rcv_at 2 rfl _) [6, 7, 8, 10, 9, 11, 12, 14, 13, 15] (by rfl) (by decide)) $$ [Hr2 HO]
  · isplitr; · iexact Hrec
    isplitr; · iexact Hlev
    isplitl [Hr2]; · iexact Hr2
    iexact HO
  iintro ⟨Hy2, Hp2, HO⟩
  ihave Hq := (Entails.of_eq (show recvPay I c 2 = pt r2B c fullShare (rows 256 (f2 c) 128) (R2a I c) from rfl)) $$ Hp2
  icases Hq with Hf
  iapply (ld (m := (Memref.whole cc0_scratch1 : Memref sig .tc .vmem S256x1024 .f32)) (r := (Rect.unit (s := S256x1024) (k0_off13 c) S128x1024.size (k0_off13_inb c))) (P := pt r2B c fullShare (rows 256 (f2 c) 128) (R2a I c)) (cut 128 (f2 c) (R2a I c)) (by exact rfl) (by intro x; exact mem_unit (off13_eq c) _ x) (by intro x; exact emb_cut (o := f2 c) (off13_eq c) _ _ x)) $$ Hf; iintro Hf
  iapply (ld (m := (Memref.whole cc0_stg0_0 : Memref sig .tc .vmem S1x1024x1024 .f32)) (r := (Rect.unit (s := S1x1024x1024) (k0_off14 c) S1x128x1024.size (k0_off14_inb c))) (P := pt xB c fullShare.left Finset.univ (I.x c)) (cutB 128 (g2 c) (I.x c)) (by exact rfl) (by intro x; exact Finset.mem_univ _) (by intro x; exact emb_cutB (off14_g c) _ _ x)) $$ HxL; iintro HxL
  iapply (ldd (m := (Memref.whole cc0_scratch1 : Memref sig .tc .vmem S256x1024 .f32)) (r := (Rect.unit (s := S256x1024) (k0_off13 c) S128x1024.size (k0_off13_inb c))) (P := pt r2B c fullShare (rows 256 (f2 c) 128) (R2a I c)) (by exact rfl) (by intro x; exact mem_unit (off13_eq c) _ x)) $$ Hf; iintro Hf
  iapply (st (m := (Memref.whole cc0_scratch1 : Memref sig .tc .vmem S256x1024 .f32)) (r := (Rect.unit (s := S256x1024) (k0_off13 c) S128x1024.size (k0_off13_inb c))) (P := pt r2B c fullShare (rows 256 (f2 c) 128) (R2a I c)) (P' := pt r2B c fullShare (rows 256 (f2 c) 128) (R2b I c)) (by exact rfl) (by exact rfl) (by exact (View.set_slice_whole cc0_scratch1 (Rect.unit (s := S256x1024) (k0_off13 c) S128x1024.size (k0_off13_inb c))).trans (unit_rows (off13_eq c) _)) (by intro x; exact (emb_cut (off13_eq c) _ _ x).trans (congrFun (cut_R2b I c) x))) $$ Hf; iintro Hf
  ihave Hq := (Entails.of_eq (show pt r2B c fullShare (rows 256 (f2 c) 128) (R2b I c) = iprop(sendPay I c 6 ∗ sendPay I c 7) from (congrArg (fun S => pt r2B c fullShare S (R2b I c)) (rows_two 256 (f2 c))).trans (pt_union (rows_disjoint _ _ _ _ _ (Or.inl le_rfl))))) $$ Hf
  icases Hq with ⟨Hs6, Hs7⟩
  -- copy 6 leaves for q1
  iapply (send I K 6 (dev9_eq c) (snd_at 6 rfl _) (rcv_at 6 rfl _) [7, 8, 10, 9, 11, 12, 14, 13, 15]
      (by exact pt_slice r2B c fullShare (Rect.unit (s := S256x1024) (k0_off15 c) S64x1024.size (k0_off15_inb c)) (fun _ => rfl) (unit_rows (off15_eq c) _) (R2b I c))
      (by exact land_slice r4B (pr 6 c) (Rect.unit (s := S128x1024) ![0, 0] S64x1024.size inb_S128x1024_S64x1024_0_0) (fun _ => rfl) (unit_rows rfl _) (dst6 c))
      (by exact (got6 I c).trans (pt_slice r4B (pr 6 c) fullShare (Rect.unit (s := S128x1024) ![0, 0] S64x1024.size inb_S128x1024_S64x1024_0_0) (fun _ => rfl) (unit_rows rfl _) _))
      (by intro x; exact (emb_cut (o := 0) rfl _ _ x).trans ((congrFun (fwd4 I c 0 (f2 c) (by decide) rfl) x).trans (emb_cut (off15_eq c) _ _ x).symm))
      (by rfl)) $$ [Hs6 Ho6 Ht6 HO]
  · isplitr; · iexact Hrec
    isplitl [Hs6]; · iexact Hs6
    isplitl [Ho6]; · iexact Ho6
    isplitl [Ht6]; · iexact Ht6
    iexact HO
  iintro ⟨Hc6, HO⟩
  -- copy 7 leaves for q1
  iapply (send I K 7 (dev10_eq c) (snd_at 7 rfl _) (rcv_at 7 rfl _) [8, 10, 9, 11, 12, 14, 13, 15]
      (by exact pt_slice r2B c fullShare (Rect.unit (s := S256x1024) (k0_off16 c) S64x1024.size (k0_off16_inb c)) (fun _ => rfl) (unit_rows (off16_eq c) _) (R2b I c))
      (by exact land_slice r4B (pr 7 c) (Rect.unit (s := S128x1024) ![64, 0] S64x1024.size inb_S128x1024_S64x1024_64_0) (fun _ => rfl) (unit_rows rfl _) (dst7 c))
      (by exact (got7 I c).trans (pt_slice r4B (pr 7 c) fullShare (Rect.unit (s := S128x1024) ![64, 0] S64x1024.size inb_S128x1024_S64x1024_64_0) (fun _ => rfl) (unit_rows rfl _) _))
      (by intro x; exact (emb_cut (o := 64) rfl _ _ x).trans ((congrFun (fwd4 I c 64 (f2 c + 64) (by decide) rfl) x).trans (emb_cut (off16_eq c) _ _ x).symm))
      (by rfl)) $$ [Hs7 Ho7 Ht7 HO]
  · isplitr; · iexact Hrec
    isplitl [Hs7]; · iexact Hs7
    isplitl [Ho7]; · iexact Ho7
    isplitl [Ht7]; · iexact Ht7
    iexact HO
  iintro ⟨Hc7, HO⟩
  iapply Hk
  isplitl [Hy2]; · iexact Hy2
  isplitl [HxL]; · iexact HxL
  isplitl [Hc6]; · iexact Hc6
  isplitl [Hc7]; · iexact Hc7
  iexact HO

end Proto
-- ==== Proof.PartsB.lean ====
module

public import proofs.«01_k».proof.Proof.Views

/-! # Sums and the first finished rows -/

@[expose] public section

noncomputable section

namespace Proto

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] (I : Given F)

local notation "𝕄" => MT nD τ sig Unit (Elt F) ℕ UU ℕ

/-- Copies 1 and 3 land; the kept eighths are summed, with the residual. -/
theorem part6 (K : GSem nD τ sig → ℕ) (c : Dev nD) {α : Type} (Kt : (FVec F S128x1024 .f32) → Prog (TpuEff nD τ sig (Elt F) Λ₀ .tc) α) (Q : α → sProp 𝕄) (v16 : BitVec 32) (v22 : BitVec 32) (v28 : BitVec 32) (v34 : BitVec 32) (v36 : BitVec 32) (v156 : BitVec 32) :
    iprop(records I K ∗ levAts L lv ∗ rtok c 1
        ∗ pt xB c fullShare.left Finset.univ (I.x c)
        ∗ pt rB c fullShare Finset.univ (I.r c)
        ∗ (∃ f, pt t1B c fullShare Finset.univ f)
        ∗ rtok c 3
        ∗ owed c [8, 10, 9, 11, 12, 14, 13, 15])
      ⊢ iprop(((semVal (rcvCell c 1) 0
        ∗ pt r1B c fullShare (rows 256 (c1 c) 128) (R1a I c)
        ∗ pt xB c fullShare.left Finset.univ (I.x c)
        ∗ pt rB c fullShare Finset.univ (I.r c)
        ∗ pt t1B c fullShare Finset.univ (T1 I c)
        ∗ semVal (rcvCell c 3) 0
        ∗ owed c [8, 10, 9, 11, 12, 14, 13, 15]
        ∗ pt r2B c fullShare (rows 256 (c2 c) 128) (R2a I c))
        -∗ WP c (Kt (k0_pay4 (cut 128 (c2 c) (R2a I c)) (cutB 128 (o2 c) (I.x c)) (cut 128 (o2 c) (I.r c)))) Q)
        -∗ WP c (k0_part6 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 c v16 v22 v28 v34 v36 v156 >>= Kt) Q) := by
  rw [k0_part6_eq_skeleton]; unfold k0_part6_skel
  simp only [semSignalWord, semWaitWord, Prog.lift, Prog.bind_op, Prog.bind_ret, Prog.pure_eq_ret]
  iintro ⟨#Hrec, #Hlev, Hr1, HxL, Hres, Ht1b, Hr3, HO⟩ Hk
  -- copy 1 has landed
  iapply (recv I K 1 (rcv_at 1 rfl _) [8, 10, 9, 11, 12, 14, 13, 15] (by rfl) (by decide)) $$ [Hr1 HO]
  · isplitr; · iexact Hrec
    isplitr; · iexact Hlev
    isplitl [Hr1]; · iexact Hr1
    iexact HO
  iintro ⟨Hy1, Hp1, HO⟩
  ihave Hq := (Entails.of_eq (show recvPay I c 1 = pt r1B c fullShare (rows 256 (c1 c) 128) (R1a I c) from rfl)) $$ Hp1
  icases Hq with Hk1
  iapply (ld (m := (Memref.whole cc0_scratch0 : Memref sig .tc .vmem S256x1024 .f32)) (r := (Rect.unit (s := S256x1024) (k0_off17 c) S128x1024.size (k0_off17_inb c))) (P := pt r1B c fullShare (rows 256 (c1 c) 128) (R1a I c)) (cut 128 (c1 c) (R1a I c)) (by exact rfl) (by intro x; exact mem_unit (off17_eq c) _ x) (by intro x; exact emb_cut (o := c1 c) (off17_eq c) _ _ x)) $$ Hk1; iintro Hk1
  iapply (ld (m := (Memref.whole cc0_stg0_0 : Memref sig .tc .vmem S1x1024x1024 .f32)) (r := (Rect.unit (s := S1x1024x1024) (k0_off18 c) S1x128x1024.size (k0_off18_inb c))) (P := pt xB c fullShare.left Finset.univ (I.x c)) (cutB 128 (o1 c) (I.x c)) (by exact rfl) (by intro x; exact Finset.mem_univ _) (by intro x; exact emb_cutB (off18_eq c) _ _ x)) $$ HxL; iintro HxL
  iapply (ld (m := (Memref.whole cc0_stg1_0 : Memref sig .tc .vmem S1024x1024 .f32)) (r := (Rect.unit (s := S1024x1024) (k0_off19 c) S128x1024.size (k0_off19_inb c))) (P := pt rB c fullShare Finset.univ (I.r c)) (cut 128 (o1 c) (I.r c)) (by exact rfl) (by intro x; exact Finset.mem_univ _) (by intro x; exact emb_cut (off19_eq c) _ _ x)) $$ Hres; iintro Hres
  icases Ht1b with ⟨%ft1, Ht1b⟩
  iapply (ldd (m := (Memref.whole cc0_scratch4 : Memref sig .tc .vmem S128x1024 .f32)) (r := (Rect.unit (s := S128x1024) ![0, 0] S128x1024.size inb_S128x1024_S128x1024_0_0)) (P := pt t1B c fullShare Finset.univ ft1) (by exact rfl) (by intro x; exact Finset.mem_univ _)) $$ Ht1b; iintro Ht1b
  iapply (st (m := (Memref.whole cc0_scratch4 : Memref sig .tc .vmem S128x1024 .f32)) (r := (Rect.unit (s := S128x1024) ![0, 0] S128x1024.size inb_S128x1024_S128x1024_0_0)) (P := pt t1B c fullShare Finset.univ ft1) (P' := pt t1B c fullShare Finset.univ (T1 I c)) (by exact rfl) (by exact rfl) (by exact (View.set_slice_whole cc0_scratch4 (Rect.unit (s := S128x1024) ![0, 0] S128x1024.size inb_S128x1024_S128x1024_0_0)).trans ((unit_rows rfl _).trans (rows_all 128))) (by intro x; exact (emb_cut (o := 0) rfl _ _ x).trans (congrFun (cut_all (T1 I c)) x))) $$ Ht1b; iintro Ht1b
  -- copy 3 has landed
  iapply (recv I K 3 (rcv_at 3 rfl _) [8, 10, 9, 11, 12, 14, 13, 15] (by rfl) (by decide)) $$ [Hr3 HO]
  · isplitr; · iexact Hrec
    isplitr; · iexact Hlev
    isplitl [Hr3]; · iexact Hr3
    iexact HO
  iintro ⟨Hy3, Hp3, HO⟩
  ihave Hq := (Entails.of_eq (show recvPay I c 3 = pt r2B c fullShare (rows 256 (c2 c) 128) (R2a I c) from rfl)) $$ Hp3
  icases Hq with Hk2
  iapply (ld (m := (Memref.whole cc0_scratch1 : Memref sig .tc .vmem S256x1024 .f32)) (r := (Rect.unit (s := S256x1024) (k0_off20 c) S128x1024.size (k0_off20_inb c))) (P := pt r2B c fullShare (rows 256 (c2 c) 128) (R2a I c)) (cut 128 (c2 c) (R2a I c)) (by exact rfl) (by intro x; exact mem_unit (off20_eq c) _ x) (by intro x; exact emb_cut (o := c2 c) (off20_eq c) _ _ x)) $$ Hk2; iintro Hk2
  iapply (ld (m := (Memref.whole cc0_stg0_0 : Memref sig .tc .vmem S1x1024x1024 .f32)) (r := (Rect.unit (s := S1x1024x1024) (k0_off21 c) S1x128x1024.size (k0_off21_inb c))) (P := pt xB c fullShare.left Finset.univ (I.x c)) (cutB 128 (o2 c) (I.x c)) (by exact rfl) (by intro x; exact Finset.mem_univ _) (by intro x; exact emb_cutB (off21_eq c) _ _ x)) $$ HxL; iintro HxL
  iapply (ld (m := (Memref.whole cc0_stg1_0 : Memref sig .tc .vmem S1024x1024 .f32)) (r := (Rect.unit (s := S1024x1024) (k0_off22 c) S128x1024.size (k0_off22_inb c))) (P := pt rB c fullShare Finset.univ (I.r c)) (cut 128 (o2 c) (I.r c)) (by exact rfl) (by intro x; exact Finset.mem_univ _) (by intro x; exact emb_cut (off22_eq c) _ _ x)) $$ Hres; iintro Hres
  iapply Hk
  isplitl [Hy1]; · iexact Hy1
  isplitl [Hk1]; · iexact Hk1
  isplitl [HxL]; · iexact HxL
  isplitl [Hres]; · iexact Hres
  isplitl [Ht1b]; · iexact Ht1b
  isplitl [Hy3]; · iexact Hy3
  isplitl [HO]; · iexact HO
  iexact Hk2

/-- Copy 4 lands; the first 64 lower rows are finished. -/
theorem part7 (K : GSem nD τ sig → ℕ) (c : Dev nD) {α : Type} (Kt : (PUnit) → Prog (TpuEff nD τ sig (Elt F) Λ₀ .tc) α) (Q : α → sProp 𝕄) (v16 : BitVec 32) (v34 : BitVec 32) :
    iprop(records I K ∗ levAts L lv ∗ (∃ f, pt t2B c fullShare Finset.univ f)
        ∗ rtok c 4
        ∗ pt t1B c fullShare Finset.univ (T1 I c)
        ∗ pt gB c fullShare Finset.univ (I.g c)
        ∗ (∃ f, pt oB c fullShare (rows 1024 (o1 c) 64) f)
        ∗ owed c [8, 10, 9, 11, 12, 14, 13, 15])
      ⊢ iprop(((pt t2B c fullShare Finset.univ (T2 I c)
        ∗ semVal (rcvCell c 4) 0
        ∗ owed c [8, 10, 9, 11, 12, 14, 13, 15]
        ∗ pt r3B c fullShare (rows 128 0 64) (R3 I c)
        ∗ pt t1B c fullShare Finset.univ (T1 I c)
        ∗ pt gB c fullShare Finset.univ (I.g c)
        ∗ pt oB c fullShare (rows 1024 (o1 c) 64) (OUT I))
        -∗ WP c (Kt ⟨⟩) Q)
        -∗ WP c (k0_part7 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 c v16 v34 (k0_pay4 (cut 128 (c2 c) (R2a I c)) (cutB 128 (o2 c) (I.x c)) (cut 128 (o2 c) (I.r c))) >>= Kt) Q) := by
  rw [k0_part7_eq_skeleton]; unfold k0_part7_skel
  simp only [semSignalWord, semWaitWord, Prog.lift, Prog.bind_op, Prog.bind_ret, Prog.pure_eq_ret]
  iintro ⟨#Hrec, #Hlev, Ht2b, Hr4, Ht1b, Hg, Hoa, HO⟩ Hk
  icases Ht2b with ⟨%ft2, Ht2b⟩
  iapply (ldd (m := (Memref.whole cc0_scratch5 : Memref sig .tc .vmem S128x1024 .f32)) (r := (Rect.unit (s := S128x1024) ![0, 0] S128x1024.size inb_S128x1024_S128x1024_0_0)) (P := pt t2B c fullShare Finset.univ ft2) (by exact rfl) (by intro x; exact Finset.mem_univ _)) $$ Ht2b; iintro Ht2b
  iapply (st (m := (Memref.whole cc0_scratch5 : Memref sig .tc .vmem S128x1024 .f32)) (r := (Rect.unit (s := S128x1024) ![0, 0] S128x1024.size inb_S128x1024_S128x1024_0_0)) (P := pt t2B c fullShare Finset.univ ft2) (P' := pt t2B c fullShare Finset.univ (T2 I c)) (by exact rfl) (by exact rfl) (by exact (View.set_slice_whole cc0_scratch5 (Rect.unit (s := S128x1024) ![0, 0] S128x1024.size inb_S128x1024_S128x1024_0_0)).trans ((unit_rows rfl _).trans (rows_all 128))) (by intro x; exact (emb_cut (o := 0) rfl _ _ x).trans (congrFun (cut_all (T2 I c)) x))) $$ Ht2b; iintro Ht2b
  -- copy 4 has landed
  iapply (recv I K 4 (rcv_at 4 rfl _) [8, 10, 9, 11, 12, 14, 13, 15] (by rfl) (by decide)) $$ [Hr4 HO]
  · isplitr; · iexact Hrec
    isplitr; · iexact Hlev
    isplitl [Hr4]; · iexact Hr4
    iexact HO
  iintro ⟨Hy4, Hp4, HO⟩
  ihave Hq := (Entails.of_eq (show recvPay I c 4 = pt r3B c fullShare (rows 128 0 64) (R3 I c) from rfl)) $$ Hp4
  icases Hq with Hl4
  iapply (ld (m := (Memref.whole cc0_scratch2 : Memref sig .tc .vmem S128x1024 .f32)) (r := (Rect.unit (s := S128x1024) ![0, 0] S64x1024.size inb_S128x1024_S64x1024_0_0)) (P := pt r3B c fullShare (rows 128 0 64) (R3 I c)) (cut 64 (0) (R3 I c)) (by exact rfl) (by intro x; exact mem_unit rfl _ x) (by intro x; exact emb_cut (o := 0) rfl _ _ x)) $$ Hl4; iintro Hl4
  iapply (ld (m := (Memref.whole cc0_scratch4 : Memref sig .tc .vmem S128x1024 .f32)) (r := (Rect.unit (s := S128x1024) ![0, 0] S64x1024.size inb_S128x1024_S64x1024_0_0)) (P := pt t1B c fullShare Finset.univ (T1 I c)) (cut 64 (0) (T1 I c)) (by exact rfl) (by intro x; exact Finset.mem_univ _) (by intro x; exact emb_cut (o := 0) rfl _ _ x)) $$ Ht1b; iintro Ht1b
  iapply (ld (m := (Memref.whole cc0_stg2_0 : Memref sig .tc .vmem S1x1024 .f32)) (r := (Rect.unit (s := S1x1024) ![0, 0] S1x1024.size inb_S1x1024_S1x1024_0_0)) (P := pt gB c fullShare Finset.univ (I.g c)) (I.g c) (by exact rfl) (by intro x; exact Finset.mem_univ _) (by intro x; exact (emb_cut (o := 0) (n := 1) rfl _ _ x).trans (congrFun (cut_g (I.g c)) x))) $$ Hg; iintro Hg
  icases Hoa with ⟨%fo, Hoa⟩
  iapply (ldd (m := (Memref.whole cc0_stg3_0 : Memref sig .tc .vmem S1024x1024 .f32)) (r := (Rect.unit (s := S1024x1024) (k0_off23 c) S64x1024.size (k0_off23_inb c))) (P := pt oB c fullShare (rows 1024 (o1 c) 64) fo) (by exact rfl) (by intro x; exact mem_unit (off23_eq c) _ x)) $$ Hoa; iintro Hoa
  iapply (st (m := (Memref.whole cc0_stg3_0 : Memref sig .tc .vmem S1024x1024 .f32)) (r := (Rect.unit (s := S1024x1024) (k0_off23 c) S64x1024.size (k0_off23_inb c))) (P := pt oB c fullShare (rows 1024 (o1 c) 64) fo) (P' := pt oB c fullShare (rows 1024 (o1 c) 64) (OUT I)) (by exact rfl) (by exact rfl) (by exact (View.set_slice_whole cc0_stg3_0 (Rect.unit (s := S1024x1024) (k0_off23 c) S64x1024.size (k0_off23_inb c))).trans (unit_rows (off23_eq c) _)) (by intro x; exact (emb_cut (off23_eq c) _ _ x).trans (congrFun (out_1 I c) x))) $$ Hoa; iintro Hoa
  iapply Hk
  isplitl [Ht2b]; · iexact Ht2b
  isplitl [Hy4]; · iexact Hy4
  isplitl [HO]; · iexact HO
  isplitl [Hl4]; · iexact Hl4
  isplitl [Ht1b]; · iexact Ht1b
  isplitl [Hg]; · iexact Hg
  iexact Hoa

/-- They leave as copy 8; copy 6 lands; the first 64 upper rows are finished. -/
theorem part8 (K : GSem nD τ sig → ℕ) (c : Dev nD) {α : Type} (Kt : (PUnit) → Prog (TpuEff nD τ sig (Elt F) Λ₀ .tc) α) (Q : α → sProp 𝕄) (v15 : BitVec 32) (v36 : BitVec 32) :
    iprop(records I K ∗ levAts L lv ∗ pt oB c fullShare (rows 1024 (o1 c) 64) (OUT I)
        ∗ offer (pr 8 c) 8
        ∗ tok c 8
        ∗ rtok c 6
        ∗ pt t2B c fullShare Finset.univ (T2 I c)
        ∗ pt gB c fullShare Finset.univ (I.g c)
        ∗ (∃ f, pt oB c fullShare (rows 1024 (o2 c) 64) f)
        ∗ owed c [8, 10, 9, 11, 12, 14, 13, 15])
      ⊢ iprop(((pt oB c fullShare.right (rows 1024 (o1 c) 64) (OUT I)
        ∗ scred c 8
        ∗ semVal (rcvCell c 6) 0
        ∗ owed c [10, 9, 11, 12, 14, 13, 15]
        ∗ pt r4B c fullShare (rows 128 0 64) (R4 I c)
        ∗ pt t2B c fullShare Finset.univ (T2 I c)
        ∗ pt gB c fullShare Finset.univ (I.g c)
        ∗ pt oB c fullShare (rows 1024 (o2 c) 64) (OUT I))
        -∗ WP c (Kt ⟨⟩) Q)
        -∗ WP c (k0_part8 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 c v15 v36 >>= Kt) Q) := by
  rw [k0_part8_eq_skeleton]; unfold k0_part8_skel
  simp only [semSignalWord, semWaitWord, Prog.lift, Prog.bind_op, Prog.bind_ret, Prog.pure_eq_ret]
  iintro ⟨#Hrec, #Hlev, Hoa, Ho8, Ht8, Hr6, Ht2b, Hg, Hob, HO⟩ Hk
  ihave Hq := (Entails.of_eq (show pt oB c fullShare (rows 1024 (o1 c) 64) (OUT I) = iprop(sendPay I c 8 ∗ pt oB c fullShare.right (rows 1024 (o1 c) 64) (OUT I)) from pt_halves)) $$ Hoa
  icases Hq with ⟨Hs8, HoaR⟩
  -- copy 8 leaves for q2
  iapply (send I K 8 (dev11_eq c) (snd_at 8 rfl _) (rcv_at 8 rfl _) [10, 9, 11, 12, 14, 13, 15]
      (by exact pt_slice oB c fullShare.left (Rect.unit (s := S1024x1024) (k0_off24 c) S64x1024.size (k0_off24_inb c)) (fun _ => rfl) (unit_rows (off24_eq c) _) (OUT I))
      (by exact land_slice oB (pr 8 c) (Rect.unit (s := S1024x1024) (k0_off24 c) S64x1024.size (k0_off24_inb c)) (fun _ => rfl) (unit_rows (off24_eq c) _) (dst8 c))
      (by exact (got8 I c).trans (pt_slice oB (pr 8 c) fullShare (Rect.unit (s := S1024x1024) (k0_off24 c) S64x1024.size (k0_off24_inb c)) (fun _ => rfl) (unit_rows (off24_eq c) _) _))
      (by intro x; rfl)
      (by rfl)) $$ [Hs8 Ho8 Ht8 HO]
  · isplitr; · iexact Hrec
    isplitl [Hs8]; · iexact Hs8
    isplitl [Ho8]; · iexact Ho8
    isplitl [Ht8]; · iexact Ht8
    iexact HO
  iintro ⟨Hc8, HO⟩
  -- copy 6 has landed
  iapply (recv I K 6 (rcv_at 6 rfl _) [10, 9, 11, 12, 14, 13, 15] (by rfl) (by decide)) $$ [Hr6 HO]
  · isplitr; · iexact Hrec
    isplitr; · iexact Hlev
    isplitl [Hr6]; · iexact Hr6
    iexact HO
  iintro ⟨Hy6, Hp6, HO⟩
  ihave Hq := (Entails.of_eq (show recvPay I c 6 = pt r4B c fullShare (rows 128 0 64) (R4 I c) from rfl)) $$ Hp6
  icases Hq with Hl6
  iapply (ld (m := (Memref.whole cc0_scratch3 : Memref sig .tc .vmem S128x1024 .f32)) (r := (Rect.unit (s := S128x1024) ![0, 0] S64x1024.size inb_S128x1024_S64x1024_0_0)) (P := pt r4B c fullShare (rows 128 0 64) (R4 I c)) (cut 64 (0) (R4 I c)) (by exact rfl) (by intro x; exact mem_unit rfl _ x) (by intro x; exact emb_cut (o := 0) rfl _ _ x)) $$ Hl6; iintro Hl6
  iapply (ld (m := (Memref.whole cc0_scratch5 : Memref sig .tc .vmem S128x1024 .f32)) (r := (Rect.unit (s := S128x1024) ![0, 0] S64x1024.size inb_S128x1024_S64x1024_0_0)) (P := pt t2B c fullShare Finset.univ (T2 I c)) (cut 64 (0) (T2 I c)) (by exact rfl) (by intro x; exact Finset.mem_univ _) (by intro x; exact emb_cut (o := 0) rfl _ _ x)) $$ Ht2b; iintro Ht2b
  iapply (ld (m := (Memref.whole cc0_stg2_0 : Memref sig .tc .vmem S1x1024 .f32)) (r := (Rect.unit (s := S1x1024) ![0, 0] S1x1024.size inb_S1x1024_S1x1024_0_0)) (P := pt gB c fullShare Finset.univ (I.g c)) (I.g c) (by exact rfl) (by intro x; exact Finset.mem_univ _) (by intro x; exact (emb_cut (o := 0) (n := 1) rfl _ _ x).trans (congrFun (cut_g (I.g c)) x))) $$ Hg; iintro Hg
  icases Hob with ⟨%fo, Hob⟩
  iapply (ldd (m := (Memref.whole cc0_stg3_0 : Memref sig .tc .vmem S1024x1024 .f32)) (r := (Rect.unit (s := S1024x1024) (k0_off25 c) S64x1024.size (k0_off25_inb c))) (P := pt oB c fullShare (rows 1024 (o2 c) 64) fo) (by exact rfl) (by intro x; exact mem_unit (off25_eq c) _ x)) $$ Hob; iintro Hob
  iapply (st (m := (Memref.whole cc0_stg3_0 : Memref sig .tc .vmem S1024x1024 .f32)) (r := (Rect.unit (s := S1024x1024) (k0_off25 c) S64x1024.size (k0_off25_inb c))) (P := pt oB c fullShare (rows 1024 (o2 c) 64) fo) (P' := pt oB c fullShare (rows 1024 (o2 c) 64) (OUT I)) (by exact rfl) (by exact rfl) (by exact (View.set_slice_whole cc0_stg3_0 (Rect.unit (s := S1024x1024) (k0_off25 c) S64x1024.size (k0_off25_inb c))).trans (unit_rows (off25_eq c) _)) (by intro x; exact (emb_cut (off25_eq c) _ _ x).trans (congrFun (out_2 I c) x))) $$ Hob; iintro Hob
  iapply Hk
  isplitl [HoaR]; · iexact HoaR
  isplitl [Hc8]; · iexact Hc8
  isplitl [Hy6]; · iexact Hy6
  isplitl [HO]; · iexact HO
  isplitl [Hl6]; · iexact Hl6
  isplitl [Ht2b]; · iexact Ht2b
  isplitl [Hg]; · iexact Hg
  iexact Hob

end Proto
-- ==== Proof.PartsC.lean ====
module

public import proofs.«01_k».proof.Proof.Views

/-! # The rest of the finished rows -/

@[expose] public section

noncomputable section

namespace Proto

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] (I : Given F)

local notation "𝕄" => MT nD τ sig Unit (Elt F) ℕ UU ℕ

/-- They leave as copy 10; copy 5 lands; the last 64 lower rows are finished. -/
theorem part9 (K : GSem nD τ sig → ℕ) (c : Dev nD) {α : Type} (Kt : (BitVec 32) → Prog (TpuEff nD τ sig (Elt F) Λ₀ .tc) α) (Q : α → sProp 𝕄) (v16 : BitVec 32) (v34 : BitVec 32) :
    iprop(records I K ∗ levAts L lv ∗ pt oB c fullShare (rows 1024 (o2 c) 64) (OUT I)
        ∗ offer (pr 10 c) 10
        ∗ tok c 10
        ∗ rtok c 5
        ∗ pt t1B c fullShare Finset.univ (T1 I c)
        ∗ pt gB c fullShare Finset.univ (I.g c)
        ∗ (∃ f, pt oB c fullShare (rows 1024 (o1 c + 64) 64) f)
        ∗ owed c [10, 9, 11, 12, 14, 13, 15])
      ⊢ iprop((∀ a, (pt oB c fullShare.right (rows 1024 (o2 c) 64) (OUT I)
        ∗ scred c 10
        ∗ semVal (rcvCell c 5) 0
        ∗ owed c [9, 11, 12, 14, 13, 15]
        ∗ pt r3B c fullShare (rows 128 64 64) (R3 I c)
        ∗ pt t1B c fullShare Finset.univ (T1 I c)
        ∗ pt gB c fullShare Finset.univ (I.g c)
        ∗ pt oB c fullShare (rows 1024 (o1 c + 64) 64) (OUT I))
        -∗ WP c (Kt a) Q)
        -∗ WP c (k0_part9 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 c v16 v34 >>= Kt) Q) := by
  rw [k0_part9_eq_skeleton]; unfold k0_part9_skel
  simp only [semSignalWord, semWaitWord, Prog.lift, Prog.bind_op, Prog.bind_ret, Prog.pure_eq_ret]
  iintro ⟨#Hrec, #Hlev, Hob, Ho10, Ht10, Hr5, Ht1b, Hg, Hoc, HO⟩ Hk
  ihave Hq := (Entails.of_eq (show pt oB c fullShare (rows 1024 (o2 c) 64) (OUT I) = iprop(sendPay I c 10 ∗ pt oB c fullShare.right (rows 1024 (o2 c) 64) (OUT I)) from pt_halves)) $$ Hob
  icases Hq with ⟨Hs10, HobR⟩
  -- copy 10 leaves for q1
  iapply (send I K 10 (dev12_eq c) (snd_at 10 rfl _) (rcv_at 10 rfl _) [9, 11, 12, 14, 13, 15]
      (by exact pt_slice oB c fullShare.left (Rect.unit (s := S1024x1024) (k0_off26 c) S64x1024.size (k0_off26_inb c)) (fun _ => rfl) (unit_rows (off26_eq c) _) (OUT I))
      (by exact land_slice oB (pr 10 c) (Rect.unit (s := S1024x1024) (k0_off26 c) S64x1024.size (k0_off26_inb c)) (fun _ => rfl) (unit_rows (off26_eq c) _) (dst10 c))
      (by exact (got10 I c).trans (pt_slice oB (pr 10 c) fullShare (Rect.unit (s := S1024x1024) (k0_off26 c) S64x1024.size (k0_off26_inb c)) (fun _ => rfl) (unit_rows (off26_eq c) _) _))
      (by intro x; rfl)
      (by rfl)) $$ [Hs10 Ho10 Ht10 HO]
  · isplitr; · iexact Hrec
    isplitl [Hs10]; · iexact Hs10
    isplitl [Ho10]; · iexact Ho10
    isplitl [Ht10]; · iexact Ht10
    iexact HO
  iintro ⟨Hc10, HO⟩
  -- copy 5 has landed
  iapply (recv I K 5 (rcv_at 5 rfl _) [9, 11, 12, 14, 13, 15] (by rfl) (by decide)) $$ [Hr5 HO]
  · isplitr; · iexact Hrec
    isplitr; · iexact Hlev
    isplitl [Hr5]; · iexact Hr5
    iexact HO
  iintro ⟨Hy5, Hp5, HO⟩
  ihave Hq := (Entails.of_eq (show recvPay I c 5 = pt r3B c fullShare (rows 128 64 64) (R3 I c) from rfl)) $$ Hp5
  icases Hq with Hl5
  iapply (ld (m := (Memref.whole cc0_scratch2 : Memref sig .tc .vmem S128x1024 .f32)) (r := (Rect.unit (s := S128x1024) ![64, 0] S64x1024.size inb_S128x1024_S64x1024_64_0)) (P := pt r3B c fullShare (rows 128 64 64) (R3 I c)) (cut 64 (64) (R3 I c)) (by exact rfl) (by intro x; exact mem_unit rfl _ x) (by intro x; exact emb_cut (o := 64) rfl _ _ x)) $$ Hl5; iintro Hl5
  iapply (ld (m := (Memref.whole cc0_scratch4 : Memref sig .tc .vmem S128x1024 .f32)) (r := (Rect.unit (s := S128x1024) ![64, 0] S64x1024.size inb_S128x1024_S64x1024_64_0)) (P := pt t1B c fullShare Finset.univ (T1 I c)) (cut 64 (64) (T1 I c)) (by exact rfl) (by intro x; exact Finset.mem_univ _) (by intro x; exact emb_cut (o := 64) rfl _ _ x)) $$ Ht1b; iintro Ht1b
  iapply (ld (m := (Memref.whole cc0_stg2_0 : Memref sig .tc .vmem S1x1024 .f32)) (r := (Rect.unit (s := S1x1024) ![0, 0] S1x1024.size inb_S1x1024_S1x1024_0_0)) (P := pt gB c fullShare Finset.univ (I.g c)) (I.g c) (by exact rfl) (by intro x; exact Finset.mem_univ _) (by intro x; exact (emb_cut (o := 0) (n := 1) rfl _ _ x).trans (congrFun (cut_g (I.g c)) x))) $$ Hg; iintro Hg
  icases Hoc with ⟨%fo, Hoc⟩
  iapply (ldd (m := (Memref.whole cc0_stg3_0 : Memref sig .tc .vmem S1024x1024 .f32)) (r := (Rect.unit (s := S1024x1024) (k0_off27 c) S64x1024.size (k0_off27_inb c))) (P := pt oB c fullShare (rows 1024 (o1 c + 64) 64) fo) (by exact rfl) (by intro x; exact mem_unit (off27_eq c) _ x)) $$ Hoc; iintro Hoc
  iapply (st (m := (Memref.whole cc0_stg3_0 : Memref sig .tc .vmem S1024x1024 .f32)) (r := (Rect.unit (s := S1024x1024) (k0_off27 c) S64x1024.size (k0_off27_inb c))) (P := pt oB c fullShare (rows 1024 (o1 c + 64) 64) fo) (P' := pt oB c fullShare (rows 1024 (o1 c + 64) 64) (OUT I)) (by exact rfl) (by exact rfl) (by exact (View.set_slice_whole cc0_stg3_0 (Rect.unit (s := S1024x1024) (k0_off27 c) S64x1024.size (k0_off27_inb c))).trans (unit_rows (off27_eq c) _)) (by intro x; exact (emb_cut (off27_eq c) _ _ x).trans (congrFun (out_3 I c) x))) $$ Hoc; iintro Hoc
  iapply Hk
  isplitl [HobR]; · iexact HobR
  isplitl [Hc10]; · iexact Hc10
  isplitl [Hy5]; · iexact Hy5
  isplitl [HO]; · iexact HO
  isplitl [Hl5]; · iexact Hl5
  isplitl [Ht1b]; · iexact Ht1b
  isplitl [Hg]; · iexact Hg
  iexact Hoc

/-- They leave as copy 9; copy 7 lands; the last 64 upper rows are finished. -/
theorem part10 (K : GSem nD τ sig → ℕ) (c : Dev nD) {α : Type} (Kt : (PUnit) → Prog (TpuEff nD τ sig (Elt F) Λ₀ .tc) α) (Q : α → sProp 𝕄) (v15 : BitVec 32) (v36 : BitVec 32) (v293 : BitVec 32) :
    iprop(records I K ∗ levAts L lv ∗ pt oB c fullShare (rows 1024 (o1 c + 64) 64) (OUT I)
        ∗ offer (pr 9 c) 9
        ∗ tok c 9
        ∗ rtok c 7
        ∗ pt t2B c fullShare Finset.univ (T2 I c)
        ∗ pt gB c fullShare Finset.univ (I.g c)
        ∗ (∃ f, pt oB c fullShare (rows 1024 (o2 c + 64) 64) f)
        ∗ owed c [9, 11, 12, 14, 13, 15])
      ⊢ iprop(((pt oB c fullShare.right (rows 1024 (o1 c + 64) 64) (OUT I)
        ∗ scred c 9
        ∗ semVal (rcvCell c 7) 0
        ∗ owed c [11, 12, 14, 13, 15]
        ∗ pt r4B c fullShare (rows 128 64 64) (R4 I c)
        ∗ pt t2B c fullShare Finset.univ (T2 I c)
        ∗ pt gB c fullShare Finset.univ (I.g c)
        ∗ pt oB c fullShare (rows 1024 (o2 c + 64) 64) (OUT I))
        -∗ WP c (Kt ⟨⟩) Q)
        -∗ WP c (k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 c v15 v36 v293 >>= Kt) Q) := by
  rw [k0_part10_eq_skeleton]; unfold k0_part10_skel
  simp only [semSignalWord, semWaitWord, Prog.lift, Prog.bind_op, Prog.bind_ret, Prog.pure_eq_ret]
  iintro ⟨#Hrec, #Hlev, Hoc, Ho9, Ht9, Hr7, Ht2b, Hg, Hod, HO⟩ Hk
  ihave Hq := (Entails.of_eq (show pt oB c fullShare (rows 1024 (o1 c + 64) 64) (OUT I) = iprop(sendPay I c 9 ∗ pt oB c fullShare.right (rows 1024 (o1 c + 64) 64) (OUT I)) from pt_halves)) $$ Hoc
  icases Hq with ⟨Hs9, HocR⟩
  -- copy 9 leaves for q2
  iapply (send I K 9 (dev13_eq c) (snd_at 9 rfl _) (rcv_at 9 rfl _) [11, 12, 14, 13, 15]
      (by exact pt_slice oB c fullShare.left (Rect.unit (s := S1024x1024) (k0_off28 c) S64x1024.size (k0_off28_inb c)) (fun _ => rfl) (unit_rows (off28_eq c) _) (OUT I))
      (by exact land_slice oB (pr 9 c) (Rect.unit (s := S1024x1024) (k0_off28 c) S64x1024.size (k0_off28_inb c)) (fun _ => rfl) (unit_rows (off28_eq c) _) (dst9 c))
      (by exact (got9 I c).trans (pt_slice oB (pr 9 c) fullShare (Rect.unit (s := S1024x1024) (k0_off28 c) S64x1024.size (k0_off28_inb c)) (fun _ => rfl) (unit_rows (off28_eq c) _) _))
      (by intro x; rfl)
      (by rfl)) $$ [Hs9 Ho9 Ht9 HO]
  · isplitr; · iexact Hrec
    isplitl [Hs9]; · iexact Hs9
    isplitl [Ho9]; · iexact Ho9
    isplitl [Ht9]; · iexact Ht9
    iexact HO
  iintro ⟨Hc9, HO⟩
  -- copy 7 has landed
  iapply (recv I K 7 (rcv_at 7 rfl _) [11, 12, 14, 13, 15] (by rfl) (by decide)) $$ [Hr7 HO]
  · isplitr; · iexact Hrec
    isplitr; · iexact Hlev
    isplitl [Hr7]; · iexact Hr7
    iexact HO
  iintro ⟨Hy7, Hp7, HO⟩
  ihave Hq := (Entails.of_eq (show recvPay I c 7 = pt r4B c fullShare (rows 128 64 64) (R4 I c) from rfl)) $$ Hp7
  icases Hq with Hl7
  iapply (ld (m := (Memref.whole cc0_scratch3 : Memref sig .tc .vmem S128x1024 .f32)) (r := (Rect.unit (s := S128x1024) ![64, 0] S64x1024.size inb_S128x1024_S64x1024_64_0)) (P := pt r4B c fullShare (rows 128 64 64) (R4 I c)) (cut 64 (64) (R4 I c)) (by exact rfl) (by intro x; exact mem_unit rfl _ x) (by intro x; exact emb_cut (o := 64) rfl _ _ x)) $$ Hl7; iintro Hl7
  iapply (ld (m := (Memref.whole cc0_scratch5 : Memref sig .tc .vmem S128x1024 .f32)) (r := (Rect.unit (s := S128x1024) ![64, 0] S64x1024.size inb_S128x1024_S64x1024_64_0)) (P := pt t2B c fullShare Finset.univ (T2 I c)) (cut 64 (64) (T2 I c)) (by exact rfl) (by intro x; exact Finset.mem_univ _) (by intro x; exact emb_cut (o := 64) rfl _ _ x)) $$ Ht2b; iintro Ht2b
  iapply (ld (m := (Memref.whole cc0_stg2_0 : Memref sig .tc .vmem S1x1024 .f32)) (r := (Rect.unit (s := S1x1024) ![0, 0] S1x1024.size inb_S1x1024_S1x1024_0_0)) (P := pt gB c fullShare Finset.univ (I.g c)) (I.g c) (by exact rfl) (by intro x; exact Finset.mem_univ _) (by intro x; exact (emb_cut (o := 0) (n := 1) rfl _ _ x).trans (congrFun (cut_g (I.g c)) x))) $$ Hg; iintro Hg
  icases Hod with ⟨%fo, Hod⟩
  iapply (ldd (m := (Memref.whole cc0_stg3_0 : Memref sig .tc .vmem S1024x1024 .f32)) (r := (Rect.unit (s := S1024x1024) (k0_off29 c) S64x1024.size (k0_off29_inb c))) (P := pt oB c fullShare (rows 1024 (o2 c + 64) 64) fo) (by exact rfl) (by intro x; exact mem_unit (off29_eq c) _ x)) $$ Hod; iintro Hod
  iapply (st (m := (Memref.whole cc0_stg3_0 : Memref sig .tc .vmem S1024x1024 .f32)) (r := (Rect.unit (s := S1024x1024) (k0_off29 c) S64x1024.size (k0_off29_inb c))) (P := pt oB c fullShare (rows 1024 (o2 c + 64) 64) fo) (P' := pt oB c fullShare (rows 1024 (o2 c + 64) 64) (OUT I)) (by exact rfl) (by exact rfl) (by exact (View.set_slice_whole cc0_stg3_0 (Rect.unit (s := S1024x1024) (k0_off29 c) S64x1024.size (k0_off29_inb c))).trans (unit_rows (off29_eq c) _)) (by intro x; exact (emb_cut (off29_eq c) _ _ x).trans (congrFun (out_4 I c) x))) $$ Hod; iintro Hod
  iapply Hk
  isplitl [HocR]; · iexact HocR
  isplitl [Hc9]; · iexact Hc9
  isplitl [Hy7]; · iexact Hy7
  isplitl [HO]; · iexact HO
  isplitl [Hl7]; · iexact Hl7
  isplitl [Ht2b]; · iexact Ht2b
  isplitl [Hg]; · iexact Hg
  iexact Hod

/-- The finished rows leave as copies 11, 12 and 14; copy 8 lands. -/
theorem part11 (K : GSem nD τ sig → ℕ) (c : Dev nD) {α : Type} (Kt : (PUnit) → Prog (TpuEff nD τ sig (Elt F) Λ₀ .tc) α) (Q : α → sProp 𝕄) (v15 : BitVec 32) (v16 : BitVec 32) (v36 : BitVec 32) :
    iprop(records I K ∗ levAts L lv ∗ pt oB c fullShare (rows 1024 (o2 c + 64) 64) (OUT I)
        ∗ offer (pr 11 c) 11
        ∗ tok c 11
        ∗ pt oB c fullShare.right (rows 1024 (o1 c) 64) (OUT I)
        ∗ pt oB c fullShare.right (rows 1024 (o1 c + 64) 64) (OUT I)
        ∗ offer (pr 12 c) 12
        ∗ tok c 12
        ∗ pt oB c fullShare.right (rows 1024 (o2 c) 64) (OUT I)
        ∗ offer (pr 14 c) 14
        ∗ tok c 14
        ∗ rtok c 8
        ∗ owed c [11, 12, 14, 13, 15])
      ⊢ iprop(((scred c 11
        ∗ scred c 12
        ∗ scred c 14
        ∗ semVal (rcvCell c 8) 0
        ∗ recvPay I c 8
        ∗ owed c [13, 15])
        -∗ WP c (Kt ⟨⟩) Q)
        -∗ WP c (k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 c v15 v16 v36 >>= Kt) Q) := by
  rw [k0_part11_eq_skeleton]; unfold k0_part11_skel
  simp only [semSignalWord, semWaitWord, Prog.lift, Prog.bind_op, Prog.bind_ret, Prog.pure_eq_ret]
  iintro ⟨#Hrec, #Hlev, Hod, Ho11, Ht11, HoaR, HocR, Ho12, Ht12, HobR, Ho14, Ht14, Hr8, HO⟩ Hk
  ihave Hq := (Entails.of_eq (show pt oB c fullShare (rows 1024 (o2 c + 64) 64) (OUT I) = iprop(sendPay I c 11 ∗ pt oB c fullShare.right (rows 1024 (o2 c + 64) 64) (OUT I)) from pt_halves)) $$ Hod
  icases Hq with ⟨Hs11, HodR⟩
  -- copy 11 leaves for q1
  iapply (send I K 11 (dev14_eq c) (snd_at 11 rfl _) (rcv_at 11 rfl _) [12, 14, 13, 15]
      (by exact pt_slice oB c fullShare.left (Rect.unit (s := S1024x1024) (k0_off30 c) S64x1024.size (k0_off30_inb c)) (fun _ => rfl) (unit_rows (off30_eq c) _) (OUT I))
      (by exact land_slice oB (pr 11 c) (Rect.unit (s := S1024x1024) (k0_off30 c) S64x1024.size (k0_off30_inb c)) (fun _ => rfl) (unit_rows (off30_eq c) _) (dst11 c))
      (by exact (got11 I c).trans (pt_slice oB (pr 11 c) fullShare (Rect.unit (s := S1024x1024) (k0_off30 c) S64x1024.size (k0_off30_inb c)) (fun _ => rfl) (unit_rows (off30_eq c) _) _))
      (by intro x; rfl)
      (by rfl)) $$ [Hs11 Ho11 Ht11 HO]
  · isplitr; · iexact Hrec
    isplitl [Hs11]; · iexact Hs11
    isplitl [Ho11]; · iexact Ho11
    isplitl [Ht11]; · iexact Ht11
    iexact HO
  iintro ⟨Hc11, HO⟩
  ihave Hs12 := (Entails.of_eq (show iprop(pt oB c fullShare.right (rows 1024 (o1 c) 64) (OUT I) ∗ pt oB c fullShare.right (rows 1024 (o1 c + 64) 64) (OUT I)) = sendPay I c 12 from (pt_union (rows_disjoint _ _ _ _ _ (Or.inl le_rfl))).symm.trans (congrArg (fun S => pt oB c fullShare.right S (OUT I)) (rows_two 1024 (o1 c))).symm)) $$ [HoaR HocR]
  · isplitl [HoaR] <;> iassumption
  -- copy 12 leaves for q1
  iapply (send I K 12 (dev15_eq c) (snd_at 12 rfl _) (rcv_at 12 rfl _) [14, 13, 15]
      (by exact pt_slice oB c fullShare.right (Rect.unit (s := S1024x1024) (k0_off31 c) S128x1024.size (k0_off31_inb c)) (fun _ => rfl) (unit_rows (off31_eq c) _) (OUT I))
      (by exact land_slice oB (pr 12 c) (Rect.unit (s := S1024x1024) (k0_off31 c) S128x1024.size (k0_off31_inb c)) (fun _ => rfl) (unit_rows (off31_eq c) _) (dst12 c))
      (by exact (got12 I c).trans (pt_slice oB (pr 12 c) fullShare (Rect.unit (s := S1024x1024) (k0_off31 c) S128x1024.size (k0_off31_inb c)) (fun _ => rfl) (unit_rows (off31_eq c) _) _))
      (by intro x; rfl)
      (by rfl)) $$ [Hs12 Ho12 Ht12 HO]
  · isplitr; · iexact Hrec
    isplitl [Hs12]; · iexact Hs12
    isplitl [Ho12]; · iexact Ho12
    isplitl [Ht12]; · iexact Ht12
    iexact HO
  iintro ⟨Hc12, HO⟩
  ihave Hs14 := (Entails.of_eq (show iprop(pt oB c fullShare.right (rows 1024 (o2 c) 64) (OUT I) ∗ pt oB c fullShare.right (rows 1024 (o2 c + 64) 64) (OUT I)) = sendPay I c 14 from (pt_union (rows_disjoint _ _ _ _ _ (Or.inl le_rfl))).symm.trans (congrArg (fun S => pt oB c fullShare.right S (OUT I)) (rows_two 1024 (o2 c))).symm)) $$ [HobR HodR]
  · isplitl [HobR] <;> iassumption
  -- copy 14 leaves for q2
  iapply (send I K 14 (dev16_eq c) (snd_at 14 rfl _) (rcv_at 14 rfl _) [13, 15]
      (by exact pt_slice oB c fullShare.right (Rect.unit (s := S1024x1024) (k0_off32 c) S128x1024.size (k0_off32_inb c)) (fun _ => rfl) (unit_rows (off32_eq c) _) (OUT I))
      (by exact land_slice oB (pr 14 c) (Rect.unit (s := S1024x1024) (k0_off32 c) S128x1024.size (k0_off32_inb c)) (fun _ => rfl) (unit_rows (off32_eq c) _) (dst14 c))
      (by exact (got14 I c).trans (pt_slice oB (pr 14 c) fullShare (Rect.unit (s := S1024x1024) (k0_off32 c) S128x1024.size (k0_off32_inb c)) (fun _ => rfl) (unit_rows (off32_eq c) _) _))
      (by intro x; rfl)
      (by rfl)) $$ [Hs14 Ho14 Ht14 HO]
  · isplitr; · iexact Hrec
    isplitl [Hs14]; · iexact Hs14
    isplitl [Ho14]; · iexact Ho14
    isplitl [Ht14]; · iexact Ht14
    iexact HO
  iintro ⟨Hc14, HO⟩
  -- copy 8 has landed
  iapply (recv I K 8 (rcv_at 8 rfl _) [13, 15] (by rfl) (by decide)) $$ [Hr8 HO]
  · isplitr; · iexact Hrec
    isplitr; · iexact Hlev
    isplitl [Hr8]; · iexact Hr8
    iexact HO
  iintro ⟨Hy8, Hp8, HO⟩
  iapply Hk
  isplitl [Hc11]; · iexact Hc11
  isplitl [Hc12]; · iexact Hc12
  isplitl [Hc14]; · iexact Hc14
  isplitl [Hy8]; · iexact Hy8
  isplitl [Hp8]; · iexact Hp8
  iexact HO

/-- Copy 9 lands; the rows of copies 8 and 9 leave as copy 13; copies 10 and 11 land. -/
theorem part12 (K : GSem nD τ sig → ℕ) (c : Dev nD) {α : Type} (Kt : (BitVec 32) → Prog (TpuEff nD τ sig (Elt F) Λ₀ .tc) α) (Q : α → sProp 𝕄) (v15 : BitVec 32) (v16 : BitVec 32) (v20 : BitVec 32) (v24 : BitVec 32) (v37 : BitVec 32) (v38 : BitVec 32) :
    iprop(records I K ∗ levAts L lv ∗ rtok c 9
        ∗ recvPay I c 8
        ∗ offer (pr 13 c) 13
        ∗ tok c 13
        ∗ rtok c 10
        ∗ rtok c 11
        ∗ owed c [13, 15])
      ⊢ iprop((∀ a, (semVal (rcvCell c 9) 0
        ∗ scred c 13
        ∗ semVal (rcvCell c 10) 0
        ∗ recvPay I c 10
        ∗ semVal (rcvCell c 11) 0
        ∗ recvPay I c 11
        ∗ owed c [15])
        -∗ WP c (Kt a) Q)
        -∗ WP c (k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 c v15 v16 v20 v24 v37 v38 >>= Kt) Q) := by
  rw [k0_part12_eq_skeleton]; unfold k0_part12_skel
  simp only [semSignalWord, semWaitWord, Prog.lift, Prog.bind_op, Prog.bind_ret, Prog.pure_eq_ret]
  iintro ⟨#Hrec, #Hlev, Hr9, Hp8, Ho13, Ht13, Hr10, Hr11, HO⟩ Hk
  -- copy 9 has landed
  iapply (recv I K 9 (rcv_at 9 rfl _) [13, 15] (by rfl) (by decide)) $$ [Hr9 HO]
  · isplitr; · iexact Hrec
    isplitr; · iexact Hlev
    isplitl [Hr9]; · iexact Hr9
    iexact HO
  iintro ⟨Hy9, Hp9, HO⟩
  ihave Hs13 := (Entails.of_eq (show iprop(recvPay I c 8 ∗ recvPay I c 9) = sendPay I c 13 from (pt_union (rows_disjoint _ _ _ _ _ (Or.inl le_rfl))).symm.trans (congrArg (fun S => pt oB c fullShare S (OUT I)) (rows_two 1024 (g1 c))).symm)) $$ [Hp8 Hp9]
  · isplitl [Hp8] <;> iassumption
  -- copy 13 leaves for q1
  iapply (send I K 13 (dev17_eq c) (snd_at 13 rfl _) (rcv_at 13 rfl _) [15]
      (by exact pt_slice oB c fullShare (Rect.unit (s := S1024x1024) (k0_off33 c) S128x1024.size (k0_off33_inb c)) (fun _ => rfl) (unit_rows (off33_eq c) _) (OUT I))
      (by exact land_slice oB (pr 13 c) (Rect.unit (s := S1024x1024) (k0_off33 c) S128x1024.size (k0_off33_inb c)) (fun _ => rfl) (unit_rows (off33_eq c) _) (dst13 c))
      (by exact (got13 I c).trans (pt_slice oB (pr 13 c) fullShare (Rect.unit (s := S1024x1024) (k0_off33 c) S128x1024.size (k0_off33_inb c)) (fun _ => rfl) (unit_rows (off33_eq c) _) _))
      (by intro x; rfl)
      (by rfl)) $$ [Hs13 Ho13 Ht13 HO]
  · isplitr; · iexact Hrec
    isplitl [Hs13]; · iexact Hs13
    isplitl [Ho13]; · iexact Ho13
    isplitl [Ht13]; · iexact Ht13
    iexact HO
  iintro ⟨Hc13, HO⟩
  -- copy 10 has landed
  iapply (recv I K 10 (rcv_at 10 rfl _) [15] (by rfl) (by decide)) $$ [Hr10 HO]
  · isplitr; · iexact Hrec
    isplitr; · iexact Hlev
    isplitl [Hr10]; · iexact Hr10
    iexact HO
  iintro ⟨Hy10, Hp10, HO⟩
  -- copy 11 has landed
  iapply (recv I K 11 (rcv_at 11 rfl _) [15] (by rfl) (by decide)) $$ [Hr11 HO]
  · isplitr; · iexact Hrec
    isplitr; · iexact Hlev
    isplitl [Hr11]; · iexact Hr11
    iexact HO
  iintro ⟨Hy11, Hp11, HO⟩
  iapply Hk
  isplitl [Hy9]; · iexact Hy9
  isplitl [Hc13]; · iexact Hc13
  isplitl [Hy10]; · iexact Hy10
  isplitl [Hp10]; · iexact Hp10
  isplitl [Hy11]; · iexact Hy11
  isplitl [Hp11]; · iexact Hp11
  iexact HO

end Proto
-- ==== Proof.PartsD.lean ====
module

public import proofs.«01_k».proof.Proof.Views

/-! # The last copies and the sources back -/

@[expose] public section

noncomputable section

namespace Proto

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] (I : Given F)

local notation "𝕄" => MT nD τ sig Unit (Elt F) ℕ UU ℕ

/-- Their rows leave as copy 15; copies 12, 13 and 14 land. -/
theorem part13 (K : GSem nD τ sig → ℕ) (c : Dev nD) {α : Type} (Kt : (BitVec 32) → Prog (TpuEff nD τ sig (Elt F) Λ₀ .tc) α) (Q : α → sProp 𝕄) (v15 : BitVec 32) (v16 : BitVec 32) (v24 : BitVec 32) (v38 : BitVec 32) (w : BitVec 32) :
    iprop(records I K ∗ levAts L lv ∗ recvPay I c 10
        ∗ recvPay I c 11
        ∗ offer (pr 15 c) 15
        ∗ tok c 15
        ∗ rtok c 12
        ∗ rtok c 13
        ∗ rtok c 14
        ∗ owed c [15])
      ⊢ iprop((∀ a, (scred c 15
        ∗ semVal (rcvCell c 12) 0
        ∗ recvPay I c 12
        ∗ semVal (rcvCell c 13) 0
        ∗ recvPay I c 13
        ∗ semVal (rcvCell c 14) 0
        ∗ recvPay I c 14
        ∗ owed c [])
        -∗ WP c (Kt a) Q)
        -∗ WP c (k0_part13 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 c v15 v16 v24 v38 w >>= Kt) Q) := by
  rw [k0_part13_eq_skeleton]; unfold k0_part13_skel
  simp only [semSignalWord, semWaitWord, Prog.lift, Prog.bind_op, Prog.bind_ret, Prog.pure_eq_ret]
  iintro ⟨#Hrec, #Hlev, Hp10, Hp11, Ho15, Ht15, Hr12, Hr13, Hr14, HO⟩ Hk
  ihave Hs15 := (Entails.of_eq (show iprop(recvPay I c 10 ∗ recvPay I c 11) = sendPay I c 15 from (pt_union (rows_disjoint _ _ _ _ _ (Or.inl le_rfl))).symm.trans (congrArg (fun S => pt oB c fullShare S (OUT I)) (rows_two 1024 (g2 c))).symm)) $$ [Hp10 Hp11]
  · isplitl [Hp10] <;> iassumption
  -- copy 15 leaves for q2
  iapply (send I K 15 (dev18_eq c) (snd_at 15 rfl _) (rcv_at 15 rfl _) []
      (by exact pt_slice oB c fullShare (Rect.unit (s := S1024x1024) (k0_off34 c) S128x1024.size (k0_off34_inb c)) (fun _ => rfl) (unit_rows (off34_eq c) _) (OUT I))
      (by exact land_slice oB (pr 15 c) (Rect.unit (s := S1024x1024) (k0_off34 c) S128x1024.size (k0_off34_inb c)) (fun _ => rfl) (unit_rows (off34_eq c) _) (dst15 c))
      (by exact (got15 I c).trans (pt_slice oB (pr 15 c) fullShare (Rect.unit (s := S1024x1024) (k0_off34 c) S128x1024.size (k0_off34_inb c)) (fun _ => rfl) (unit_rows (off34_eq c) _) _))
      (by intro x; rfl)
      (by rfl)) $$ [Hs15 Ho15 Ht15 HO]
  · isplitr; · iexact Hrec
    isplitl [Hs15]; · iexact Hs15
    isplitl [Ho15]; · iexact Ho15
    isplitl [Ht15]; · iexact Ht15
    iexact HO
  iintro ⟨Hc15, HO⟩
  -- copy 12 has landed
  iapply (recv I K 12 (rcv_at 12 rfl _) [] (by rfl) (by decide)) $$ [Hr12 HO]
  · isplitr; · iexact Hrec
    isplitr; · iexact Hlev
    isplitl [Hr12]; · iexact Hr12
    iexact HO
  iintro ⟨Hy12, Hp12, HO⟩
  -- copy 13 has landed
  iapply (recv I K 13 (rcv_at 13 rfl _) [] (by rfl) (by decide)) $$ [Hr13 HO]
  · isplitr; · iexact Hrec
    isplitr; · iexact Hlev
    isplitl [Hr13]; · iexact Hr13
    iexact HO
  iintro ⟨Hy13, Hp13, HO⟩
  -- copy 14 has landed
  iapply (recv I K 14 (rcv_at 14 rfl _) [] (by rfl) (by decide)) $$ [Hr14 HO]
  · isplitr; · iexact Hrec
    isplitr; · iexact Hlev
    isplitl [Hr14]; · iexact Hr14
    iexact HO
  iintro ⟨Hy14, Hp14, HO⟩
  iapply Hk
  isplitl [Hc15]; · iexact Hc15
  isplitl [Hy12]; · iexact Hy12
  isplitl [Hp12]; · iexact Hp12
  isplitl [Hy13]; · iexact Hy13
  isplitl [Hp13]; · iexact Hp13
  isplitl [Hy14]; · iexact Hy14
  isplitl [Hp14]; · iexact Hp14
  iexact HO

/-- Copy 15 lands; the sources of copies 0 to 3 come back. -/
theorem part14 (K : GSem nD τ sig → ℕ) (c : Dev nD) {α : Type} (Kt : (PUnit) → Prog (TpuEff nD τ sig (Elt F) Λ₀ .tc) α) (Q : α → sProp 𝕄) (v418 : BitVec 32) :
    iprop(records I K ∗ levAts L lv ∗ rtok c 15
        ∗ spos c 0
        ∗ scred c 0
        ∗ spos c 1
        ∗ scred c 1
        ∗ spos c 2
        ∗ scred c 2
        ∗ spos c 3
        ∗ scred c 3
        ∗ owed c [])
      ⊢ iprop(((semVal (rcvCell c 15) 0
        ∗ recvPay I c 15
        ∗ semVal (sndCell c 0) 0
        ∗ sendPay I c 0
        ∗ semVal (sndCell c 1) 0
        ∗ sendPay I c 1
        ∗ semVal (sndCell c 2) 0
        ∗ sendPay I c 2
        ∗ semVal (sndCell c 3) 0
        ∗ sendPay I c 3
        ∗ owed c [])
        -∗ WP c (Kt ⟨⟩) Q)
        -∗ WP c (k0_part14 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 c v418 >>= Kt) Q) := by
  rw [k0_part14_eq_skeleton]; unfold k0_part14_skel
  simp only [semSignalWord, semWaitWord, Prog.lift, Prog.bind_op, Prog.bind_ret, Prog.pure_eq_ret]
  iintro ⟨#Hrec, #Hlev, Hr15, Hb0, Hc0, Hb1, Hc1, Hb2, Hc2, Hb3, Hc3, HO⟩ Hk
  -- copy 15 has landed
  iapply (recv I K 15 (rcv_at 15 rfl _) [] (by rfl) (by decide)) $$ [Hr15 HO]
  · isplitr; · iexact Hrec
    isplitr; · iexact Hlev
    isplitl [Hr15]; · iexact Hr15
    iexact HO
  iintro ⟨Hy15, Hp15, HO⟩
  -- copy 0 has left
  iapply (back I K 0 (snd_at 0 rfl _) (by rfl)) $$ [Hb0 Hc0 HO]
  · isplitr; · iexact Hrec
    isplitl [Hb0]; · iexact Hb0
    isplitl [Hc0]; · iexact Hc0
    iexact HO
  iintro ⟨Hz0, Hs0, HO⟩
  -- copy 1 has left
  iapply (back I K 1 (snd_at 1 rfl _) (by rfl)) $$ [Hb1 Hc1 HO]
  · isplitr; · iexact Hrec
    isplitl [Hb1]; · iexact Hb1
    isplitl [Hc1]; · iexact Hc1
    iexact HO
  iintro ⟨Hz1, Hs1, HO⟩
  -- copy 2 has left
  iapply (back I K 2 (snd_at 2 rfl _) (by rfl)) $$ [Hb2 Hc2 HO]
  · isplitr; · iexact Hrec
    isplitl [Hb2]; · iexact Hb2
    isplitl [Hc2]; · iexact Hc2
    iexact HO
  iintro ⟨Hz2, Hs2, HO⟩
  -- copy 3 has left
  iapply (back I K 3 (snd_at 3 rfl _) (by rfl)) $$ [Hb3 Hc3 HO]
  · isplitr; · iexact Hrec
    isplitl [Hb3]; · iexact Hb3
    isplitl [Hc3]; · iexact Hc3
    iexact HO
  iintro ⟨Hz3, Hs3, HO⟩
  iapply Hk
  isplitl [Hy15]; · iexact Hy15
  isplitl [Hp15]; · iexact Hp15
  isplitl [Hz0]; · iexact Hz0
  isplitl [Hs0]; · iexact Hs0
  isplitl [Hz1]; · iexact Hz1
  isplitl [Hs1]; · iexact Hs1
  isplitl [Hz2]; · iexact Hz2
  isplitl [Hs2]; · iexact Hs2
  isplitl [Hz3]; · iexact Hz3
  isplitl [Hs3]; · iexact Hs3
  iexact HO

/-- The sources of copies 4 to 8 come back. -/
theorem part15 (K : GSem nD τ sig → ℕ) (c : Dev nD) {α : Type} (Kt : (PUnit) → Prog (TpuEff nD τ sig (Elt F) Λ₀ .tc) α) (Q : α → sProp 𝕄)  :
    iprop(records I K ∗ levAts L lv ∗ spos c 4
        ∗ scred c 4
        ∗ spos c 5
        ∗ scred c 5
        ∗ spos c 6
        ∗ scred c 6
        ∗ spos c 7
        ∗ scred c 7
        ∗ spos c 8
        ∗ scred c 8
        ∗ owed c [])
      ⊢ iprop(((semVal (sndCell c 4) 0
        ∗ sendPay I c 4
        ∗ semVal (sndCell c 5) 0
        ∗ sendPay I c 5
        ∗ semVal (sndCell c 6) 0
        ∗ sendPay I c 6
        ∗ semVal (sndCell c 7) 0
        ∗ sendPay I c 7
        ∗ semVal (sndCell c 8) 0
        ∗ sendPay I c 8
        ∗ owed c [])
        -∗ WP c (Kt ⟨⟩) Q)
        -∗ WP c (k0_part15 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 c  >>= Kt) Q) := by
  rw [k0_part15_eq_skeleton]; unfold k0_part15_skel
  simp only [semSignalWord, semWaitWord, Prog.lift, Prog.bind_op, Prog.bind_ret, Prog.pure_eq_ret]
  iintro ⟨#Hrec, #Hlev, Hb4, Hc4, Hb5, Hc5, Hb6, Hc6, Hb7, Hc7, Hb8, Hc8, HO⟩ Hk
  -- copy 4 has left
  iapply (back I K 4 (snd_at 4 rfl _) (by rfl)) $$ [Hb4 Hc4 HO]
  · isplitr; · iexact Hrec
    isplitl [Hb4]; · iexact Hb4
    isplitl [Hc4]; · iexact Hc4
    iexact HO
  iintro ⟨Hz4, Hs4, HO⟩
  -- copy 5 has left
  iapply (back I K 5 (snd_at 5 rfl _) (by rfl)) $$ [Hb5 Hc5 HO]
  · isplitr; · iexact Hrec
    isplitl [Hb5]; · iexact Hb5
    isplitl [Hc5]; · iexact Hc5
    iexact HO
  iintro ⟨Hz5, Hs5, HO⟩
  -- copy 6 has left
  iapply (back I K 6 (snd_at 6 rfl _) (by rfl)) $$ [Hb6 Hc6 HO]
  · isplitr; · iexact Hrec
    isplitl [Hb6]; · iexact Hb6
    isplitl [Hc6]; · iexact Hc6
    iexact HO
  iintro ⟨Hz6, Hs6, HO⟩
  -- copy 7 has left
  iapply (back I K 7 (snd_at 7 rfl _) (by rfl)) $$ [Hb7 Hc7 HO]
  · isplitr; · iexact Hrec
    isplitl [Hb7]; · iexact Hb7
    isplitl [Hc7]; · iexact Hc7
    iexact HO
  iintro ⟨Hz7, Hs7, HO⟩
  -- copy 8 has left
  iapply (back I K 8 (snd_at 8 rfl _) (by rfl)) $$ [Hb8 Hc8 HO]
  · isplitr; · iexact Hrec
    isplitl [Hb8]; · iexact Hb8
    isplitl [Hc8]; · iexact Hc8
    iexact HO
  iintro ⟨Hz8, Hs8, HO⟩
  iapply Hk
  isplitl [Hz4]; · iexact Hz4
  isplitl [Hs4]; · iexact Hs4
  isplitl [Hz5]; · iexact Hz5
  isplitl [Hs5]; · iexact Hs5
  isplitl [Hz6]; · iexact Hz6
  isplitl [Hs6]; · iexact Hs6
  isplitl [Hz7]; · iexact Hz7
  isplitl [Hs7]; · iexact Hs7
  isplitl [Hz8]; · iexact Hz8
  isplitl [Hs8]; · iexact Hs8
  iexact HO

/-- The sources of copies 9 to 14 come back. -/
theorem part16 (K : GSem nD τ sig → ℕ) (c : Dev nD) {α : Type} (Kt : (PUnit) → Prog (TpuEff nD τ sig (Elt F) Λ₀ .tc) α) (Q : α → sProp 𝕄)  :
    iprop(records I K ∗ levAts L lv ∗ spos c 9
        ∗ scred c 9
        ∗ spos c 10
        ∗ scred c 10
        ∗ spos c 11
        ∗ scred c 11
        ∗ spos c 12
        ∗ scred c 12
        ∗ spos c 13
        ∗ scred c 13
        ∗ spos c 14
        ∗ scred c 14
        ∗ owed c [])
      ⊢ iprop(((semVal (sndCell c 9) 0
        ∗ sendPay I c 9
        ∗ semVal (sndCell c 10) 0
        ∗ sendPay I c 10
        ∗ semVal (sndCell c 11) 0
        ∗ sendPay I c 11
        ∗ semVal (sndCell c 12) 0
        ∗ sendPay I c 12
        ∗ semVal (sndCell c 13) 0
        ∗ sendPay I c 13
        ∗ semVal (sndCell c 14) 0
        ∗ sendPay I c 14
        ∗ owed c [])
        -∗ WP c (Kt ⟨⟩) Q)
        -∗ WP c (k0_part16 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 c  >>= Kt) Q) := by
  rw [k0_part16_eq_skeleton]; unfold k0_part16_skel
  simp only [semSignalWord, semWaitWord, Prog.lift, Prog.bind_op, Prog.bind_ret, Prog.pure_eq_ret]
  iintro ⟨#Hrec, #Hlev, Hb9, Hc9, Hb10, Hc10, Hb11, Hc11, Hb12, Hc12, Hb13, Hc13, Hb14, Hc14, HO⟩ Hk
  -- copy 9 has left
  iapply (back I K 9 (snd_at 9 rfl _) (by rfl)) $$ [Hb9 Hc9 HO]
  · isplitr; · iexact Hrec
    isplitl [Hb9]; · iexact Hb9
    isplitl [Hc9]; · iexact Hc9
    iexact HO
  iintro ⟨Hz9, Hs9, HO⟩
  -- copy 10 has left
  iapply (back I K 10 (snd_at 10 rfl _) (by rfl)) $$ [Hb10 Hc10 HO]
  · isplitr; · iexact Hrec
    isplitl [Hb10]; · iexact Hb10
    isplitl [Hc10]; · iexact Hc10
    iexact HO
  iintro ⟨Hz10, Hs10, HO⟩
  -- copy 11 has left
  iapply (back I K 11 (snd_at 11 rfl _) (by rfl)) $$ [Hb11 Hc11 HO]
  · isplitr; · iexact Hrec
    isplitl [Hb11]; · iexact Hb11
    isplitl [Hc11]; · iexact Hc11
    iexact HO
  iintro ⟨Hz11, Hs11, HO⟩
  -- copy 12 has left
  iapply (back I K 12 (snd_at 12 rfl _) (by rfl)) $$ [Hb12 Hc12 HO]
  · isplitr; · iexact Hrec
    isplitl [Hb12]; · iexact Hb12
    isplitl [Hc12]; · iexact Hc12
    iexact HO
  iintro ⟨Hz12, Hs12, HO⟩
  -- copy 13 has left
  iapply (back I K 13 (snd_at 13 rfl _) (by rfl)) $$ [Hb13 Hc13 HO]
  · isplitr; · iexact Hrec
    isplitl [Hb13]; · iexact Hb13
    isplitl [Hc13]; · iexact Hc13
    iexact HO
  iintro ⟨Hz13, Hs13, HO⟩
  -- copy 14 has left
  iapply (back I K 14 (snd_at 14 rfl _) (by rfl)) $$ [Hb14 Hc14 HO]
  · isplitr; · iexact Hrec
    isplitl [Hb14]; · iexact Hb14
    isplitl [Hc14]; · iexact Hc14
    iexact HO
  iintro ⟨Hz14, Hs14, HO⟩
  iapply Hk
  isplitl [Hz9]; · iexact Hz9
  isplitl [Hs9]; · iexact Hs9
  isplitl [Hz10]; · iexact Hz10
  isplitl [Hs10]; · iexact Hs10
  isplitl [Hz11]; · iexact Hz11
  isplitl [Hs11]; · iexact Hs11
  isplitl [Hz12]; · iexact Hz12
  isplitl [Hs12]; · iexact Hs12
  isplitl [Hz13]; · iexact Hz13
  isplitl [Hs13]; · iexact Hs13
  isplitl [Hz14]; · iexact Hz14
  isplitl [Hs14]; · iexact Hs14
  iexact HO

end Proto
-- ==== Proof.Split.lean ====
module

public import proofs.«01_k».proof.Proof.Views

/-! # The buffers cut into the pieces that travel, and put together again -/

@[expose] public section

noncomputable section

namespace Proto

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type}

local notation "𝕄" => MT nD τ sig Unit (Elt F) ℕ UU ℕ

/-- Eight summands, written out. -/
theorem all8 (Φ : Fin 8 → sProp 𝕄) : bigSep Finset.univ Φ = iprop(Φ 0 ∗ Φ 1 ∗ Φ 2 ∗ Φ 3 ∗ Φ 4 ∗ Φ 5 ∗ Φ 6 ∗ Φ 7) := by
  rw [bigSep_univ_eq_bigSepL [0, 1, 2, 3, 4, 5, 6, 7] (by decide) (by decide)]
  simp only [bigSepL_cons_cons, bigSepL_singleton]
  rfl
/-- Sixteen summands, written out. -/
theorem all16 (Φ : Fin 16 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [bigSep_univ_eq_bigSepL [0, 1, 2, 3, 4, 5, 6, 7, 8, 9, 10, 11, 12, 13, 14, 15] (by decide) (by decide)]
  simp only [bigSepL_cons_cons, bigSepL_singleton]
  rfl

/-! ## The eight bands of the matrix -/

/-- The first rows of the eight bands of 128 rows, as device `c` names them. -/
def bands (c : Dev nD) : Fin 8 → ℕ := ![o1 c, g1 c, o1 (q1 c), g1 (q1 c), o2 c, g2 c, o2 (q2 c), g2 (q2 c)]

/-- Every row lies in one of the eight. -/
theorem bands_cover (c : Dev nD) (r : ℕ) (h : r < 1024) : ∃ t, bands c t ≤ r ∧ r < bands c t + 128 := by
  have hb : ∀ c : Dev nD, ∀ k : Fin 8, ∃ t, bands c t = 128 * k.val := by decide +kernel
  obtain ⟨t, ht⟩ := hb c ⟨r / 128, by omega⟩
  have ht' : bands c t = 128 * (r / 128) := ht
  exact ⟨t, by omega, by omega⟩
/-- The eight lie apart. -/
theorem bands_apart : ∀ c : Dev nD, ∀ t t' : Fin 8, t ≠ t' → bands c t + 128 ≤ bands c t' ∨ bands c t' + 128 ≤ bands c t := by decide +kernel

/-- A matrix held whole is its eight bands held. -/
theorem cut8 (c : Dev nD) (q : PosShare TreeShare) (f : Buf (Elt F) ((c : Thread nD τ).loc oB)) :
    pt oB c q Finset.univ f = iprop(pt oB c q (rows 1024 (o1 c) 128) f ∗ pt oB c q (rows 1024 (g1 c) 128) f ∗ pt oB c q (rows 1024 (o1 (q1 c)) 128) f ∗ pt oB c q (rows 1024 (g1 (q1 c)) 128) f ∗ pt oB c q (rows 1024 (o2 c) 128) f ∗ pt oB c q (rows 1024 (g2 c) 128) f ∗ pt oB c q (rows 1024 (o2 (q2 c)) 128) f ∗ pt oB c q (rows 1024 (g2 (q2 c)) 128) f) := by
  have hu : (Finset.univ : Finset (⟨2, ![1024, 1024]⟩ : Shape).Idx) = (Finset.univ : Finset (Fin 8)).biUnion fun t => rows 1024 (bands c t) 128 := by
    ext i
    simp only [Finset.mem_univ, Finset.mem_biUnion, true_and, mem_rows, true_iff]
    exact bands_cover c _ (idx2_lt0 i)
  refine (congrArg (fun S => pt oB c q S f) hu).trans ?_
  refine (pointsTo_biUnion (ℓ := (c : Thread nD τ).loc oB) (Finset.univ : Finset (Fin 8)) (fun t => rows 1024 (bands c t) 128)
    (fun t _ t' _ h => rows_disjoint _ _ _ _ _ (bands_apart c t t' h))).trans ?_
  exact all8 fun t => pt oB c q (rows 1024 (bands c t) 128) f

/-- The addend's block held whole is its eight bands held. -/
theorem cut8X (c : Dev nD) (q : PosShare TreeShare) (f : Buf (Elt F) ((c : Thread nD τ).loc xB)) :
    pt xB c q Finset.univ f = iprop(pt xB c q (rowsX (o1 c) 128) f ∗ pt xB c q (rowsX (g1 c) 128) f ∗ pt xB c q (rowsX (o1 (q1 c)) 128) f ∗ pt xB c q (rowsX (g1 (q1 c)) 128) f ∗ pt xB c q (rowsX (o2 c) 128) f ∗ pt xB c q (rowsX (g2 c) 128) f ∗ pt xB c q (rowsX (o2 (q2 c)) 128) f ∗ pt xB c q (rowsX (g2 (q2 c)) 128) f) := by
  have hu : (Finset.univ : Finset S1x1024x1024.Idx) = (Finset.univ : Finset (Fin 8)).biUnion fun t => rowsX (bands c t) 128 := by
    ext i
    simp only [Finset.mem_univ, Finset.mem_biUnion, true_and, mem_rowsX, true_iff]
    exact bands_cover c _ (i 1).isLt
  refine (congrArg (fun S => pt xB c q S f) hu).trans ?_
  refine (pointsTo_biUnion (ℓ := (c : Thread nD τ).loc xB) (Finset.univ : Finset (Fin 8)) (fun t => rowsX (bands c t) 128)
    (fun t _ t' _ h => by
      have h' := bands_apart c t t' h
      rw [Finset.disjoint_left]; intro i hi hi'; rw [mem_rowsX] at hi hi'; omega)).trans ?_
  exact all8 fun t => pt xB c q (rowsX (bands c t) 128) f

/-! ## Halves -/

/-- A band of the result in its two halves. -/
theorem two_o (c : Dev nD) (q : PosShare TreeShare) (o : ℕ) (f : Buf (Elt F) ((c : Thread nD τ).loc oB)) :
    pt oB c q (rows 1024 o 128) f = iprop(pt oB c q (rows 1024 o 64) f ∗ pt oB c q (rows 1024 (o + 64) 64) f) :=
  (congrArg (fun S => pt oB c q S f) (rows_two 1024 o)).trans (pt_union (rows_disjoint _ _ _ _ _ (Or.inl le_rfl)))

/-- The forwarded and the kept eighth of the quarter are apart. -/
theorem apart_r1B (c : Dev nD) : Disjoint (rows 256 (f1 c) 128) (rows 256 (c1 c) 128) :=
  rows_disjoint _ _ _ _ _ (by revert c; decide +kernel)
/-- Together they are the quarter. -/
theorem whole_r1B (c : Dev nD) : rows 256 (f1 c) 128 ∪ rows 256 (c1 c) 128 = Finset.univ := by
  have h : (f1 c = 0 ∧ c1 c = 128) ∨ (f1 c = 128 ∧ c1 c = 0) := by revert c; decide +kernel
  ext i
  have hi : (i 0).val < 256 := idx2_lt0 i
  rw [Finset.mem_union, mem_rows, mem_rows]
  exact ⟨fun _ => Finset.mem_univ _, fun _ => by omega⟩
/-- A quarter's landing buffer cut in its two eighths. -/
theorem cut_r1B (c : Dev nD) (f : Buf (Elt F) ((c : Thread nD τ).loc r1B)) :
    pt r1B c fullShare Finset.univ f = iprop(pt r1B c fullShare (rows 256 (f1 c) 128) f ∗ pt r1B c fullShare (rows 256 (c1 c) 128) f) :=
  (congrArg (fun S => pt r1B c fullShare S f) (whole_r1B c).symm).trans (pt_union (apart_r1B c))
/-- And put together again, whatever each holds. -/
theorem join_r1B (c : Dev nD) (f g : Buf (Elt F) ((c : Thread nD τ).loc r1B)) :
    iprop(pt r1B c fullShare (rows 256 (f1 c) 64) f ∗ pt r1B c fullShare (rows 256 (f1 c + 64) 64) f ∗ pt r1B c fullShare (rows 256 (c1 c) 128) g)
      ⊢ (iprop(∃ h, pt r1B c fullShare Finset.univ h) : sProp 𝕄) := by
  have e : pt r1B c fullShare (rows 256 (f1 c) 128) f = (iprop(pt r1B c fullShare (rows 256 (f1 c) 64) f ∗ pt r1B c fullShare (rows 256 (f1 c + 64) 64) f) : sProp 𝕄) :=
    (congrArg (fun S => pt r1B c fullShare S f) (rows_two 256 (f1 c))).trans (pt_union (rows_disjoint _ _ _ _ _ (Or.inl le_rfl)))
  iintro ⟨H1, H2, H3⟩
  ihave H := (Entails.of_eq e.symm) $$ [H1 H2]
  · isplitl [H1] <;> iassumption
  have j : iprop(pt r1B c fullShare (rows 256 (f1 c) 128) f ∗ pt r1B c fullShare (rows 256 (c1 c) 128) g)
      ⊢ (pt r1B c fullShare Finset.univ ((rows 256 (c1 c) 128).piecewise g f) : sProp 𝕄) := by
    refine (pointsTo_join (ℓ := (c : Thread nD τ).loc r1B) (apart_r1B c)).trans (Entails.of_eq ?_)
    exact congrArg (fun S => pt r1B c fullShare S ((rows 256 (c1 c) 128).piecewise g f)) (whole_r1B c)
  ihave H := j $$ [H H3]
  · isplitl [H] <;> iassumption
  iexists _; iexact H

/-- The forwarded and the kept eighth of the quarter are apart. -/
theorem apart_r2B (c : Dev nD) : Disjoint (rows 256 (f2 c) 128) (rows 256 (c2 c) 128) :=
  rows_disjoint _ _ _ _ _ (by revert c; decide +kernel)
/-- Together they are the quarter. -/
theorem whole_r2B (c : Dev nD) : rows 256 (f2 c) 128 ∪ rows 256 (c2 c) 128 = Finset.univ := by
  have h : (f2 c = 0 ∧ c2 c = 128) ∨ (f2 c = 128 ∧ c2 c = 0) := by revert c; decide +kernel
  ext i
  have hi : (i 0).val < 256 := idx2_lt0 i
  rw [Finset.mem_union, mem_rows, mem_rows]
  exact ⟨fun _ => Finset.mem_univ _, fun _ => by omega⟩
/-- A quarter's landing buffer cut in its two eighths. -/
theorem cut_r2B (c : Dev nD) (f : Buf (Elt F) ((c : Thread nD τ).loc r2B)) :
    pt r2B c fullShare Finset.univ f = iprop(pt r2B c fullShare (rows 256 (f2 c) 128) f ∗ pt r2B c fullShare (rows 256 (c2 c) 128) f) :=
  (congrArg (fun S => pt r2B c fullShare S f) (whole_r2B c).symm).trans (pt_union (apart_r2B c))
/-- And put together again, whatever each holds. -/
theorem join_r2B (c : Dev nD) (f g : Buf (Elt F) ((c : Thread nD τ).loc r2B)) :
    iprop(pt r2B c fullShare (rows 256 (f2 c) 64) f ∗ pt r2B c fullShare (rows 256 (f2 c + 64) 64) f ∗ pt r2B c fullShare (rows 256 (c2 c) 128) g)
      ⊢ (iprop(∃ h, pt r2B c fullShare Finset.univ h) : sProp 𝕄) := by
  have e : pt r2B c fullShare (rows 256 (f2 c) 128) f = (iprop(pt r2B c fullShare (rows 256 (f2 c) 64) f ∗ pt r2B c fullShare (rows 256 (f2 c + 64) 64) f) : sProp 𝕄) :=
    (congrArg (fun S => pt r2B c fullShare S f) (rows_two 256 (f2 c))).trans (pt_union (rows_disjoint _ _ _ _ _ (Or.inl le_rfl)))
  iintro ⟨H1, H2, H3⟩
  ihave H := (Entails.of_eq e.symm) $$ [H1 H2]
  · isplitl [H1] <;> iassumption
  have j : iprop(pt r2B c fullShare (rows 256 (f2 c) 128) f ∗ pt r2B c fullShare (rows 256 (c2 c) 128) g)
      ⊢ (pt r2B c fullShare Finset.univ ((rows 256 (c2 c) 128).piecewise g f) : sProp 𝕄) := by
    refine (pointsTo_join (ℓ := (c : Thread nD τ).loc r2B) (apart_r2B c)).trans (Entails.of_eq ?_)
    exact congrArg (fun S => pt r2B c fullShare S ((rows 256 (c2 c) 128).piecewise g f)) (whole_r2B c)
  ihave H := j $$ [H H3]
  · isplitl [H] <;> iassumption
  iexists _; iexact H

/-- A landing buffer of the second exchange is its two halves. -/
theorem cut_r3B (c : Dev nD) (f : Buf (Elt F) ((c : Thread nD τ).loc r3B)) :
    pt r3B c fullShare Finset.univ f = iprop(pt r3B c fullShare (rows 128 0 64) f ∗ pt r3B c fullShare (rows 128 64 64) f) :=
  (congrArg (fun S => pt r3B c fullShare S f) ((rows_all 128).symm.trans (rows_two 128 0))).trans (pt_union (rows_disjoint _ _ _ _ _ (Or.inl le_rfl)))

/-- A landing buffer of the second exchange is its two halves. -/
theorem cut_r4B (c : Dev nD) (f : Buf (Elt F) ((c : Thread nD τ).loc r4B)) :
    pt r4B c fullShare Finset.univ f = iprop(pt r4B c fullShare (rows 128 0 64) f ∗ pt r4B c fullShare (rows 128 64 64) f) :=
  (congrArg (fun S => pt r4B c fullShare S f) ((rows_all 128).symm.trans (rows_two 128 0))).trans (pt_union (rows_disjoint _ _ _ _ _ (Or.inl le_rfl)))

/-! ## Offers -/

/-- What the signal to `q1` carries: this device's landing places for the copies that come from there. -/
theorem barPay_q1 (c : Dev nD) : barPay (F := F) (q1 c) true = bigSep (Finset.univ.filter fun j => toQ1 j = true) fun j => offer c j := by
  unfold barPay
  refine bigSep_congr fun j hj => ?_
  have h : toQ1 j = true := (Finset.mem_filter.mp hj).2
  have e : pr j (q1 c) = c := by unfold pr; rw [if_pos h, q1_q1]
  rw [e]
/-- What the signal to `q2` carries. -/
theorem barPay_q2 (c : Dev nD) : barPay (F := F) (q2 c) false = bigSep (Finset.univ.filter fun j => toQ1 j = false) fun j => offer c j := by
  unfold barPay
  refine bigSep_congr fun j hj => ?_
  have h : toQ1 j = false := (Finset.mem_filter.mp hj).2
  have e : pr j (q2 c) = c := by unfold pr; rw [if_neg (by rw [h]; decide), q2_q2]
  rw [e]
/-- The filter of the copies that do not go to `q1`. -/
theorem filter_not : (Finset.univ.filter fun j => ¬ toQ1 j = true) = (Finset.univ.filter fun j => toQ1 j = false) := by decide +kernel
/-- All of a device's offers, split between its two signals. -/
theorem offers_out (c : Dev nD) : bigSep Finset.univ (fun j => offer (F := F) c j) = iprop(barPay (q1 c) true ∗ barPay (q2 c) false) := by
  rw [barPay_q1, barPay_q2, bigSep_filter_split Finset.univ fun j => toQ1 j = true, filter_not]; rfl
/-- All offers made to a device, gathered from the two payments. -/
theorem offers_in (c : Dev nD) : iprop(barPay (F := F) c false ∗ barPay c true) = bigSep Finset.univ (fun j => offer (F := F) (pr j c) j) := by
  rw [bigSep_filter_split Finset.univ fun j => toQ1 j = true, filter_not]
  show iprop(barPay (F := F) c false ∗ barPay c true) = iprop(barPay (F := F) c true ∗ barPay c false)
  exact BI.equiv_iff.mp ⟨BI.sep_comm, BI.sep_comm⟩

end Proto
-- ==== Proof.PartE.lean ====
module

public import proofs.«01_k».proof.Proof.Split

/-! # The barrier -/

@[expose] public section

noncomputable section

namespace Proto

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] (I : Given F)

local notation "𝕄" => MT nD τ sig Unit (Elt F) ℕ UU ℕ

/-- Both signals, the wait, then copies 0 and 1 leave. -/
theorem part2 (K : GSem nD τ sig → ℕ) (c : Dev nD) {α : Type} (Kt : (Σ' (v34 : BitVec 32) (v36 : BitVec 32) (v37 : BitVec 32) (v38 : BitVec 32), BitVec 32) → Prog (TpuEff nD τ sig (Elt F) Λ₀ .tc) α) (Q : α → sProp 𝕄) (v15 : BitVec 32) (v16 : BitVec 32) (v20 : BitVec 32) (v22 : BitVec 32) (v24 : BitVec 32) (v28 : BitVec 32) (v30 : BitVec 32) (w : BitVec 32) :
    iprop(records I K ∗ levAts L lv ∗ barPay (F := F) (q1 c) true
        ∗ barPay (F := F) (q2 c) false
        ∗ dutyTok ER (barCell (q1 c)) 0 true
        ∗ dutyTok ER (barCell (q2 c)) 0 false
        ∗ reached ER (barCell (q1 c)) 0
        ∗ reached ER (barCell (q2 c)) 0
        ∗ atPos ER (barCell c) 0 ∅ 0
        ∗ cred (tallyAt (barCell c) () 2)
        ∗ (∃ W, owes (c : Thread nD τ) (O₀ c) W)
        ∗ sendPay I c 0
        ∗ tok c 0
        ∗ sendPay I c 1
        ∗ tok c 1)
      ⊢ iprop((∀ a, (semVal (barCell c) 0
        ∗ offer (pr 2 c) 2
        ∗ offer (pr 3 c) 3
        ∗ offer (pr 4 c) 4
        ∗ offer (pr 5 c) 5
        ∗ offer (pr 6 c) 6
        ∗ offer (pr 7 c) 7
        ∗ offer (pr 8 c) 8
        ∗ offer (pr 9 c) 9
        ∗ offer (pr 10 c) 10
        ∗ offer (pr 11 c) 11
        ∗ offer (pr 12 c) 12
        ∗ offer (pr 13 c) 13
        ∗ offer (pr 14 c) 14
        ∗ offer (pr 15 c) 15
        ∗ scred c 0
        ∗ scred c 1
        ∗ owed c [2, 3, 4, 5, 6, 7, 8, 10, 9, 11, 12, 14, 13, 15])
        -∗ WP c (Kt a) Q)
        -∗ WP c (k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 c v15 v16 v20 v22 v24 v28 (SemArray.scalar (sig.barrier 0 rfl)) v30 w >>= Kt) Q) := by
  rw [k0_part2_eq_skeleton]; unfold k0_part2_skel
  simp only [semSignalWord, semWaitWord, Prog.lift, Prog.bind_op, Prog.bind_ret, Prog.pure_eq_ret]
  iintro ⟨#Hrec, #Hlev, Hn1, Hn2, Hd1, Hd2, #Hq1, #Hq2, Hba, Hbc, HO, Hs0, Ht0, Hs1, Ht1⟩ Hk
  icases HO with ⟨%W, HO⟩
  iapply (signal I K true (d := q1 c) (dev1_eq c) (Ol c order + tallyAt (barCell (q2 c)) () 1) (W := W)) $$ [Hn1 Hd1 HO]
  · isplitr; · iexact Hrec
    isplitl [Hn1]; · iexact Hn1
    isplitl [Hd1]; · iexact Hd1
    isplitr; · iexact Hq1
    iexact HO
  iintro HO
  iapply (signal I K false (d := q2 c) (dev2_eq c) (Ol c order) (W := W)) $$ [Hn2 Hd2 HO]
  · isplitr; · iexact Hrec
    isplitl [Hn2]; · iexact Hn2
    isplitl [Hd2]; · iexact Hd2
    isplitr; · iexact Hq2
    iexact HO
  iintro HO
  iapply (barWait I K order (W := W)) $$ [Hba Hbc HO]
  · isplitr; · iexact Hrec
    isplitr; · iexact Hlev
    isplitl [Hba]; · iexact Hba
    isplitl [Hbc]; · iexact Hbc
    iexact HO
  iintro ⟨Hbz, Hof, Hot, HO⟩
  ihave Hoff := (Entails.of_eq ((offers_in c).trans (all16 fun j => offer (pr j c) j))) $$ [Hof Hot]
  · isplitl [Hof] <;> iassumption
  icases Hoff with ⟨Ho0, Ho1, Ho2, Ho3, Ho4, Ho5, Ho6, Ho7, Ho8, Ho9, Ho10, Ho11, Ho12, Ho13, Ho14, Ho15⟩
  -- copy 0 leaves for q1
  iapply (send I K 0 (dev3_eq c) (snd_at 0 rfl _) (rcv_at 0 rfl _) [1, 2, 3, 4, 5, 6, 7, 8, 10, 9, 11, 12, 14, 13, 15]
      (by exact pt_sliceX c fullShare.right (o := g1 (q1 c)) ((off2_eq c).trans (by revert c; decide +kernel)) _ (I.x c))
      (by exact land_slice r1B (pr 0 c) (Rect.unit (s := S256x1024) (k0_off1 c) S128x1024.size (k0_off1_inb c)) (fun _ => rfl) (unit_rows (off1_eq c) _) (dst0 c))
      (by exact (got0 I c).trans (pt_slice r1B (pr 0 c) fullShare (Rect.unit (s := S256x1024) (k0_off1 c) S128x1024.size (k0_off1_inb c)) (fun _ => rfl) (unit_rows (off1_eq c) _) _))
      (by intro x; exact (emb_cut (off1_eq c) _ _ x).trans ((congrFun (land1 I c (f1 c) (g1 (q1 c)) (by revert c; decide +kernel) (by revert c; decide +kernel)) x).trans (emb_cutX (o := g1 (q1 c)) ((off2_eq c).trans (by revert c; decide +kernel)) _ _ _ x).symm))
      (by rfl)) $$ [Hs0 Ho0 Ht0 HO]
  · isplitr; · iexact Hrec
    isplitl [Hs0]; · iexact Hs0
    isplitl [Ho0]; · iexact Ho0
    isplitl [Ht0]; · iexact Ht0
    iexact HO
  iintro ⟨Hc0, HO⟩
  -- copy 1 leaves for q1
  iapply (send I K 1 (dev4_eq c) (snd_at 1 rfl _) (rcv_at 1 rfl _) [2, 3, 4, 5, 6, 7, 8, 10, 9, 11, 12, 14, 13, 15]
      (by exact pt_sliceX c fullShare.right (o := o1 (q1 c)) ((off4_eq c).trans (by revert c; decide +kernel)) _ (I.x c))
      (by exact land_slice r1B (pr 1 c) (Rect.unit (s := S256x1024) (k0_off3 c) S128x1024.size (k0_off3_inb c)) (fun _ => rfl) (unit_rows (off3_eq c) _) (dst1 c))
      (by exact (got1 I c).trans (pt_slice r1B (pr 1 c) fullShare (Rect.unit (s := S256x1024) (k0_off3 c) S128x1024.size (k0_off3_inb c)) (fun _ => rfl) (unit_rows (off3_eq c) _) _))
      (by intro x; exact (emb_cut (off3_eq c) _ _ x).trans ((congrFun (land1 I c (c1 c) (o1 (q1 c)) (by revert c; decide +kernel) (by revert c; decide +kernel)) x).trans (emb_cutX (o := o1 (q1 c)) ((off4_eq c).trans (by revert c; decide +kernel)) _ _ _ x).symm))
      (by rfl)) $$ [Hs1 Ho1 Ht1 HO]
  · isplitr; · iexact Hrec
    isplitl [Hs1]; · iexact Hs1
    isplitl [Ho1]; · iexact Ho1
    isplitl [Ht1]; · iexact Ht1
    iexact HO
  iintro ⟨Hc1, HO⟩
  iapply Hk
  isplitl [Hbz]; · iexact Hbz
  isplitl [Ho2]; · iexact Ho2
  isplitl [Ho3]; · iexact Ho3
  isplitl [Ho4]; · iexact Ho4
  isplitl [Ho5]; · iexact Ho5
  isplitl [Ho6]; · iexact Ho6
  isplitl [Ho7]; · iexact Ho7
  isplitl [Ho8]; · iexact Ho8
  isplitl [Ho9]; · iexact Ho9
  isplitl [Ho10]; · iexact Ho10
  isplitl [Ho11]; · iexact Ho11
  isplitl [Ho12]; · iexact Ho12
  isplitl [Ho13]; · iexact Ho13
  isplitl [Ho14]; · iexact Ho14
  isplitl [Ho15]; · iexact Ho15
  isplitl [Hc0]; · iexact Hc0
  isplitl [Hc1]; · iexact Hc1
  iexact HO

end Proto
-- ==== Proof.Run.lean ====
module

public import proofs.«01_k».proof.Proof.PartsA
public import proofs.«01_k».proof.Proof.PartsB
public import proofs.«01_k».proof.Proof.PartsC
public import proofs.«01_k».proof.Proof.PartsD
public import proofs.«01_k».proof.Proof.PartE

/-! # The whole body -/

@[expose] public section

noncomputable section

namespace Proto

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] (I : Given F)

local notation "𝕄" => MT nD τ sig Unit (Elt F) ℕ UU ℕ

/-- The whole body: from the pieces a device holds to the pieces it ends with. -/
theorem body_run (K : GSem nD τ sig → ℕ) (c : Dev nD) (Q : PUnit → sProp 𝕄) :
    iprop(records I K ∗ levAts L lv ∗ barPay (F := F) (q1 c) true
        ∗ barPay (F := F) (q2 c) false
        ∗ dutyTok ER (barCell (q1 c)) 0 true
        ∗ dutyTok ER (barCell (q2 c)) 0 false
        ∗ reached ER (barCell (q1 c)) 0
        ∗ reached ER (barCell (q2 c)) 0
        ∗ atPos ER (barCell c) 0 ∅ 0
        ∗ cred (tallyAt (barCell c) () 2)
        ∗ (∃ W, owes (c : Thread nD τ) (O₀ c) W)
        ∗ sendPay I c 0
        ∗ tok c 0
        ∗ sendPay I c 1
        ∗ tok c 1
        ∗ sendPay I c 2
        ∗ tok c 2
        ∗ sendPay I c 3
        ∗ tok c 3
        ∗ rtok c 0
        ∗ pt xB c fullShare.left Finset.univ (I.x c)
        ∗ tok c 4
        ∗ tok c 5
        ∗ rtok c 2
        ∗ tok c 6
        ∗ tok c 7
        ∗ rtok c 1
        ∗ pt rB c fullShare Finset.univ (I.r c)
        ∗ (∃ f, pt t1B c fullShare Finset.univ f)
        ∗ rtok c 3
        ∗ (∃ f, pt t2B c fullShare Finset.univ f)
        ∗ rtok c 4
        ∗ pt gB c fullShare Finset.univ (I.g c)
        ∗ (∃ f, pt oB c fullShare (rows 1024 (o1 c) 64) f)
        ∗ tok c 8
        ∗ rtok c 6
        ∗ (∃ f, pt oB c fullShare (rows 1024 (o2 c) 64) f)
        ∗ tok c 10
        ∗ rtok c 5
        ∗ (∃ f, pt oB c fullShare (rows 1024 (o1 c + 64) 64) f)
        ∗ tok c 9
        ∗ rtok c 7
        ∗ (∃ f, pt oB c fullShare (rows 1024 (o2 c + 64) 64) f)
        ∗ tok c 11
        ∗ tok c 12
        ∗ tok c 14
        ∗ rtok c 8
        ∗ rtok c 9
        ∗ tok c 13
        ∗ rtok c 10
        ∗ rtok c 11
        ∗ tok c 15
        ∗ rtok c 12
        ∗ rtok c 13
        ∗ rtok c 14
        ∗ rtok c 15
        ∗ spos c 0
        ∗ spos c 1
        ∗ spos c 2
        ∗ spos c 3
        ∗ spos c 4
        ∗ spos c 5
        ∗ spos c 6
        ∗ spos c 7
        ∗ spos c 8
        ∗ spos c 9
        ∗ spos c 10
        ∗ spos c 11
        ∗ spos c 12
        ∗ spos c 13
        ∗ spos c 14
        ∗ spos c 15)
      ⊢ iprop(((semVal (barCell c) 0
        ∗ semVal (rcvCell c 0) 0
        ∗ semVal (rcvCell c 2) 0
        ∗ semVal (rcvCell c 1) 0
        ∗ pt r1B c fullShare (rows 256 (c1 c) 128) (R1a I c)
        ∗ pt xB c fullShare.left Finset.univ (I.x c)
        ∗ pt rB c fullShare Finset.univ (I.r c)
        ∗ semVal (rcvCell c 3) 0
        ∗ pt r2B c fullShare (rows 256 (c2 c) 128) (R2a I c)
        ∗ semVal (rcvCell c 4) 0
        ∗ pt r3B c fullShare (rows 128 0 64) (R3 I c)
        ∗ semVal (rcvCell c 6) 0
        ∗ pt r4B c fullShare (rows 128 0 64) (R4 I c)
        ∗ semVal (rcvCell c 5) 0
        ∗ pt r3B c fullShare (rows 128 64 64) (R3 I c)
        ∗ pt t1B c fullShare Finset.univ (T1 I c)
        ∗ semVal (rcvCell c 7) 0
        ∗ pt r4B c fullShare (rows 128 64 64) (R4 I c)
        ∗ pt t2B c fullShare Finset.univ (T2 I c)
        ∗ pt gB c fullShare Finset.univ (I.g c)
        ∗ semVal (rcvCell c 8) 0
        ∗ semVal (rcvCell c 9) 0
        ∗ semVal (rcvCell c 10) 0
        ∗ semVal (rcvCell c 11) 0
        ∗ semVal (rcvCell c 12) 0
        ∗ recvPay I c 12
        ∗ semVal (rcvCell c 13) 0
        ∗ recvPay I c 13
        ∗ semVal (rcvCell c 14) 0
        ∗ recvPay I c 14
        ∗ semVal (rcvCell c 15) 0
        ∗ recvPay I c 15
        ∗ semVal (sndCell c 0) 0
        ∗ sendPay I c 0
        ∗ semVal (sndCell c 1) 0
        ∗ sendPay I c 1
        ∗ semVal (sndCell c 2) 0
        ∗ sendPay I c 2
        ∗ semVal (sndCell c 3) 0
        ∗ sendPay I c 3
        ∗ semVal (sndCell c 4) 0
        ∗ sendPay I c 4
        ∗ semVal (sndCell c 5) 0
        ∗ sendPay I c 5
        ∗ semVal (sndCell c 6) 0
        ∗ sendPay I c 6
        ∗ semVal (sndCell c 7) 0
        ∗ sendPay I c 7
        ∗ semVal (sndCell c 8) 0
        ∗ sendPay I c 8
        ∗ semVal (sndCell c 9) 0
        ∗ sendPay I c 9
        ∗ semVal (sndCell c 10) 0
        ∗ sendPay I c 10
        ∗ semVal (sndCell c 11) 0
        ∗ sendPay I c 11
        ∗ semVal (sndCell c 12) 0
        ∗ sendPay I c 12
        ∗ semVal (sndCell c 13) 0
        ∗ sendPay I c 13
        ∗ semVal (sndCell c 14) 0
        ∗ sendPay I c 14
        ∗ owed c []
        ∗ semVal (sndCell c 15) 0
        ∗ sendPay I c 15) -∗ Q ⟨⟩)
        -∗ WP c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7) Q) := by
  rw [cc0_body_eq_skeleton]; unfold cc0_body_skel
  rw [k0_part1_eq_skeleton]; unfold k0_part1_skel
  simp only [Prog.lift, Prog.bind_op, Prog.bind_ret, Prog.pure_eq_ret, wp_deviceId]
  iintro ⟨#Hrec, #Hlev, Hn1, Hn2, Hd1, Hd2, #Hq1, #Hq2, Hba, Hbc, HO, Hs0, Ht0, Hs1, Ht1, Hs2, Ht2, Hs3, Ht3, Hr0, HxL, Ht4, Ht5, Hr2, Ht6, Ht7, Hr1, Hres, Ht1b, Hr3, Ht2b, Hr4, Hg, Hoa, Ht8, Hr6, Hob, Ht10, Hr5, Hoc, Ht9, Hr7, Hod, Ht11, Ht12, Ht14, Hr8, Hr9, Ht13, Hr10, Hr11, Ht15, Hr12, Hr13, Hr14, Hr15, Hb0, Hb1, Hb2, Hb3, Hb4, Hb5, Hb6, Hb7, Hb8, Hb9, Hb10, Hb11, Hb12, Hb13, Hb14, Hb15⟩ Hk
  iapply (part2 I K c _ Q _ _ _ _ _ _ _ _) $$ [Hn1 Hn2 Hd1 Hd2 Hba Hbc HO Hs0 Ht0 Hs1 Ht1]
  · isplitr; · iexact Hrec
    isplitr; · iexact Hlev
    isplitl [Hn1]; · iexact Hn1
    isplitl [Hn2]; · iexact Hn2
    isplitl [Hd1]; · iexact Hd1
    isplitl [Hd2]; · iexact Hd2
    isplitr; · iexact Hq1
    isplitr; · iexact Hq2
    isplitl [Hba]; · iexact Hba
    isplitl [Hbc]; · iexact Hbc
    isplitl [HO]; · iexact HO
    isplitl [Hs0]; · iexact Hs0
    isplitl [Ht0]; · iexact Ht0
    isplitl [Hs1]; · iexact Hs1
    iexact Ht1
  iintro %a
  rcases a with ⟨a1, a2, a3, a4, a5⟩
  iintro ⟨Hbz, Ho2, Ho3, Ho4, Ho5, Ho6, Ho7, Ho8, Ho9, Ho10, Ho11, Ho12, Ho13, Ho14, Ho15, Hc0, Hc1, HO⟩
  dsimp only
  iapply (part3 I K c _ Q _ _ _ _ _ _ _) $$ [Hs2 Ho2 Ht2 Hs3 Ho3 Ht3 Hr0 HO]
  · isplitr; · iexact Hrec
    isplitr; · iexact Hlev
    isplitl [Hs2]; · iexact Hs2
    isplitl [Ho2]; · iexact Ho2
    isplitl [Ht2]; · iexact Ht2
    isplitl [Hs3]; · iexact Hs3
    isplitl [Ho3]; · iexact Ho3
    isplitl [Ht3]; · iexact Ht3
    isplitl [Hr0]; · iexact Hr0
    iexact HO
  iintro ⟨Hc2, Hc3, Hy0, Hp0, HO⟩
  iapply (part4 I K c _ Q _ _ _) $$ [Hp0 HxL Ho4 Ht4 Ho5 Ht5 HO]
  · isplitr; · iexact Hrec
    isplitr; · iexact Hlev
    isplitl [Hp0]; · iexact Hp0
    isplitl [HxL]; · iexact HxL
    isplitl [Ho4]; · iexact Ho4
    isplitl [Ht4]; · iexact Ht4
    isplitl [Ho5]; · iexact Ho5
    isplitl [Ht5]; · iexact Ht5
    iexact HO
  iintro ⟨HxL, Hc4, Hc5, HO⟩
  iapply (part5 I K c _ Q _ _ _) $$ [Hr2 HxL Ho6 Ht6 Ho7 Ht7 HO]
  · isplitr; · iexact Hrec
    isplitr; · iexact Hlev
    isplitl [Hr2]; · iexact Hr2
    isplitl [HxL]; · iexact HxL
    isplitl [Ho6]; · iexact Ho6
    isplitl [Ht6]; · iexact Ht6
    isplitl [Ho7]; · iexact Ho7
    isplitl [Ht7]; · iexact Ht7
    iexact HO
  iintro %a
  iintro ⟨Hy2, HxL, Hc6, Hc7, HO⟩
  iapply (part6 I K c _ Q _ _ _ _ _ _) $$ [Hr1 HxL Hres Ht1b Hr3 HO]
  · isplitr; · iexact Hrec
    isplitr; · iexact Hlev
    isplitl [Hr1]; · iexact Hr1
    isplitl [HxL]; · iexact HxL
    isplitl [Hres]; · iexact Hres
    isplitl [Ht1b]; · iexact Ht1b
    isplitl [Hr3]; · iexact Hr3
    iexact HO
  iintro ⟨Hy1, Hk1, HxL, Hres, Ht1b, Hy3, HO, Hk2⟩
  iapply (part7 I K c _ Q _ _) $$ [Ht2b Hr4 Ht1b Hg Hoa HO]
  · isplitr; · iexact Hrec
    isplitr; · iexact Hlev
    isplitl [Ht2b]; · iexact Ht2b
    isplitl [Hr4]; · iexact Hr4
    isplitl [Ht1b]; · iexact Ht1b
    isplitl [Hg]; · iexact Hg
    isplitl [Hoa]; · iexact Hoa
    iexact HO
  iintro ⟨Ht2b, Hy4, HO, Hl4, Ht1b, Hg, Hoa⟩
  iapply (part8 I K c _ Q _ _) $$ [Hoa Ho8 Ht8 Hr6 Ht2b Hg Hob HO]
  · isplitr; · iexact Hrec
    isplitr; · iexact Hlev
    isplitl [Hoa]; · iexact Hoa
    isplitl [Ho8]; · iexact Ho8
    isplitl [Ht8]; · iexact Ht8
    isplitl [Hr6]; · iexact Hr6
    isplitl [Ht2b]; · iexact Ht2b
    isplitl [Hg]; · iexact Hg
    isplitl [Hob]; · iexact Hob
    iexact HO
  iintro ⟨HoaR, Hc8, Hy6, HO, Hl6, Ht2b, Hg, Hob⟩
  iapply (part9 I K c _ Q _ _) $$ [Hob Ho10 Ht10 Hr5 Ht1b Hg Hoc HO]
  · isplitr; · iexact Hrec
    isplitr; · iexact Hlev
    isplitl [Hob]; · iexact Hob
    isplitl [Ho10]; · iexact Ho10
    isplitl [Ht10]; · iexact Ht10
    isplitl [Hr5]; · iexact Hr5
    isplitl [Ht1b]; · iexact Ht1b
    isplitl [Hg]; · iexact Hg
    isplitl [Hoc]; · iexact Hoc
    iexact HO
  iintro %a
  iintro ⟨HobR, Hc10, Hy5, HO, Hl5, Ht1b, Hg, Hoc⟩
  iapply (part10 I K c _ Q _ _ _) $$ [Hoc Ho9 Ht9 Hr7 Ht2b Hg Hod HO]
  · isplitr; · iexact Hrec
    isplitr; · iexact Hlev
    isplitl [Hoc]; · iexact Hoc
    isplitl [Ho9]; · iexact Ho9
    isplitl [Ht9]; · iexact Ht9
    isplitl [Hr7]; · iexact Hr7
    isplitl [Ht2b]; · iexact Ht2b
    isplitl [Hg]; · iexact Hg
    isplitl [Hod]; · iexact Hod
    iexact HO
  iintro ⟨HocR, Hc9, Hy7, HO, Hl7, Ht2b, Hg, Hod⟩
  iapply (part11 I K c _ Q _ _ _) $$ [Hod Ho11 Ht11 HoaR HocR Ho12 Ht12 HobR Ho14 Ht14 Hr8 HO]
  · isplitr; · iexact Hrec
    isplitr; · iexact Hlev
    isplitl [Hod]; · iexact Hod
    isplitl [Ho11]; · iexact Ho11
    isplitl [Ht11]; · iexact Ht11
    isplitl [HoaR]; · iexact HoaR
    isplitl [HocR]; · iexact HocR
    isplitl [Ho12]; · iexact Ho12
    isplitl [Ht12]; · iexact Ht12
    isplitl [HobR]; · iexact HobR
    isplitl [Ho14]; · iexact Ho14
    isplitl [Ht14]; · iexact Ht14
    isplitl [Hr8]; · iexact Hr8
    iexact HO
  iintro ⟨Hc11, Hc12, Hc14, Hy8, Hp8, HO⟩
  iapply (part12 I K c _ Q _ _ _ _ _ _) $$ [Hr9 Hp8 Ho13 Ht13 Hr10 Hr11 HO]
  · isplitr; · iexact Hrec
    isplitr; · iexact Hlev
    isplitl [Hr9]; · iexact Hr9
    isplitl [Hp8]; · iexact Hp8
    isplitl [Ho13]; · iexact Ho13
    isplitl [Ht13]; · iexact Ht13
    isplitl [Hr10]; · iexact Hr10
    isplitl [Hr11]; · iexact Hr11
    iexact HO
  iintro %a
  iintro ⟨Hy9, Hc13, Hy10, Hp10, Hy11, Hp11, HO⟩
  iapply (part13 I K c _ Q _ _ _ _ _) $$ [Hp10 Hp11 Ho15 Ht15 Hr12 Hr13 Hr14 HO]
  · isplitr; · iexact Hrec
    isplitr; · iexact Hlev
    isplitl [Hp10]; · iexact Hp10
    isplitl [Hp11]; · iexact Hp11
    isplitl [Ho15]; · iexact Ho15
    isplitl [Ht15]; · iexact Ht15
    isplitl [Hr12]; · iexact Hr12
    isplitl [Hr13]; · iexact Hr13
    isplitl [Hr14]; · iexact Hr14
    iexact HO
  iintro %a
  iintro ⟨Hc15, Hy12, Hp12, Hy13, Hp13, Hy14, Hp14, HO⟩
  iapply (part14 I K c _ Q _) $$ [Hr15 Hb0 Hc0 Hb1 Hc1 Hb2 Hc2 Hb3 Hc3 HO]
  · isplitr; · iexact Hrec
    isplitr; · iexact Hlev
    isplitl [Hr15]; · iexact Hr15
    isplitl [Hb0]; · iexact Hb0
    isplitl [Hc0]; · iexact Hc0
    isplitl [Hb1]; · iexact Hb1
    isplitl [Hc1]; · iexact Hc1
    isplitl [Hb2]; · iexact Hb2
    isplitl [Hc2]; · iexact Hc2
    isplitl [Hb3]; · iexact Hb3
    isplitl [Hc3]; · iexact Hc3
    iexact HO
  iintro ⟨Hy15, Hp15, Hz0, Hs0, Hz1, Hs1, Hz2, Hs2, Hz3, Hs3, HO⟩
  iapply (part15 I K c _ Q ) $$ [Hb4 Hc4 Hb5 Hc5 Hb6 Hc6 Hb7 Hc7 Hb8 Hc8 HO]
  · isplitr; · iexact Hrec
    isplitr; · iexact Hlev
    isplitl [Hb4]; · iexact Hb4
    isplitl [Hc4]; · iexact Hc4
    isplitl [Hb5]; · iexact Hb5
    isplitl [Hc5]; · iexact Hc5
    isplitl [Hb6]; · iexact Hb6
    isplitl [Hc6]; · iexact Hc6
    isplitl [Hb7]; · iexact Hb7
    isplitl [Hc7]; · iexact Hc7
    isplitl [Hb8]; · iexact Hb8
    isplitl [Hc8]; · iexact Hc8
    iexact HO
  iintro ⟨Hz4, Hs4, Hz5, Hs5, Hz6, Hs6, Hz7, Hs7, Hz8, Hs8, HO⟩
  iapply (part16 I K c _ Q ) $$ [Hb9 Hc9 Hb10 Hc10 Hb11 Hc11 Hb12 Hc12 Hb13 Hc13 Hb14 Hc14 HO]
  · isplitr; · iexact Hrec
    isplitr; · iexact Hlev
    isplitl [Hb9]; · iexact Hb9
    isplitl [Hc9]; · iexact Hc9
    isplitl [Hb10]; · iexact Hb10
    isplitl [Hc10]; · iexact Hc10
    isplitl [Hb11]; · iexact Hb11
    isplitl [Hc11]; · iexact Hc11
    isplitl [Hb12]; · iexact Hb12
    isplitl [Hc12]; · iexact Hc12
    isplitl [Hb13]; · iexact Hb13
    isplitl [Hc13]; · iexact Hc13
    isplitl [Hb14]; · iexact Hb14
    isplitl [Hc14]; · iexact Hc14
    iexact HO
  iintro ⟨Hz9, Hs9, Hz10, Hs10, Hz11, Hs11, Hz12, Hs12, Hz13, Hs13, Hz14, Hs14, HO⟩
  -- copy 15 has left
  iapply (back I K 15 (snd_at 15 rfl _) (by rfl)) $$ [Hb15 Hc15 HO]
  · isplitr; · iexact Hrec
    isplitl [Hb15]; · iexact Hb15
    isplitl [Hc15]; · iexact Hc15
    iexact HO
  iintro ⟨Hz15, Hs15, HO⟩
  unfold WP
  rw [wp_ret]
  imodintro
  iapply Hk
  isplitl [Hbz]; · iexact Hbz
  isplitl [Hy0]; · iexact Hy0
  isplitl [Hy2]; · iexact Hy2
  isplitl [Hy1]; · iexact Hy1
  isplitl [Hk1]; · iexact Hk1
  isplitl [HxL]; · iexact HxL
  isplitl [Hres]; · iexact Hres
  isplitl [Hy3]; · iexact Hy3
  isplitl [Hk2]; · iexact Hk2
  isplitl [Hy4]; · iexact Hy4
  isplitl [Hl4]; · iexact Hl4
  isplitl [Hy6]; · iexact Hy6
  isplitl [Hl6]; · iexact Hl6
  isplitl [Hy5]; · iexact Hy5
  isplitl [Hl5]; · iexact Hl5
  isplitl [Ht1b]; · iexact Ht1b
  isplitl [Hy7]; · iexact Hy7
  isplitl [Hl7]; · iexact Hl7
  isplitl [Ht2b]; · iexact Ht2b
  isplitl [Hg]; · iexact Hg
  isplitl [Hy8]; · iexact Hy8
  isplitl [Hy9]; · iexact Hy9
  isplitl [Hy10]; · iexact Hy10
  isplitl [Hy11]; · iexact Hy11
  isplitl [Hy12]; · iexact Hy12
  isplitl [Hp12]; · iexact Hp12
  isplitl [Hy13]; · iexact Hy13
  isplitl [Hp13]; · iexact Hp13
  isplitl [Hy14]; · iexact Hy14
  isplitl [Hp14]; · iexact Hp14
  isplitl [Hy15]; · iexact Hy15
  isplitl [Hp15]; · iexact Hp15
  isplitl [Hz0]; · iexact Hz0
  isplitl [Hs0]; · iexact Hs0
  isplitl [Hz1]; · iexact Hz1
  isplitl [Hs1]; · iexact Hs1
  isplitl [Hz2]; · iexact Hz2
  isplitl [Hs2]; · iexact Hs2
  isplitl [Hz3]; · iexact Hz3
  isplitl [Hs3]; · iexact Hs3
  isplitl [Hz4]; · iexact Hz4
  isplitl [Hs4]; · iexact Hs4
  isplitl [Hz5]; · iexact Hz5
  isplitl [Hs5]; · iexact Hs5
  isplitl [Hz6]; · iexact Hz6
  isplitl [Hs6]; · iexact Hs6
  isplitl [Hz7]; · iexact Hz7
  isplitl [Hs7]; · iexact Hs7
  isplitl [Hz8]; · iexact Hz8
  isplitl [Hs8]; · iexact Hs8
  isplitl [Hz9]; · iexact Hz9
  isplitl [Hs9]; · iexact Hs9
  isplitl [Hz10]; · iexact Hz10
  isplitl [Hs10]; · iexact Hs10
  isplitl [Hz11]; · iexact Hz11
  isplitl [Hs11]; · iexact Hs11
  isplitl [Hz12]; · iexact Hz12
  isplitl [Hs12]; · iexact Hs12
  isplitl [Hz13]; · iexact Hz13
  isplitl [Hs13]; · iexact Hs13
  isplitl [Hz14]; · iexact Hz14
  isplitl [Hs14]; · iexact Hs14
  isplitl [HO]; · iexact HO
  isplitl [Hz15]; · iexact Hz15
  iexact Hs15

end Proto
-- ==== Proof.Whole.lean ====
module

public import proofs.«01_k».proof.Proof.Run

/-! # The body on what a device holds -/

@[expose] public section

noncomputable section

namespace Proto

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] (I : Given F)

local notation "𝕄" => MT nD τ sig Unit (Elt F) ℕ UU ℕ

/-! ## What a device holds, cut for the run -/

/-- The addend's block: half of every row for the loads, the other half for the copies. -/
theorem x_bands (c : Dev nD) : pt xB c fullShare Finset.univ (I.x c) = iprop(pt xB c fullShare.left Finset.univ (I.x c)
    ∗ pt xB c fullShare.right (rowsX (o1 c) 128) (I.x c) ∗ pt xB c fullShare.right (rowsX (g1 c) 128) (I.x c) ∗ sendPay I c 1 ∗ sendPay I c 0
    ∗ pt xB c fullShare.right (rowsX (o2 c) 128) (I.x c) ∗ pt xB c fullShare.right (rowsX (g2 c) 128) (I.x c) ∗ sendPay I c 3 ∗ sendPay I c 2) := by
  rw [pt_halves, cut8X c fullShare.right]
  rfl

omit [FloatOps F] in
/-- The result's block and the four landing buffers, whatever they hold: the device's own four half bands, and the landing places. -/
theorem places (c : Dev nD) (fo : Buf (Elt F) ((c : Thread nD τ).loc oB)) (h1 : Buf (Elt F) ((c : Thread nD τ).loc r1B)) (h2 : Buf (Elt F) ((c : Thread nD τ).loc r2B))
    (h3 : Buf (Elt F) ((c : Thread nD τ).loc r3B)) (h4 : Buf (Elt F) ((c : Thread nD τ).loc r4B)) :
    iprop(pt oB c fullShare Finset.univ fo ∗ pt r1B c fullShare Finset.univ h1 ∗ pt r2B c fullShare Finset.univ h2
        ∗ pt r3B c fullShare Finset.univ h3 ∗ pt r4B c fullShare Finset.univ h4)
      ⊢ (iprop((∃ f, pt oB c fullShare (rows 1024 (o1 c) 64) f) ∗ (∃ f, pt oB c fullShare (rows 1024 (o1 c + 64) 64) f)
        ∗ (∃ f, pt oB c fullShare (rows 1024 (o2 c) 64) f) ∗ (∃ f, pt oB c fullShare (rows 1024 (o2 c + 64) 64) f)
        ∗ bigSep Finset.univ fun j : Fin 16 => landing c j) : sProp 𝕄) := by
  rw [all16, cut8, two_o c fullShare (o1 c), two_o c fullShare (g1 c), two_o c fullShare (o2 c), two_o c fullShare (g2 c), cut_r1B, cut_r2B, cut_r3B, cut_r4B]
  show _ ⊢ iprop((∃ f, pt oB c fullShare (rows 1024 (o1 c) 64) f)
    ∗ (∃ f, pt oB c fullShare (rows 1024 (o1 c + 64) 64) f)
    ∗ (∃ f, pt oB c fullShare (rows 1024 (o2 c) 64) f)
    ∗ (∃ f, pt oB c fullShare (rows 1024 (o2 c + 64) 64) f)
    ∗ (∃ f, pt r1B c fullShare (rows 256 (f1 c) 128) f)
    ∗ (∃ f, pt r1B c fullShare (rows 256 (c1 c) 128) f)
    ∗ (∃ f, pt r2B c fullShare (rows 256 (f2 c) 128) f)
    ∗ (∃ f, pt r2B c fullShare (rows 256 (c2 c) 128) f)
    ∗ (∃ f, pt r3B c fullShare (rows 128 0 64) f)
    ∗ (∃ f, pt r3B c fullShare (rows 128 64 64) f)
    ∗ (∃ f, pt r4B c fullShare (rows 128 0 64) f)
    ∗ (∃ f, pt r4B c fullShare (rows 128 64 64) f)
    ∗ (∃ f, pt oB c fullShare (rows 1024 (g1 c) 64) f)
    ∗ (∃ f, pt oB c fullShare (rows 1024 (g1 c + 64) 64) f)
    ∗ (∃ f, pt oB c fullShare (rows 1024 (g2 c) 64) f)
    ∗ (∃ f, pt oB c fullShare (rows 1024 (g2 c + 64) 64) f)
    ∗ (∃ f, pt oB c fullShare (rows 1024 (o1 (q1 c)) 128) f)
    ∗ (∃ f, pt oB c fullShare (rows 1024 (g1 (q1 c)) 128) f)
    ∗ (∃ f, pt oB c fullShare (rows 1024 (o2 (q2 c)) 128) f)
    ∗ (∃ f, pt oB c fullShare (rows 1024 (g2 (q2 c)) 128) f))
  iintro ⟨⟨⟨Ha, Hc⟩, ⟨H8, H9⟩, H12, H13, ⟨Hb, Hd⟩, ⟨H10, H11⟩, H14, H15⟩, ⟨H0, H1⟩, ⟨H2, H3⟩, ⟨H4, H5⟩, ⟨H6, H7⟩⟩
  isplitl [Ha]; · iexists _; iexact Ha
  isplitl [Hc]; · iexists _; iexact Hc
  isplitl [Hb]; · iexists _; iexact Hb
  isplitl [Hd]; · iexists _; iexact Hd
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  iexists _; iexact H15

omit [FloatOps F] in
/-- With every receive cell at its round, the landing places make the two offers. -/
theorem offers_made (c : Dev nD) :
    iprop((bigSep Finset.univ fun j : Fin 16 => landing (F := F) c j) ∗ bigSep Finset.univ fun j : Fin 16 => reached ER (rcvCell c j) 0)
      ⊢ iprop(barPay (F := F) (q1 c) true ∗ barPay (q2 c) false) :=
  (Entails.of_eq (bigSep_sep' _ _ _).symm).trans (Entails.of_eq (offers_out c))

/-- The result's block put together again. -/
theorem out_join (c : Dev nD) :
    iprop(sendPay I c 8 ∗ sendPay I c 9 ∗ sendPay I c 12 ∗ sendPay I c 13 ∗ recvPay I c 12 ∗ recvPay I c 13
        ∗ sendPay I c 10 ∗ sendPay I c 11 ∗ sendPay I c 14 ∗ sendPay I c 15 ∗ recvPay I c 14 ∗ recvPay I c 15)
      ⊢ (pt oB c fullShare Finset.univ (OUT I) : sProp 𝕄) := by
  rw [cut8, pt_halves (b := oB) (d := c) (S := rows 1024 (o1 c) 128), pt_halves (b := oB) (d := c) (S := rows 1024 (o2 c) 128), two_o c fullShare.left (o1 c), two_o c fullShare.left (o2 c)]
  show iprop(pt oB c fullShare.left (rows 1024 (o1 c) 64) (OUT I)
    ∗ pt oB c fullShare.left (rows 1024 (o1 c + 64) 64) (OUT I)
    ∗ pt oB c fullShare.right (rows 1024 (o1 c) 128) (OUT I)
    ∗ pt oB c fullShare (rows 1024 (g1 c) 128) (OUT I)
    ∗ pt oB c fullShare (rows 1024 (o1 (q1 c)) 128) (OUT I)
    ∗ pt oB c fullShare (rows 1024 (g1 (q1 c)) 128) (OUT I)
    ∗ pt oB c fullShare.left (rows 1024 (o2 c) 64) (OUT I)
    ∗ pt oB c fullShare.left (rows 1024 (o2 c + 64) 64) (OUT I)
    ∗ pt oB c fullShare.right (rows 1024 (o2 c) 128) (OUT I)
    ∗ pt oB c fullShare (rows 1024 (g2 c) 128) (OUT I)
    ∗ pt oB c fullShare (rows 1024 (o2 (q2 c)) 128) (OUT I)
    ∗ pt oB c fullShare (rows 1024 (g2 (q2 c)) 128) (OUT I)) ⊢ _
  iintro ⟨H8, H9, H12, H13, G12, G13, H10, H11, H14, H15, G14, G15⟩
  isplitl [H8 H9 H12]
  · isplitl [H8 H9]
    · isplitl [H8]; · iexact H8
      iexact H9
    iexact H12
  isplitl [H13]; · iexact H13
  isplitl [G12]; · iexact G12
  isplitl [G13]; · iexact G13
  isplitl [H10 H11 H14]
  · isplitl [H10 H11]
    · isplitl [H10]; · iexact H10
      iexact H11
    iexact H14
  isplitl [H15]; · iexact H15
  isplitl [G14]; · iexact G14
  iexact G15

/-- The first landing buffer whole again. -/
theorem landed_r1B (c : Dev nD) :
    iprop(sendPay I c 4 ∗ sendPay I c 5 ∗ pt r1B c fullShare (rows 256 (c1 c) 128) (R1a I c)) ⊢ (iprop(∃ f, pt r1B c fullShare Finset.univ f) : sProp 𝕄) :=
  join_r1B c (R1b I c) (R1a I c)

/-- The second landing buffer whole again. -/
theorem landed_r2B (c : Dev nD) :
    iprop(sendPay I c 6 ∗ sendPay I c 7 ∗ pt r2B c fullShare (rows 256 (c2 c) 128) (R2a I c)) ⊢ (iprop(∃ f, pt r2B c fullShare Finset.univ f) : sProp 𝕄) :=
  join_r2B c (R2b I c) (R2a I c)

/-! ## The body, on what a device holds -/

/-- What the two running totals, the four landing buffers hold does not matter. -/
def scratch (c : Dev nD) : sProp 𝕄 :=
  iprop((∃ f, pt r1B c fullShare Finset.univ f) ∗ (∃ f, pt r2B c fullShare Finset.univ f) ∗ (∃ f, pt r3B c fullShare Finset.univ f)
    ∗ (∃ f, pt r4B c fullShare Finset.univ f) ∗ (∃ f, pt t1B c fullShare Finset.univ f) ∗ (∃ f, pt t2B c fullShare Finset.univ f))

/-- The three input blocks, at what is given. -/
def inputs (c : Dev nD) : sProp 𝕄 :=
  iprop(pt xB c fullShare Finset.univ (I.x c) ∗ pt rB c fullShare Finset.univ (I.r c) ∗ pt gB c fullShare Finset.univ (I.g c))

/-- A device's part of the ghost state, its cells open. -/
def opened (K : GSem nD τ sig → ℕ) (c : Dev nD) : sProp 𝕄 :=
  iprop(records I K
    ∗ (dutyTok ER (barCell (q1 c)) 0 true ∗ dutyTok ER (barCell (q2 c)) 0 false ∗ reached ER (barCell (q1 c)) 0 ∗ reached ER (barCell (q2 c)) 0
      ∗ atPos ER (barCell c) 0 ∅ 0 ∗ cred (tallyAt (barCell c) () 2))
    ∗ (bigSep Finset.univ fun j : Fin 16 => tok c j) ∗ (bigSep Finset.univ fun j : Fin 16 => rtok c j)
    ∗ (bigSep Finset.univ fun j : Fin 16 => spos c j) ∗ (bigSep Finset.univ fun j : Fin 16 => reached ER (rcvCell c j) 0))

/-- The kernel's body on one device: from its blocks and its part of the ghost state to the result, every counter back at zero
    and nothing owed. -/
theorem body_dev (K : GSem nD τ sig → ℕ) (c : Dev nD) (fo : Buf (Elt F) ((c : Thread nD τ).loc oB)) (Q : PUnit → sProp 𝕄) :
    iprop(opened I K c ∗ levAts L lv ∗ (∃ W, owes (c : Thread nD τ) (O₀ c) W) ∗ scratch c ∗ inputs I c ∗ pt oB c fullShare Finset.univ fo)
      ⊢ iprop(((semVal (barCell c) 0 ∗ (bigSep Finset.univ fun j : Fin 16 => semVal (sndCell c j) 0)
          ∗ (bigSep Finset.univ fun j : Fin 16 => semVal (rcvCell c j) 0) ∗ owed c [] ∗ scratch c ∗ inputs I c ∗ pt oB c fullShare Finset.univ (OUT I)) -∗ Q ⟨⟩)
        -∗ WP c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7) Q) := by
  unfold opened scratch inputs
  rw [all16 (fun j => tok c j), all16 (fun j => rtok c j), all16 (fun j => spos c j), all16 (fun j => semVal (sndCell c j) 0), all16 (fun j => semVal (rcvCell c j) 0), x_bands]
  iintro ⟨⟨#Hrec, ⟨Hd1, Hd2, #Hq1, #Hq2, Hba, Hbc⟩, ⟨Ht0, Ht1, Ht2, Ht3, Ht4, Ht5, Ht6, Ht7, Ht8, Ht9, Ht10, Ht11, Ht12, Ht13, Ht14, Ht15⟩, ⟨Hr0, Hr1, Hr2, Hr3, Hr4, Hr5, Hr6, Hr7, Hr8, Hr9, Hr10, Hr11, Hr12, Hr13, Hr14, Hr15⟩, ⟨Hb0, Hb1, Hb2, Hb3, Hb4, Hb5, Hb6, Hb7, Hb8, Hb9, Hb10, Hb11, Hb12, Hb13, Hb14, Hb15⟩, Hrr⟩, #Hlev, HO,
    ⟨⟨%h1, Hr1B⟩, ⟨%h2, Hr2B⟩, ⟨%h3, Hr3B⟩, ⟨%h4, Hr4B⟩, Ht1b, Ht2b⟩, ⟨⟨HxL, HxA, HxB, Hs1, Hs0, HxE, HxF, Hs3, Hs2⟩, Hres, Hg⟩, Hout⟩ Hk
  ihave Hp := (places c fo h1 h2 h3 h4) $$ [Hout Hr1B Hr2B Hr3B Hr4B]
  · isplitl [Hout]; · iexact Hout
    isplitl [Hr1B]; · iexact Hr1B
    isplitl [Hr2B]; · iexact Hr2B
    isplitl [Hr3B] <;> iassumption
  icases Hp with ⟨Hoa, Hoc, Hob, Hod, Hland⟩
  ihave Hoff := (offers_made c) $$ [Hland Hrr]
  · isplitl [Hland] <;> iassumption
  icases Hoff with ⟨Hn1, Hn2⟩
  iapply (body_run I K c Q) $$ [Hn1 Hn2 Hd1 Hd2 Hba Hbc HO Hs0 Ht0 Hs1 Ht1 Hs2 Ht2 Hs3 Ht3 Hr0 HxL Ht4 Ht5 Hr2 Ht6 Ht7 Hr1 Hres Ht1b Hr3 Ht2b Hr4 Hg Hoa Ht8 Hr6 Hob Ht10 Hr5 Hoc Ht9 Hr7 Hod Ht11 Ht12 Ht14 Hr8 Hr9 Ht13 Hr10 Hr11 Ht15 Hr12 Hr13 Hr14 Hr15 Hb0 Hb1 Hb2 Hb3 Hb4 Hb5 Hb6 Hb7 Hb8 Hb9 Hb10 Hb11 Hb12 Hb13 Hb14 Hb15]
  · isplitr; · iexact Hrec
    isplitr; · iexact Hlev
    isplitl [Hn1]; · iexact Hn1
    isplitl [Hn2]; · iexact Hn2
    isplitl [Hd1]; · iexact Hd1
    isplitl [Hd2]; · iexact Hd2
    isplitr; · iexact Hq1
    isplitr; · iexact Hq2
    isplitl [Hba]; · iexact Hba
    isplitl [Hbc]; · iexact Hbc
    isplitl [HO]; · iexact HO
    isplitl [Hs0]; · iexact Hs0
    isplitl [Ht0]; · iexact Ht0
    isplitl [Hs1]; · iexact Hs1
    isplitl [Ht1]; · iexact Ht1
    isplitl [Hs2]; · iexact Hs2
    isplitl [Ht2]; · iexact Ht2
    isplitl [Hs3]; · iexact Hs3
    isplitl [Ht3]; · iexact Ht3
    isplitl [Hr0]; · iexact Hr0
    isplitl [HxL]; · iexact HxL
    isplitl [Ht4]; · iexact Ht4
    isplitl [Ht5]; · iexact Ht5
    isplitl [Hr2]; · iexact Hr2
    isplitl [Ht6]; · iexact Ht6
    isplitl [Ht7]; · iexact Ht7
    isplitl [Hr1]; · iexact Hr1
    isplitl [Hres]; · iexact Hres
    isplitl [Ht1b]; · iexact Ht1b
    isplitl [Hr3]; · iexact Hr3
    isplitl [Ht2b]; · iexact Ht2b
    isplitl [Hr4]; · iexact Hr4
    isplitl [Hg]; · iexact Hg
    isplitl [Hoa]; · iexact Hoa
    isplitl [Ht8]; · iexact Ht8
    isplitl [Hr6]; · iexact Hr6
    isplitl [Hob]; · iexact Hob
    isplitl [Ht10]; · iexact Ht10
    isplitl [Hr5]; · iexact Hr5
    isplitl [Hoc]; · iexact Hoc
    isplitl [Ht9]; · iexact Ht9
    isplitl [Hr7]; · iexact Hr7
    isplitl [Hod]; · iexact Hod
    isplitl [Ht11]; · iexact Ht11
    isplitl [Ht12]; · iexact Ht12
    isplitl [Ht14]; · iexact Ht14
    isplitl [Hr8]; · iexact Hr8
    isplitl [Hr9]; · iexact Hr9
    isplitl [Ht13]; · iexact Ht13
    isplitl [Hr10]; · iexact Hr10
    isplitl [Hr11]; · iexact Hr11
    isplitl [Ht15]; · iexact Ht15
    isplitl [Hr12]; · iexact Hr12
    isplitl [Hr13]; · iexact Hr13
    isplitl [Hr14]; · iexact Hr14
    isplitl [Hr15]; · iexact Hr15
    isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    isplitl [Hb7]; · iexact Hb7
    isplitl [Hb8]; · iexact Hb8
    isplitl [Hb9]; · iexact Hb9
    isplitl [Hb10]; · iexact Hb10
    isplitl [Hb11]; · iexact Hb11
    isplitl [Hb12]; · iexact Hb12
    isplitl [Hb13]; · iexact Hb13
    isplitl [Hb14]; · iexact Hb14
    iexact Hb15
  iintro ⟨Hbz, Hy0, Hy2, Hy1, Hk1, HxL, Hres, Hy3, Hk2, Hy4, Hl4, Hy6, Hl6, Hy5, Hl5, Ht1b, Hy7, Hl7, Ht2b, Hg, Hy8, Hy9, Hy10, Hy11, Hy12, Hp12, Hy13, Hp13, Hy14, Hp14, Hy15, Hp15, Hz0, Hs0, Hz1, Hs1, Hz2, Hs2, Hz3, Hs3, Hz4, Hs4, Hz5, Hs5, Hz6, Hs6, Hz7, Hs7, Hz8, Hs8, Hz9, Hs9, Hz10, Hs10, Hz11, Hs11, Hz12, Hs12, Hz13, Hs13, Hz14, Hs14, HO, Hz15, Hs15⟩
  iapply Hk
  isplitl [Hbz]; · iexact Hbz
  isplitl [Hz0 Hz1 Hz2 Hz3 Hz4 Hz5 Hz6 Hz7 Hz8 Hz9 Hz10 Hz11 Hz12 Hz13 Hz14 Hz15]
  · isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    isplitl [Hz8]; · iexact Hz8
    isplitl [Hz9]; · iexact Hz9
    isplitl [Hz10]; · iexact Hz10
    isplitl [Hz11]; · iexact Hz11
    isplitl [Hz12]; · iexact Hz12
    isplitl [Hz13]; · iexact Hz13
    isplitl [Hz14]; · iexact Hz14
    iexact Hz15
  isplitl [Hy0 Hy1 Hy2 Hy3 Hy4 Hy5 Hy6 Hy7 Hy8 Hy9 Hy10 Hy11 Hy12 Hy13 Hy14 Hy15]
  · isplitl [Hy0]; · iexact Hy0
    isplitl [Hy1]; · iexact Hy1
    isplitl [Hy2]; · iexact Hy2
    isplitl [Hy3]; · iexact Hy3
    isplitl [Hy4]; · iexact Hy4
    isplitl [Hy5]; · iexact Hy5
    isplitl [Hy6]; · iexact Hy6
    isplitl [Hy7]; · iexact Hy7
    isplitl [Hy8]; · iexact Hy8
    isplitl [Hy9]; · iexact Hy9
    isplitl [Hy10]; · iexact Hy10
    isplitl [Hy11]; · iexact Hy11
    isplitl [Hy12]; · iexact Hy12
    isplitl [Hy13]; · iexact Hy13
    isplitl [Hy14]; · iexact Hy14
    iexact Hy15
  isplitl [HO]; · iexact HO
  isplitl [Hk1 Hs4 Hs5 Hk2 Hs6 Hs7 Hl4 Hl5 Hl6 Hl7 Ht1b Ht2b]
  · isplitl [Hk1 Hs4 Hs5]
    · iapply (landed_r1B I c) $$ [Hk1 Hs4 Hs5]
      isplitl [Hs4]; · iexact Hs4
      isplitl [Hs5] <;> iassumption
    isplitl [Hk2 Hs6 Hs7]
    · iapply (landed_r2B I c) $$ [Hk2 Hs6 Hs7]
      isplitl [Hs6]; · iexact Hs6
      isplitl [Hs7] <;> iassumption
    isplitl [Hl4 Hl5]
    · iexists (R3 I c); iapply (Entails.of_eq (cut_r3B c (R3 I c)).symm) $$ [Hl4 Hl5]
      isplitl [Hl4] <;> iassumption
    isplitl [Hl6 Hl7]
    · iexists (R4 I c); iapply (Entails.of_eq (cut_r4B c (R4 I c)).symm) $$ [Hl6 Hl7]
      isplitl [Hl6] <;> iassumption
    isplitl [Ht1b]; · iexists _; iexact Ht1b
    iexists _; iexact Ht2b
  isplitl [HxL HxA HxB Hs1 Hs0 HxE HxF Hs3 Hs2 Hres Hg]
  · isplitl [HxL HxA HxB Hs1 Hs0 HxE HxF Hs3 Hs2]
    · isplitl [HxL]; · iexact HxL
      isplitl [HxA]; · iexact HxA
      isplitl [HxB]; · iexact HxB
      isplitl [Hs1]; · iexact Hs1
      isplitl [Hs0]; · iexact Hs0
      isplitl [HxE]; · iexact HxE
      isplitl [HxF]; · iexact HxF
      isplitl [Hs3]; · iexact Hs3
      iexact Hs2
    isplitl [Hres] <;> iassumption
  iapply (out_join I c) $$ [Hs8 Hs9 Hs12 Hs13 Hp12 Hp13 Hs10 Hs11 Hs14 Hs15 Hp14 Hp15]
  isplitl [Hs8]; · iexact Hs8
  isplitl [Hs9]; · iexact Hs9
  isplitl [Hs12]; · iexact Hs12
  isplitl [Hs13]; · iexact Hs13
  isplitl [Hp12]; · iexact Hp12
  isplitl [Hp13]; · iexact Hp13
  isplitl [Hs10]; · iexact Hs10
  isplitl [Hs11]; · iexact Hs11
  isplitl [Hs14]; · iexact Hs14
  isplitl [Hs15]; · iexact Hs15
  isplitl [Hp14]; · iexact Hp14
  iexact Hp15

end Proto
-- ==== Proof.Region.lean ====
module

public import proofs.«01_k».proof.Proof.Whole
public import proofs.«01_k».proof.Proof.Gen.KernelIdeal.Frame
public import Idealize.ShloMosaic.Lib.Pipeline.RegionTalk
public import Idealize.ShloMosaic.Lib.Pipeline.ValueKit
public import Idealize.ShloMosaic.Harness.Basic

/-! # The kernel as a region of the program -/

@[expose] public section

noncomputable section

namespace Proto

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] (I : Given F) (m : (ℓ : Loc nD τ sig) → Buf (Elt F) ℓ)

local notation "𝕄" => MT nD τ sig Unit (Elt F) ℕ UU ℕ

/-! ## What the kernel finds and leaves in the arrays -/

/-- What a device finds staged of its three input arrays, on every device. -/
def Im : Given F where
  x c := iblk m c 0 t0_0
  r c := iblk m c 1 t0_0
  g c := iblk m c 2 t0_0

/-- A device's arrays when the kernel starts: after the host's reshape. -/
def Wm (c : Dev nD) : Valuation τ sig (Elt F) := StableHlo.after hostOps0 (fun b => m (c, b))
/-- And when it ends: the result array at the result. -/
def Wm' (c : Dev nD) : Valuation τ sig (Elt F) := Function.update (Wm m c) (Proc.devRef .tc main_v2) (OUT (Im m))

/-- A device's part of the ghost state, from launch. -/
def ghost (K : GSem nD τ sig → ℕ) (c : Dev nD) : sProp 𝕄 :=
  iprop(records I K
    ∗ (dutyTok ER (barCell (q1 c)) 0 true ∗ dutyTok ER (barCell (q2 c)) 0 false ∗ reached ER (barCell (q1 c)) 0 ∗ reached ER (barCell (q2 c)) 0
      ∗ atPos ER (barCell c) 0 ∅ 0)
    ∗ (bigSep Finset.univ fun j : Fin 16 => iprop(dutyTok ER (sndCell c j) 0 false ∗ dutyTok ER (rcvCell (pr j c) j) 0 false))
    ∗ bigSep Finset.univ fun i : Fin 32 => openTok ER (ownCell c i))

/-- The credit a device waits with. -/
def creds (c : Dev nD) : sProp 𝕄 :=
  iprop(cred (tallyAt (barCell c) () 2) ∗ bigSep Finset.univ fun j : Fin 16 => cred (tallyAt (rcvCell c j) () (amt j)))

/-- What a device brings to the kernel besides its arrays. -/
def Tk (c : Dev nD) : sProp 𝕄 := iprop((∃ K, ghost I K c) ∗ creds c)
/-- The same with its own cells open. -/
def Xk (c : Dev nD) : sProp 𝕄 := iprop((∃ K, opened I K c) ∗ levAts L lv)
/-- What it takes away: its barrier counter at zero. -/
def Yk (c : Dev nD) : sProp 𝕄 := semVal (barCell c) 0

/-- The kernel's own semaphores. -/
def osem (i : Fin 32) : SemLoc sig := .dma (ownS i)

/-! ## Opening the cells -/

omit [FloatOps F] in
/-- Something of every own semaphore: of the send ones and of the receive ones. -/
theorem own_split (Φ : Fin 32 → sProp 𝕄) : bigSep Finset.univ Φ
    = iprop((bigSep Finset.univ fun j : Fin 16 => Φ ⟨j.val, by omega⟩) ∗ bigSep Finset.univ fun j : Fin 16 => Φ ⟨16 + j.val, by omega⟩) := by
  rw [bigSep_univ_equiv (finSumFinEquiv : Fin 16 ⊕ Fin 16 ≃ Fin 32), bigSep_univ_sum]
  rfl

/-- Every own cell opens, its counter going in. -/
theorem open_all (K : GSem nD τ sig → ℕ) (c : Dev nD) :
    iprop(records I K ∗ bigSep Finset.univ fun i : Fin 32 => iprop(openTok ER (ownCell c i) ∗ semVal (ownCell c i) 0))
      ⊢ (|={Set.univ}=> bigSep Finset.univ fun i : Fin 32 => iprop(atPos ER (ownCell c i) 0 ∅ 0 ∗ reached ER (ownCell c i) 0) : sProp 𝕄) :=
  (bigSep_with_persistent (R := records I K) (Ψ := fun i : Fin 32 => iprop(|={Set.univ}=> (atPos ER (ownCell c i) 0 ∅ 0 ∗ reached ER (ownCell c i) 0))) fun i _ => by
    iintro ⟨#HR, Ho, Hs⟩
    iapply (Rounds.cell_open ER (sch I) (g := ownCell c i) (Set.mem_univ (K (ownCell c i)))) $$ [Ho Hs]
    isplitr; · iapply (rec_own I K c i); iexact HR
    isplitl [Ho] <;> iassumption).trans (bigSep_fupd _ _)

/-- The tokens of the copies, with the send cells at their round. -/
theorem toks_open (c : Dev nD) :
    iprop((bigSep Finset.univ fun j : Fin 16 => reached ER (sndCell c j) 0)
        ∗ bigSep Finset.univ fun j : Fin 16 => iprop(dutyTok ER (sndCell c j) 0 false ∗ dutyTok ER (rcvCell (pr j c) j) 0 false))
      ⊢ (bigSep Finset.univ fun j : Fin 16 => tok c j : sProp 𝕄) := by
  refine (Entails.of_eq (bigSep_sep' _ _ _).symm).trans (bigSep_mono fun j _ => ?_)
  show iprop(reached ER (sndCell c j) 0 ∗ dutyTok ER (sndCell c j) 0 false ∗ dutyTok ER (rcvCell (pr j c) j) 0 false)
    ⊢ (iprop(dutyTok ER (sndCell c j) 0 false ∗ reached ER (sndCell c j) 0 ∗ dutyTok ER (rcvCell (pr j c) j) 0 false) : sProp 𝕄)
  iintro ⟨Hr, Hs, Hd⟩
  isplitl [Hs]; · iexact Hs
  isplitl [Hr] <;> iassumption

/-- The waits, with the receive cells' places. -/
theorem waits_open (c : Dev nD) :
    iprop((bigSep Finset.univ fun j : Fin 16 => atPos ER (rcvCell c j) 0 ∅ 0) ∗ bigSep Finset.univ fun j : Fin 16 => cred (tallyAt (rcvCell c j) () (amt j)))
      ⊢ (bigSep Finset.univ fun j : Fin 16 => rtok c j : sProp 𝕄) :=
  Entails.of_eq (bigSep_sep' _ _ _).symm

/-- At the kernel's start the own counters open the cells. -/
theorem hopen (c : Dev nD) : iprop(Tk I c ∗ Pipeline.ownSems0 osem c ∗ levAts L lv) ⊢ (|={Set.univ}=> Xk I c : sProp 𝕄) := by
  unfold Tk Xk ghost creds Pipeline.ownSems0
  iintro ⟨⟨⟨%K, #HR, ⟨Hd1, Hd2, #Hq1, #Hq2, Hba⟩, Htk, Ho⟩, Hbc, Hrc⟩, Hs, #Hlev⟩
  imod (open_all I K c) $$ [Ho Hs] with H
  · isplitr; · iexact HR
    iapply (Entails.of_eq (bigSep_sep' _ _ _).symm)
    isplitl [Ho]; · iexact Ho
    iexact Hs
  ihave H2 := (Entails.of_eq (bigSep_sep' _ _ _)) $$ H
  icases H2 with ⟨Ha, Hr⟩
  ihave Ha2 := (Entails.of_eq (own_split fun i => atPos ER (ownCell c i) 0 ∅ 0)) $$ Ha
  ihave Hr2 := (Entails.of_eq (own_split fun i => reached ER (ownCell c i) 0)) $$ Hr
  icases Ha2 with ⟨Has, Har⟩
  icases Hr2 with ⟨Hrs, Hrr⟩
  imodintro
  isplitr []
  · iexists K
    unfold opened
    isplitr; · iexact HR
    isplitl [Hd1 Hd2 Hba Hbc]
    · isplitl [Hd1]; · iexact Hd1
      isplitl [Hd2]; · iexact Hd2
      isplitr; · iexact Hq1
      isplitr; · iexact Hq2
      isplitl [Hba]; · iexact Hba
      iexact Hbc
    isplitl [Hrs Htk]
    · iapply (toks_open c)
      isplitl [Hrs]; · iexact Hrs
      iexact Htk
    isplitl [Har Hrc]
    · iapply (waits_open c)
      isplitl [Har]; · iexact Har
      iexact Hrc
    isplitl [Has]; · iexact Has
    iexact Hrr
  iexact Hlev

/-! ## The kernel as the pipeline calls it -/

/-- The kernel's own counters at zero. -/
def zeros (c : Dev nD) : sProp 𝕄 := Pipeline.ownSems0 osem c

/-- The proof data: the arrays, what the body leaves staged, the state before and after, what is owed before and after. -/
def dat (c : Dev nD) : Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => OUT (Im m)
    | ⟨_ + 4, h⟩ => absurd h (Nat.not_lt.2 (Nat.le_add_left _ _))
  Φ t := if t.val = 0 then iprop(Xk (Im m) c ∗ scratch c ∗ ∃ r, prngReg c r) else iprop(Yk c ∗ zeros c ∗ scratch c ∗ ∃ r, prngReg c r)
  q _ := fullShare
  owed t := if t.val = 0 then O₀ c else 0

/-- No admission is asked. -/
abbrev adm : (p : Fin 1) → (pcfgs (F := F) p).Adm := fun p => (cfgs p).toPCfg_adm
/-- The one kernel's proof data. -/
def pdats (_ : Fin 1) (c : Dev nD) : Dat τ (Elt F) Unit ℕ UU ℕ cfg0 c := dat m c

/-- Before the kernel's one point a device owes what it owes at launch. -/
theorem owed_first (c : Dev nD) : (dat m c).owed t0_0.castSucc = O₀ c := by
  show (if (t0_0.castSucc : Fin (cfg0.N + 1)).val = 0 then O₀ c else 0) = O₀ c; exact if_pos rfl
/-- After it a device owes nothing. -/
theorem owed_last (c : Dev nD) : (dat m c).owed t0_0.succ = 0 := by
  show (if (t0_0.succ : Fin (cfg0.N + 1)).val = 0 then O₀ c else 0) = 0
  exact if_neg (Nat.succ_ne_zero _)

omit [FloatOps F] in
/-- What a device owes, as the region states it. -/
theorem owesAt_intro {c : Dev nD} (d : Dat τ (Elt F) Unit ℕ UU ℕ cfg0 c) (t : Fin (cfg0.N + 1)) (O : CellTallies nD τ sig Unit) (h0 : d.owed t = O)
    (W : Waits sig Unit) (hr : d.recorded t = Set.univ) : (owes (c : Thread nD τ) O W : sProp 𝕄) ⊢ (d.owesAt () t : sProp 𝕄) := by
  unfold Dat.owesAt Pipeline.owesWithin Dat.bound; rw [h0, hr]
  iintro HO; iexists W; isplitr; · ipureintro; exact fun _ _ => Or.inl trivial
  iexact HO
omit [FloatOps F] in
/-- The same, read back. -/
theorem owesAt_elim {c : Dev nD} (d : Dat τ (Elt F) Unit ℕ UU ℕ cfg0 c) (t : Fin (cfg0.N + 1)) (O : CellTallies nD τ sig Unit) (h0 : d.owed t = O) :
    (d.owesAt () t : sProp 𝕄) ⊢ iprop(∃ W, owes (c : Thread nD τ) O W) := by
  unfold Dat.owesAt Pipeline.owesWithin; rw [h0]
  iintro ⟨%W, -, HO⟩; iexists W; iexact HO

omit [FloatOps F] in
/-- A whole staging buffer owned. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ pt b c fullShare Finset.univ f) := by
  unfold owns pt; simp only [Memref.view_whole, View.read_whole, View.set_whole]

/-- A staging buffer held whole. -/
abbrev stg (c : Dev nD) (b : Ref sig .tc) (X : b.ty.Contents (Elt F)) : sProp 𝕄 :=
  iprop(∃ f : Buf (Elt F) (((c : Dev nD) : Thread nD τ).loc b), ⌜f = X⌝ ∗ pt b c fullShare Finset.univ f)

/-- What the body starts from. -/
def bodyPre (c : Dev nD) : sProp 𝕄 :=
  iprop((Xk (Im m) c ∗ scratch c ∗ ∃ r, prngReg c r) ∗ (dat m c).owesAt () t0_0.castSucc
    ∗ (∃ d, stg c cc0_stg0_0 ((dat m c).before (0 : Fin 4) t0_0 d)) ∗ (∃ d, stg c cc0_stg1_0 ((dat m c).before (1 : Fin 4) t0_0 d))
    ∗ (∃ d, stg c cc0_stg2_0 ((dat m c).before (2 : Fin 4) t0_0 d)) ∗ (∃ d, stg c cc0_stg3_0 ((dat m c).before (3 : Fin 4) t0_0 d)))
/-- What it ends with. -/
def bodyPost (c : Dev nD) : sProp 𝕄 :=
  iprop((Yk c ∗ zeros c ∗ scratch c ∗ ∃ r, prngReg c r) ∗ (dat m c).owesAt () t0_0.succ
    ∗ stg c cc0_stg0_0 ((Im m).x c) ∗ stg c cc0_stg1_0 ((Im m).r c) ∗ stg c cc0_stg2_0 ((Im m).g c) ∗ stg c cc0_stg3_0 (OUT (Im m)))

/-- The body, as the pipeline asks for it. -/
theorem body_meets (c : Dev nD) : bodyPre m c ⊢ WP c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7) (fun _ => bodyPost m c) := by
  unfold bodyPre Xk
  iintro ⟨⟨⟨⟨%K, Hop⟩, #Hlev⟩, Hsc, Hreg⟩, HO, ⟨%d0, %f0, %h0, H0⟩, ⟨%d1, %f1, %h1, H1⟩, ⟨%d2, %f2, %h2, H2⟩, ⟨%d3, %f3, %h3, H3⟩⟩
  have e0 : f0 = (Im m).x c := by rw [h0]; unfold Dat.before; rw [if_pos (fetch0_0 t0_0)]; rfl
  have e1 : f1 = (Im m).r c := by rw [h1]; unfold Dat.before; rw [if_pos (fetch0_1 t0_0)]; rfl
  have e2 : f2 = (Im m).g c := by rw [h2]; unfold Dat.before; rw [if_pos (fetch0_2 t0_0)]; rfl
  subst e0 e1 e2
  ihave HO' := (owesAt_elim (dat m c) _ (O₀ c) (owed_first m c)) $$ HO
  iapply (body_dev (Im m) K c f3 _) $$ [Hop Hsc HO' H0 H1 H2 H3]
  · isplitl [Hop]; · iexact Hop
    isplitr; · iexact Hlev
    isplitl [HO']; · iexact HO'
    isplitl [Hsc]; · iexact Hsc
    unfold inputs
    isplitr [H3]
    · isplitl [H0]; · iexact H0
      isplitl [H1] <;> iassumption
    iexact H3
  unfold inputs bodyPost Yk zeros Pipeline.ownSems0 owed
  iintro ⟨Hb, Hzs, Hzr, ⟨%W, HO⟩, Hsc, ⟨H0, H1, H2⟩, H3⟩
  isplitl [Hb Hzs Hzr Hsc Hreg]
  · isplitl [Hb]; · iexact Hb
    isplitl [Hzs Hzr]
    · iapply (Entails.of_eq (own_split fun i => semVal (ownCell c i) 0).symm) $$ [Hzs Hzr]
      isplitl [Hzs]; · iexact Hzs
      iexact Hzr
    isplitl [Hsc] <;> iassumption
  isplitl [HO]
  · iapply (owesAt_intro (dat m c) t0_0.succ 0 (owed_last m c) W rfl); iexact HO
  isplitl [H0]
  · iexists _; isplitr; · ipureintro; rfl
    iexact H0
  isplitl [H1]
  · iexists _; isplitr; · ipureintro; rfl
    iexact H1
  isplitl [H2]
  · iexists _; isplitr; · ipureintro; rfl
    iexact H2
  iexists _; isplitr; · ipureintro; rfl
  iexact H3

/-- The same, in the pipeline's words. -/
theorem body_obligation (c : Dev nD) : BodyObligation (dat (F := F) m c) (defs₀ (F := F)) 𝒱₀ () Set.univ := fun t => by
  rw [fin_N0 t]
  rw [bigSep_W0, bigSep_W0]
  simp only [owns_whole_eq]
  exact body_meets m c

/-! ## The kernel's region of the program -/

omit [FloatOps F] in
/-- The kernel's own buffers, one by one. -/
theorem rest_eq (c : Dev nD) : (Pipeline.scopedRest (Ix := Unit) (Name := ℕ) (U := UU) (Lvl := ℕ) (Val := Elt F) spec0 c : sProp 𝕄) = scratch c :=
  scopedRest0_eq c

omit [FloatOps F] in
/-- To hold no buffer is to hold nothing. -/
theorem held_none (c : Dev nD) (W : Valuation τ sig (Elt F)) : (StableHlo.held (c : Thread nD τ) ∅ W : sProp 𝕄) = BI.emp := by
  unfold StableHlo.held; exact BI.bigSep_empty

/-- What the region hands the body before its one point. -/
theorem hin (c : Dev nD) : iprop(Pipeline.scopedRest (Pipeline.pin (pcfgs (F := F)) adm 0).spec c ∗ (∃ r, prngReg c r)
      ∗ StableHlo.held (c.tc : Thread nD τ) ∅ (Wm m c) ∗ Xk (Im m) c) ⊢ (pdats m 0 c).Φ 0 := by
  rw [show (pdats m 0 c).Φ 0 = iprop(Xk (Im m) c ∗ scratch c ∗ ∃ r, prngReg c r) from rfl,
    show Pipeline.scopedRest (Pipeline.pin (pcfgs (F := F)) adm 0).spec c = scratch c from rest_eq c]
  iintro ⟨Hs, Hp, -, HX⟩
  isplitl [HX]; · iexact HX
  isplitl [Hs] <;> iassumption

/-- What the body hands back after it. -/
theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (Wm' m c) ∗ Pipeline.ownSems0 osem c ∗ Yk c) := by
  rw [show (pdats m 0 c).Φ (Fin.last _) = iprop(Yk c ∗ zeros c ∗ scratch c ∗ ∃ r, prngReg c r) from rfl,
    show Pipeline.scopedRest (Pipeline.pin (pcfgs (F := F)) adm 0).spec c = scratch c from rest_eq c, held_none]
  unfold zeros
  iintro ⟨Hb, Hz, Hs, Hp⟩
  isplitl [Hs]; · iexact Hs
  isplitl [Hp]; · iexact Hp
  isplitr; · iempintro
  isplitl [Hz] <;> iassumption

/-- The facts of the launch that the region rests on. -/
theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- Whatever is owed, at either point, is on a tensor core and above the pipeline's own waits. -/
theorem cut_owed (c : Dev nD) (t : Fin ((Pipeline.pin (pcfgs (F := F)) adm 0).N + 1)) (g : GSem nD τ sig) (i : Unit) (h : 0 < (pdats (F := F) m 0 c).owed t g i) :
    i ∈ L g ∧ (0 : ℕ) < lv g i := by
  have e : (pdats (F := F) m 0 c).owed t = if t.val = 0 then O₀ c else 0 := rfl
  rw [e] at h
  split at h
  · rcases O₀_pos h with ⟨j, rfl⟩ | rfl | rfl
    · exact ⟨by rw [L_tc]; exact Finset.mem_singleton_self _, by rw [lv_rcv]; omega⟩
    · exact ⟨by rw [L_tc]; exact Finset.mem_singleton_self _, Nat.one_pos⟩
    · exact ⟨by rw [L_tc]; exact Finset.mem_singleton_self _, Nat.one_pos⟩
  · exact absurd h (Nat.lt_irrefl 0)

/-- Every window's array is held in full. -/
theorem share_full (c : Dev nD) (w : Fin 4) : (pdats (F := F) m 0 c).share w = fullShare := by unfold Dat.share; split <;> rfl

/-- The array of window 3 at the end: the result. -/
theorem arr_result (c : Dev nD) : (pdats (F := F) m 0 c).arrAt (3 : Fin 4) cfg0.N = OUT (Im m) :=
  (dat m c).arrAt_eq_of_after_last 3 t0_0 (by decide +kernel) _ fun j => rfl

/-- After the kernel the result's buffer holds the finished matrix. -/
theorem Wm'_v2 (c : Dev nD) : Wm' m c (Proc.devRef .tc main_v2) = OUT (Im m) := Function.update_self ..
/-- After the kernel every other buffer is as before. -/
theorem Wm'_ne (c : Dev nD) (b : DevRef τ sig) (h : b ≠ Proc.devRef .tc main_v2) : Wm' m c b = Wm m c b := Function.update_of_ne h ..

/-- After the kernel each window's array holds what is stated of it. -/
theorem arr_end (c : Dev nD) : ∀ w : Fin 4, (pdats (F := F) m 0 c).arrAt w cfg0.N = Wm' m c (Proc.devRef .tc (Pipeline.arrRef spec0 w))
  | 0 => ((dat m c).arrAt_in (0 : Fin 4) rfl _).trans (Wm'_ne m c (Proc.devRef .tc main_arg0) (by decide)).symm
  | 1 => ((dat m c).arrAt_in (1 : Fin 4) rfl _).trans (Wm'_ne m c (Proc.devRef .tc main_arg1) (by decide)).symm
  | 2 => ((dat m c).arrAt_in (2 : Fin 4) rfl _).trans (Wm'_ne m c (Proc.devRef .tc main_v1) (by decide)).symm
  | 3 => (arr_result m c).trans (Wm'_v2 m c).symm
  | ⟨_ + 4, h⟩ => absurd h (Nat.not_lt.2 (Nat.le_add_left _ _))

/-- The one buffer that is no window's array. -/
abbrev Sr : Finset (DevRef τ sig) := {Proc.devRef .tc main_arg2}

set_option backward.isDefEq.respectTransparency.types false in
/-- The kernel's region. -/
def reg : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ Sr (Finset.empty_subset _) kitP rfl (fun c => (body_obligation m c).loose)
    (fun _ => 0) O₀ (fun c => (owed_first m c).trans (zero_add _).symm) (fun c => owed_last m c) (fun _ => rfl) (share_full m)
    (Wm m) (Wm' m) (fun c b hb => Wm'_ne m c b (by
      rw [Finset.sdiff_empty, Finset.mem_singleton] at hb; rw [hb]; decide))
    (Tk (Im m)) Yk (Xk (Im m)) Yk (hopen (Im m)) (hin m) (hout m)
    (fun c => by iintro H; imodintro; iexact H)
    (fun _ => 0)
    ⟨fun c w s => by rw [L_tc]; exact Finset.mem_singleton_self _, fun c w s => by fin_cases w <;> exact Nat.le_refl 0,
      fun c t g i h => cut_owed m c t g i h⟩
    (fun _ => iprop(emp))
    (fun c w => rfl) (arr_end m)

end Proto
-- ==== Proof.Launch.lean ====
module

public import proofs.«01_k».proof.Proof.Region
public import Idealize.ShloMosaic.Lib.StableHlo
public import Idealize.ShloMosaic.Lib.Quiescent

/-! # The launch and the run of the whole program -/

@[expose] public section

noncomputable section

namespace Proto

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] (I : Given F) (m : (ℓ : Loc nD τ sig) → Buf (Elt F) ℓ) (ρ : Dev nD → PrngReg)

local notation "𝕄" => MT nD τ sig Unit (Elt F) ℕ UU ℕ

/-! ## The cells and their tokens -/

/-- Partners of the first exchange, as a permutation of the devices. -/
def q1E : Dev nD ≃ Dev nD := ⟨q1, q1, q1_q1, q1_q1⟩
/-- Partners of the second exchange. -/
def q2E : Dev nD ≃ Dev nD := ⟨q2, q2, q2_q2, q2_q2⟩
/-- Partners of copy `j`. -/
def prE (j : Fin 16) : Dev nD ≃ Dev nD := ⟨pr j, pr j, pr_pr j, pr_pr j⟩

/-- A device's thirty-two copy cells are distinct. -/
theorem osem_inj : Function.Injective osem := by decide +kernel
/-- No copy cell is the barrier cell. -/
theorem osem_ne_bar : ∀ i : Fin 32, osem i ≠ .reg barS := by decide +kernel

/-- The barrier cells. -/
def barEmb : Dev nD ↪ GSem nD τ sig := ⟨fun c => barCell c, fun _ _ h => congrArg (fun g : GSem nD τ sig => g.1.1) h⟩
/-- The send and receive cells. -/
def ownEmb : Dev nD × Fin 32 ↪ GSem nD τ sig :=
  ⟨fun p => ownCell p.1 p.2, fun _ _ h => Prod.ext (congrArg (fun g : GSem nD τ sig => g.1.1) h) (osem_inj (congrArg Prod.snd h))⟩
/-- The barrier cells of all devices. -/
abbrev barCells : Finset (GSem nD τ sig) := Finset.univ.map barEmb
/-- The copy cells of all devices. -/
abbrev ownCells : Finset (GSem nD τ sig) := Finset.univ.map ownEmb

/-- The semaphore and the duty a token is for. -/
def tokOf : Bool ⊕ Fin 32 → SemLoc sig × Bool
  | .inl b => (.reg barS, b)
  | .inr i => (osem i, false)
/-- Distinct duties have distinct tokens. -/
theorem tokOf_inj : Function.Injective tokOf := by decide +kernel
/-- Every duty's token. -/
def allToks : Finset (GSem nD τ sig × ℕ × Bool) :=
  Finset.univ.map ⟨fun p : Dev nD × (Bool ⊕ Fin 32) => (((p.1 : Thread nD τ), (tokOf p.2).1), 0, (tokOf p.2).2), fun _ _ h =>
    Prod.ext (congrArg (fun t : GSem nD τ sig × ℕ × Bool => t.1.1.1) h)
      (tokOf_inj (Prod.ext (congrArg (fun t : GSem nD τ sig × ℕ × Bool => t.1.2) h) (congrArg (fun t : GSem nD τ sig × ℕ × Bool => t.2.2) h)))⟩

/-- Barrier cells and copy cells are apart. -/
theorem disjoint_cells : Disjoint (barCells : Finset (GSem nD τ sig)) ownCells := by
  rw [Finset.disjoint_left]
  rintro g h₁ h₂
  obtain ⟨c, -, rfl⟩ := Finset.mem_map.mp h₁
  obtain ⟨p, -, h⟩ := Finset.mem_map.mp h₂
  exact osem_ne_bar p.2 (congrArg Prod.snd h)

/-- The pipeline's launch element and the protocol's. -/
def u₀ : UU :=
  (initOf (Pipeline.cells (Pipeline.pin (pcfgs (F := F)) adm) cellOf_inj) (Pipeline.launchToks (Pipeline.pin (pcfgs (F := F)) adm) cellOf_inj),
    launchOf barCells ownCells allToks)

/-- Something parked on one device. -/
def onDev (c₀ : Dev nD) (X : sProp 𝕄) (c : Dev nD) : sProp 𝕄 := if c = c₀ then X else iprop(emp)
omit [FloatOps F] in
/-- A family that is empty but at one device is its value there. -/
theorem bigSep_onDev (c₀ : Dev nD) (X : sProp 𝕄) : bigSep Finset.univ (onDev c₀ X) = X := by
  rw [bigSep_univ_at _ c₀, bigSep_congr (s := Finset.univ.erase c₀) (Ψ := fun _ => (BI.emp : sProp 𝕄))
      fun c hc => by unfold onDev; rw [if_neg (Finset.ne_of_mem_erase hc)]; rfl, BI.bigSep_emp_const]
  unfold onDev; rw [if_pos rfl]
  exact BI.equiv_iff.mp Idealize.SL.BI.sep_emp

/-- The protocol's launch element, parked on device 0. -/
def G : Dev nD → sProp 𝕄 := onDev 0 (BI.own (ER (launchOf barCells ownCells allToks)))

/-- The tokens of one device's cells. -/
def toks (c : Dev nD) : sProp 𝕄 :=
  iprop((dutyTok ER (barCell c) 0 true ∗ dutyTok ER (barCell c) 0 false)
    ∗ (bigSep Finset.univ fun j : Fin 16 => dutyTok ER (sndCell c j) 0 false) ∗ bigSep Finset.univ fun j : Fin 16 => dutyTok ER (rcvCell c j) 0 false)
/-- The tokens one device pays with. -/
def pays (c : Dev nD) : sProp 𝕄 :=
  iprop((dutyTok ER (barCell (q1 c)) 0 true ∗ dutyTok ER (barCell (q2 c)) 0 false)
    ∗ (bigSep Finset.univ fun j : Fin 16 => dutyTok ER (sndCell c j) 0 false) ∗ bigSep Finset.univ fun j : Fin 16 => dutyTok ER (rcvCell (pr j c) j) 0 false)

omit [FloatOps F] in
/-- All the duties' tokens, sorted by the device that pays them. -/
theorem toks_eq : bigSep allToks (fun x => (dutyTok ER x.1 x.2.1 x.2.2 : sProp 𝕄)) = bigSep Finset.univ fun c : Dev nD => toks c := by
  unfold allToks; rw [bigSep_map, bigSep_univ_prod]
  refine bigSep_congr fun c _ => ?_
  rw [bigSep_univ_sum, bigSep_univ_eq_bigSepL [true, false] (by decide) (by decide), bigSepL_cons_cons, bigSepL_singleton, own_split]
  rfl

omit [FloatOps F] in
/-- Every token handed to the device that pays with it. -/
theorem toks_around : (bigSep Finset.univ fun c : Dev nD => (toks c : sProp 𝕄)) ⊢ bigSep Finset.univ fun c : Dev nD => (pays c : sProp 𝕄) := by
  unfold toks pays
  rw [bigSep_sep', bigSep_sep', bigSep_sep', bigSep_sep', bigSep_sep', bigSep_sep',
    bigSep_univ_equiv q1E (fun c : Dev nD => (dutyTok ER (barCell c) 0 true : sProp 𝕄)),
    bigSep_univ_equiv q2E (fun c : Dev nD => (dutyTok ER (barCell c) 0 false : sProp 𝕄)),
    Pipeline.bigSep_univ_comm (fun (c : Dev nD) (j : Fin 16) => (dutyTok ER (rcvCell c j) 0 false : sProp 𝕄)),
    Pipeline.bigSep_univ_comm (fun (c : Dev nD) (j : Fin 16) => (dutyTok ER (rcvCell (pr j c) j) 0 false : sProp 𝕄)),
    bigSep_congr (s := Finset.univ) fun (j : Fin 16) _ => bigSep_univ_equiv (prE j) (fun c : Dev nD => (dutyTok ER (rcvCell c j) 0 false : sProp 𝕄))]
  exact BI.Entails.refl _

/-! ## The launch credit -/

/-- No receive cell is a barrier cell. -/
theorem rcv_ne_bar (d c : Dev nD) (j : Fin 16) : rcvCell d j ≠ barCell c := fun h => osem_ne_bar _ (congrArg Prod.snd h)
/-- The sixteen receive cells are distinct. -/
theorem rcvS_inj : Function.Injective rcvS := by decide +kernel

/-- A list of copies owes nothing to a barrier cell. -/
theorem Ol_bar (d c : Dev nD) (l : List (Fin 16)) : Ol d l (barCell c) () = 0 := by
  rcases Nat.eq_zero_or_pos (Ol d l (barCell c) ()) with h | h
  · exact h
  · obtain ⟨j, -, e⟩ := Ol_pos h; exact absurd e.symm (rcv_ne_bar _ _ _)

/-- Barrier cells are the same only on the same device. -/
theorem bar_eq (c d : Dev nD) : barCell c = barCell d ↔ c = d := ⟨fun h => barEmb.injective h, fun h => h ▸ rfl⟩
/-- Receive cells are the same only for the same device and copy. -/
theorem rcv_eq (c d : Dev nD) (i j : Fin 16) : rcvCell c i = rcvCell d j ↔ c = d ∧ i = j :=
  ⟨fun h => ⟨congrArg (fun g : GSem nD τ sig => g.1.1) h, rcvS_inj (by have := congrArg Prod.snd h; exact SemLoc.dma.inj this)⟩, fun ⟨h, k⟩ => h ▸ k ▸ rfl⟩

/-- At launch a device owes a barrier cell one unit if it is a partner's. -/
theorem owed_bar (d c : Dev nD) : O₀ d (barCell c) () = (if d = q2 c then 1 else 0) + if d = q1 c then 1 else 0 := by
  unfold O₀
  rw [Pi.add_apply, Finsupp.add_apply, Pi.add_apply, Finsupp.add_apply, Ol_bar, Nat.zero_add, tallyAt_apply, tallyAt_apply]
  have h1 : (barCell c = barCell (q2 d) ∧ () = ()) ↔ d = q2 c :=
    ⟨fun h => by rw [(bar_eq _ _).mp h.1, q2_q2], fun h => ⟨by rw [h, q2_q2], rfl⟩⟩
  have h2 : (barCell c = barCell (q1 d) ∧ () = ()) ↔ d = q1 c :=
    ⟨fun h => by rw [(bar_eq _ _).mp h.1, q1_q1], fun h => ⟨by rw [h, q1_q1], rfl⟩⟩
  rw [if_congr h1 rfl rfl, if_congr h2 rfl rfl]

/-- What a list of copies owes to a receive cell. -/
theorem Ol_rcv (d c : Dev nD) (j : Fin 16) (l : List (Fin 16)) : Ol d l (rcvCell c j) () = if d = pr j c then l.count j * amt j else 0 := by
  induction l with
  | nil => show 0 = _; rw [List.count_nil, Nat.zero_mul, ite_self]
  | cons i l ih =>
    unfold Ol
    rw [Pi.add_apply, Finsupp.add_apply, ih, tallyAt_apply, List.count_cons]
    have h1 : (rcvCell c j = rcvCell (pr i d) i ∧ () = ()) ↔ (d = pr j c ∧ i = j) :=
      ⟨fun h => by obtain ⟨h, rfl⟩ := (rcv_eq _ _ _ _).mp h.1; exact ⟨by rw [h, pr_pr], rfl⟩,
        fun ⟨h, k⟩ => ⟨by subst k; rw [h, pr_pr], rfl⟩⟩
    rw [if_congr h1 rfl rfl]; simp only [beq_iff_eq]
    by_cases hd : d = pr j c
    · by_cases hj : i = j
      · subst hj; rw [if_pos hd, if_pos ⟨hd, rfl⟩, if_pos rfl, if_pos hd, Nat.add_mul, Nat.one_mul]
      · rw [if_pos hd, if_neg (fun h => hj h.2), if_neg hj, if_pos hd, Nat.add_zero, Nat.add_zero]
    · rw [if_neg hd, if_neg (fun h => hd h.1), if_neg hd]

/-- At launch a device owes a receive cell its copy's amount if it is the cell of the partner that the copy goes to. -/
theorem owed_rcv (d c : Dev nD) (j : Fin 16) : O₀ d (rcvCell c j) () = if d = pr j c then amt j else 0 := by
  unfold O₀
  rw [Pi.add_apply, Finsupp.add_apply, Pi.add_apply, Finsupp.add_apply, Ol_rcv, tallyAt_ne_cell (rcv_ne_bar _ _ _),
    tallyAt_ne_cell (rcv_ne_bar _ _ _), Finsupp.zero_apply, Nat.add_zero, Nat.add_zero,
    show order.count j = 1 from by revert j; decide +kernel, Nat.one_mul]

/-- All devices together owe a barrier cell what its waiter waits for. -/
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (q2 c) fun _ => 1, Finset.sum_ite_eq' Finset.univ (q1 c) fun _ => 1, if_pos (Finset.mem_univ _), if_pos (Finset.mem_univ _)]

/-- All devices together owe a receive cell what its waiter waits for. -/
theorem launch_rcv (c : Dev nD) (j : Fin 16) :
    tallyOn (rcvCell c j) (launchCredit (Pipeline.owing O₀) 0 (rcvCell c j)) = (tallyAt (rcvCell c j) () (amt j) : CellTallies nD τ sig Unit) := by
  unfold tallyAt; refine congrArg _ (Finsupp.ext fun u => ?_); cases u
  rw [Pipeline.launchCredit_owing, Finsupp.single_eq_same, Finset.sum_congr rfl fun d _ => owed_rcv d c j, Finset.sum_ite_eq' Finset.univ (pr j c) fun _ => amt j,
    if_pos (Finset.mem_univ _)]

/-- The receive semaphores. -/
def rcvEmb : Fin 16 ↪ SemLoc sig := ⟨fun j => .dma (rcvS j), fun _ _ h => rcvS_inj (SemLoc.dma.inj h)⟩

omit [FloatOps F] in
/-- What the others owe a device at launch is the credit it waits with. -/
theorem creds_launch (c : Dev nD) : (Pipeline.launchCred O₀ c : sProp 𝕄) ⊢ creds c := by
  have hsub : Finset.univ.map rcvEmb ⊆ Finset.univ.erase (SemLoc.reg barS : SemLoc sig) := fun s hs => by
    obtain ⟨j, -, rfl⟩ := Finset.mem_map.mp hs
    exact Finset.mem_erase.mpr ⟨osem_ne_bar _, Finset.mem_univ _⟩
  unfold Pipeline.launchCred creds
  rw [bigSep_univ_at _ (SemLoc.reg barS), launch_bar]
  refine sep_mono_right ?_
  rw [bigSep_sdiff_split hsub, bigSep_map]
  refine (Laws.sep_and.trans and_elimL).trans (bigSep_mono fun j _ => ?_)
  exact Entails.of_eq (congrArg (fun t => (cred t : sProp 𝕄)) (launch_rcv c j))

/-! ## From the launch to the program -/

/-- What stays with a device: its place at its barrier cell, its rights to open, the tokens it pays with. -/
def linear (c : Dev nD) : sProp 𝕄 :=
  iprop(atPos ER (barCell c) 0 ∅ 0 ∗ (bigSep Finset.univ fun i : Fin 32 => openTok ER (ownCell c i)) ∗ pays c)

/-- All that is known of every cell. -/
def known (K : GSem nD τ sig → ℕ) : sProp 𝕄 := iprop(records I K ∗ bigSep Finset.univ fun d : Dev nD => reached ER (barCell d) 0)
/-- What every device knows may be used again and again. -/
instance known_persistent (K : GSem nD τ sig → ℕ) : BI.Persistent (known I K) := by unfold known; infer_instance

omit [FloatOps F] in
/-- The round that a cell has reached, of one device out of all. -/
theorem reached_at (d : Dev nD) : (bigSep Finset.univ fun d : Dev nD => (reached ER (barCell d) 0 : sProp 𝕄)) ⊢ reached ER (barCell d) 0 :=
  bigSep_elim (Finset.mem_univ d)

/-- What a device knows and its tokens make up its part of the protocol. -/
theorem ghost_intro (K : GSem nD τ sig → ℕ) (c : Dev nD) : iprop(known I K ∗ linear c) ⊢ iprop(∃ K, ghost I K c) := by
  unfold known linear pays ghost
  iintro ⟨⟨#HI, #HR⟩, Ha, Ho, ⟨H1, H2⟩, Hs, Hr⟩
  iexists K
  isplitr; · iexact HI
  isplitl [Ha H1 H2]
  · isplitl [H1]; · iexact H1
    isplitl [H2]; · iexact H2
    isplitr; · iapply (reached_at (F := F) (q1 c)); iexact HR
    isplitr; · iapply (reached_at (F := F) (q2 c)); iexact HR
    iexact Ha
  isplitl [Hs Hr]
  · iapply (Entails.of_eq (bigSep_sep' _ _ _).symm)
    isplitl [Hs]; · iexact Hs
    iexact Hr
  iexact Ho

/-- What a device carries beside its arrays up to the kernel. -/
def R (c : Dev nD) : sProp 𝕄 := iprop(Tk (Im m) c ∗ (∃ r, prngReg c r) ∗ ∃ W, owes (c : Thread nD τ) (O₀ c) W)
/-- The arrays as launched. -/
abbrev W₀ (c : Dev nD) : Valuation τ sig (Elt F) := fun b => m (c, b)
/-- What a device holds before the kernel. -/
abbrev T₀ (c : Dev nD) : sProp 𝕄 := iprop(StableHlo.held (c : Thread nD τ) (Pipeline.ucRefs τ sig) (W₀ m c) ∗ R m c)
/-- What a device holds after the kernel. -/
abbrev Tₙ (c : Dev nD) : sProp 𝕄 := iprop(StableHlo.held (c : Thread nD τ) (Pipeline.ucRefs τ sig) (Wm' m c) ∗ semVal (barCell c) 0)

/-- What of a device's launch holdings is not the protocol's ghost state. -/
def bundle (c : Dev nD) : sProp 𝕄 :=
  iprop(StableHlo.held (c : Thread nD τ) (Pipeline.ucRefs τ sig) (W₀ m c) ∗ creds c ∗ owes (c : Thread nD τ) (O₀ c) ∅ ∗ ∃ r, prngReg c r)

/-- A device's holdings at launch are what it holds before the kernel. -/
theorem T₀_intro (K : GSem nD τ sig → ℕ) (c : Dev nD) : iprop(known (Im m) K ∗ (linear c ∗ bundle m c)) ⊢ T₀ m c := by
  unfold bundle T₀ R Tk
  iintro ⟨#HR, Hl, Hh, Hc, HO, Hp⟩
  isplitl [Hh]; · iexact Hh
  isplitl [Hl Hc]
  · isplitl [Hl]
    · iapply (ghost_intro (Im m) K c)
      isplitr; · iexact HR
      iexact Hl
    iexact Hc
  isplitl [Hp]; · iexact Hp
  iexists ∅; iexact HO

omit [FloatOps F] in
/-- The one unscoped semaphore is the barrier. -/
theorem unscoped_eq : ∀ sm : SemLoc sig, sm.isScoped .tc = false → sm = .reg barS := by decide
omit [FloatOps F] in
/-- The only semaphore that lives outside the kernel is the barrier's. -/
theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- The launch: the cells funded, everything dealt. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (barCell c) 0 ∗ G c)) : sProp 𝕄) := by
    rw [show unscopedBufs c (fun b => m ((c : Thread nD τ).loc b)) = StableHlo.held (c : Thread nD τ) (Pipeline.ucRefs τ sig) (W₀ m c) from
        Pipeline.unscopedBufs_held c (W₀ m c), unscopedSems0_eq]
    unfold bundle
    iintro ⟨Hh, Hus, HO, Hcr, Hp, HG⟩
    ihave Hc := (creds_launch (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hre : bigSep barCells (fun g => (reached ER g 0 : sProp 𝕄)) ⊢ bigSep Finset.univ (fun c : Dev nD => (reached ER (barCell c) 0 : sProp 𝕄)) :=
    Entails.of_eq (bigSep_map (s := Finset.univ) barEmb (Φ := fun g : GSem nD τ sig => (reached ER g 0 : sProp 𝕄)))
  have hopen : bigSep ownCells (fun g => (openTok ER g : sProp 𝕄))
      ⊢ bigSep Finset.univ (fun c : Dev nD => bigSep Finset.univ fun i : Fin 32 => (openTok ER (ownCell c i) : sProp 𝕄)) :=
    Entails.of_eq (by rw [bigSep_map, bigSep_univ_prod]; rfl)
  have hrec (K : GSem nD τ sig → ℕ) : bigSep (barCells ∪ ownCells) (fun g => (cellInv ER (sch (Im m)) (K g) g : sProp 𝕄)) ⊢ records (Im m) K :=
    Entails.of_eq (by rw [bigSep_union disjoint_cells, bigSep_map, bigSep_map]; rfl)
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barCell c) 0 ∗ G c)) : sProp 𝕄) from bigSep_mono fun c _ => hcore c) $$ H
  ihave H2 := (Entails.of_eq (bigSep_sep' _ _ _)) $$ H'; icases H2 with ⟨HB, H3⟩
  ihave H4 := (Entails.of_eq (bigSep_sep' _ _ _)) $$ H3; icases H4 with ⟨Hv, HG⟩
  ihave Hu := (show bigSep Finset.univ (G (F := F)) ⊢ BI.own (ER (launchOf barCells ownCells allToks)) from
    Entails.of_eq (bigSep_onDev (F := F) 0 (BI.own (ER (launchOf barCells ownCells allToks))))) $$ HG
  imod (Rounds.fund_launch ER (sch (Im m)) disjoint_cells (fun g _ h => h) allToks) $$ [Hv Hu] with ⟨%κ, -, #Hinv, #Hr, Hat, Hopen, Htok⟩
  · isplitl [Hv]
    · iapply hv $$ Hv
    · iexact Hu
  imodintro
  iapply (bigSep_with_persistent (R := known (Im m) κ) (Φ := fun c => iprop(linear c ∗ bundle m c)) fun c _ => T₀_intro m κ c)
  isplitr
  · unfold known
    isplitr
    · iapply (hrec κ); iexact Hinv
    iapply hre; iexact Hr
  iapply (Entails.of_eq (bigSep_sep' _ _ _).symm)
  isplitr [HB]
  · unfold linear
    iapply (Entails.of_eq (bigSep_sep' _ _ _).symm); isplitl [Hat]; · iapply hat $$ Hat
    iapply (Entails.of_eq (bigSep_sep' _ _ _).symm); isplitl [Hopen]; · iapply hopen $$ Hopen
    iapply (toks_around (F := F))
    iapply (Entails.of_eq (toks_eq (F := F))) $$ Htok
  · iexact HB

/-! ## The program -/

/-- The host's reshape. -/
def seg0 : Pipeline.HostSeg (Name := ℕ) (U := UU) (pcfgs (F := F)) defs₀ 𝒱₀ L lv :=
  Pipeline.HostSeg.ofOps _ _ _ _ _ (Pipeline.ucRefs τ sig) hostOps0
    (fun op h => Pipeline.sub_ucRefs op (List.forall_iff_forall_mem.mp hostOps0_sub op h))
    (fun op h => List.forall_iff_forall_mem.mp hostOps0_fresh op h) (W₀ m) (R m)

/-- The program: the reshape, then the kernel. -/
def segs : List (Pipeline.Seg (pcfgs (F := F)) adm (pdats m) () defs₀ 𝒱₀ L lv) := [.host (seg0 m), .region (reg m)]

omit [FloatOps F] in
/-- The program's arrays are the kernel's windows' and the host's operand. -/
theorem held_split (c : Dev nD) (W : Valuation τ sig (Elt F)) : (StableHlo.held (c : Thread nD τ) (Pipeline.ucRefs τ sig) W : sProp 𝕄)
    = iprop(StableHlo.held (c : Thread nD τ) (Pipeline.arrRefs (τ := τ) spec0) W ∗ StableHlo.held (c : Thread nD τ) Sr W) := by
  rw [StableHlo.held_sub_split (c : Thread nD τ) (Pipeline.arrRefs_sub_ucRefs (τ := τ) spec0 (by decide)) W,
    show Pipeline.ucRefs τ sig \ Pipeline.arrRefs (τ := τ) spec0 = Sr from by decide]

/-- What a device holds before the kernel is what the kernel asks for. -/
theorem reg_pre (c : Dev nD) : iprop(StableHlo.held (c : Thread nD τ) (Pipeline.ucRefs τ sig) (Wm m c) ∗ R m c) ⊢ (reg m).pre c := by
  show _ ⊢ iprop(StableHlo.held (c.tc : Thread nD τ) (Pipeline.arrRefs (τ := τ) spec0) (Wm m c) ∗ (∃ r, prngReg c r)
    ∗ (StableHlo.held (c.tc : Thread nD τ) Sr (Wm m c) ∗ emp) ∗ Tk (Im m) c ∗ ∃ Wd, owes (c : Thread nD τ) (0 + O₀ c) Wd)
  rw [held_split, zero_add]
  unfold R
  iintro ⟨⟨Ha, Hs⟩, HT, Hp, HO⟩
  isplitl [Ha]; · iexact Ha
  isplitl [Hp]; · iexact Hp
  isplitl [Hs]
  · isplitl [Hs]; · iexact Hs
    iempintro
  isplitl [HT] <;> iassumption

/-- What the kernel leaves is what a device holds after it. -/
theorem reg_post (c : Dev nD) : (reg m).post c ⊢ iprop(Tₙ m c ∗ ∃ W, owes (c : Thread nD τ) (0 : CellTallies nD τ sig Unit) W) := by
  show iprop(StableHlo.held (c.tc : Thread nD τ) (Pipeline.arrRefs (τ := τ) spec0) (Wm' m c) ∗ (∃ r, prngReg c r)
    ∗ (StableHlo.held (c.tc : Thread nD τ) Sr (Wm' m c) ∗ emp) ∗ Yk c ∗ ∃ Wd, owes (c : Thread nD τ) (0 : CellTallies nD τ sig Unit) Wd) ⊢ _
  unfold Tₙ Yk
  rw [held_split]
  iintro ⟨Ha, -, ⟨Hs, -⟩, Hb, HO⟩
  isplitr [HO]
  · isplitl [Ha Hs]
    · isplitl [Ha] <;> iassumption
    iexact Hb
  iexact HO

omit [FloatOps F] in
/-- The program's arrays one by one. -/
theorem arrays_eq (c : Dev nD) (W : Valuation τ sig (Elt F)) : (StableHlo.held (c : Thread nD τ) (Pipeline.ucRefs τ sig) W : sProp 𝕄)
    = iprop((((c : Thread nD τ).loc main_arg0) ↦{fullShare} W (Proc.devRef .tc main_arg0)) ∗ (((c : Thread nD τ).loc main_arg1) ↦{fullShare} W (Proc.devRef .tc main_arg1))
      ∗ (((c : Thread nD τ).loc main_arg2) ↦{fullShare} W (Proc.devRef .tc main_arg2)) ∗ (((c : Thread nD τ).loc main_v1) ↦{fullShare} W (Proc.devRef .tc main_v1))
      ∗ (((c : Thread nD τ).loc main_v2) ↦{fullShare} W (Proc.devRef .tc main_v2))) := by
  unfold StableHlo.held
  rw [bigSep_eq_bigSepL_of_eq [Proc.devRef .tc main_arg0, Proc.devRef .tc main_arg1, Proc.devRef .tc main_arg2, Proc.devRef .tc main_v1, Proc.devRef .tc main_v2]
    (by decide) (by decide)]
  rfl

set_option backward.isDefEq.respectTransparency.types false in
/-- The run: from any memory with every counter at zero the program ends on every device, with its arguments unchanged, the
    result array at the result, and every counter at zero again. -/
theorem run_main : θ_run defs (onTc (τ := τ) (main (F := F))) (⟨m, fun _ => 0, ρ⟩ : MemSt nD τ sig (Elt F))
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_v2) = OUT (Im m)) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (seg0 m) (reg m) rfl c]; exact BI.Entails.refl _)
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀ G
      iintro Hu
      ihave H := (ownU_pair _ _) $$ Hu
      icases H with ⟨HP, HX⟩
      imodintro
      isplitl [HP]; · iexact HP
      rw [bigSep_onDev]; iexact HX)
    (T₀ := T₀ m) (Tₙ := Tₙ m)
    (hch := ⟨fun c => .rfl, fun c => reg_pre m c, fun c => reg_post m c⟩)
    (hinit := init m ρ)
    (QY := fun c s => (s.mem ((c : Thread nD τ).loc main_arg0) = Wm' m c (Proc.devRef .tc main_arg0)
        ∧ s.mem ((c : Thread nD τ).loc main_arg1) = Wm' m c (Proc.devRef .tc main_arg1)
        ∧ s.mem ((c : Thread nD τ).loc main_arg2) = Wm' m c (Proc.devRef .tc main_arg2)
        ∧ s.mem ((c : Thread nD τ).loc main_v2) = Wm' m c (Proc.devRef .tc main_v2))
      ∧ s.sem (barCell c) = 0)
    (hfin := fun c s' => by
      dsimp only [Tₙ]; rw [arrays_eq]
      iintro ⟨⟨⟨H0, H1, H2, -, H3⟩, Hb⟩, HSI⟩
      icombine HSI H0 gives %h0
      icombine HSI H1 gives %h1
      icombine HSI H2 gives %h2
      icombine HSI H3 gives %h3
      icombine HSI Hb gives %hb
      imodintro
      isplitr
      · ipureintro
        exact ⟨⟨Buf.eq_of_forall_mem_univ h0, Buf.eq_of_forall_mem_univ h1, Buf.eq_of_forall_mem_univ h2, Buf.eq_of_forall_mem_univ h3⟩, by simpa using hb⟩
      iexact HSI)
    (hQ := fun s h hs => ⟨fun c => by
        obtain ⟨⟨h0, h1, h2, h3⟩, -⟩ := h c
        rw [Wm'_ne m c _ (by decide)] at h0 h1 h2
        rw [Wm'_v2] at h3
        exact ⟨h0.trans (V_main_arg0 m c), h1.trans (V_main_arg1 m c), h2.trans (V_main_arg2 m c), h3⟩,
      sem_eq_zero hs fun c sm hsm => by
        obtain rfl := unscoped_eq sm hsm
        exact (h c).2⟩)

end Proto
-- ==== Proof.Value.lean ====
module

public import proofs.«01_k».proof.Proof.Conts
public import Idealize.ShloMosaic.Lib.Pipeline.Value
public import Idealize.ShloMosaic.Lib.IdealHost
public import Mathlib.Tactic.Abel

/-! # The finished matrix over the extended reals

Over the extended reals every element of the finished matrix is read off directly: it belongs to the device that
finishes its row, whose two partial sums and residual add up to the sum of the four addends and the residual, whatever
the order in which the exchanges took them. -/

@[expose] public section

noncomputable section

namespace Proto

open Cert.KernelIdeal Cert.KernelIdeal.Gen
open Idealize.ShloMosaic Idealize.ShloMosaic.TcCoe Idealize.ShloMosaic.ValueIdx
open scoped BigOperators

variable (I : Given Ideal)

/-! ## The vector operations at an index -/

/-- A cast to the same shape changes nothing. -/
theorem cast_self (V : FVec Ideal S128x1024 .f32) (h) : shapeCast S128x1024 V h = V :=
  funext fun j => shapeCast_apply V h j j rfl

/-- A block with one leading index, cast to a matrix. -/
theorem cast_block (V : Vec Ideal S1x128x1024 .f32) (h) (i : Fin 128) (k : Fin 1024) :
    shapeCast S128x1024 V h (ix2 i k) = V (ix3 (0 : Fin 1) i k) :=
  shapeCast_apply V h _ _ (by
    rw [Shape.rowMajor_val_three, Shape.rowMajor_val_two]
    show (0 * 128 + i.val) * 1024 + k.val = i.val * 1024 + k.val
    omega)

/-- The two-device sum of the lower half, elementwise. -/
theorem pay1_apply (A : Vec Ideal S128x1024 .f32) (B : Vec Ideal S1x128x1024 .f32) (i : Fin 128) (k : Fin 1024) :
    k0_pay1 A B (ix2 i k) = A (ix2 i k) + B (ix3 (0 : Fin 1) i k) := by
  unfold k0_pay1
  rw [cast_self, addf_apply, cast_block]

/-- The two-device sum of the upper half is computed by the same operations. -/
theorem pay2_eq : (k0_pay2 : Vec Ideal S128x1024 .f32 → _ → _) = k0_pay1 := rfl

/-- The sum of three terms of the lower half, elementwise. -/
theorem pay3_apply (A : Vec Ideal S128x1024 .f32) (B : Vec Ideal S1x128x1024 .f32) (C : Vec Ideal S128x1024 .f32) (i : Fin 128) (k : Fin 1024) :
    k0_pay3 A B C (ix2 i k) = A (ix2 i k) + B (ix3 (0 : Fin 1) i k) + C (ix2 i k) := by
  unfold k0_pay3
  rw [cast_self, cast_self, addf_apply, addf_apply, cast_block]

/-- The sum of three terms of the upper half is computed by the same operations. -/
theorem pay5_eq (A : Vec Ideal S128x1024 .f32) (B : Vec Ideal S1x128x1024 .f32) (C : Vec Ideal S128x1024 .f32) :
    k0_pay5 (k0_pay4 A B C) = k0_pay3 A B C := rfl

/-! ## Normalising a row -/

/-- A row `y` divided by its root mean square, the mean raised by a small constant, times the scale `g`: element `k`. -/
def normRow (y g : Fin 1024 → EReal) (k : Fin 1024) : EReal :=
  y k * Ideal.rsqrt (Ideal.div (∑ j, y j * y j) (Ideal.ofBits .f32 0x44800000#32) + Ideal.ofBits .f32 0x358637BD#32) * g k

/-- The sum over a row. -/
theorem row_sum (Y : FVec Ideal S64x1024 .f32) (i : Fin 64) (hφ) (hacc) :
    multiReduction .add [1] S64 Y 0x00000000#32 reduces_S64x1024_S64 hφ hacc (ix1 i) = ∑ j, Y (ix2 i j) := by
  rw [Ideal.multiReduction_add_single]
  refine Finset.sum_congr rfl fun j _ => congrArg Y (funext fun a => ?_)
  match a with
  | ⟨0, _⟩ => rfl
  | ⟨1, _⟩ => rfl

/-- A block of finished rows, elementwise. -/
theorem pay6_apply (A B : Vec Ideal S64x1024 .f32) (g : Vec Ideal S1x1024 .f32) (i : Fin 64) (k : Fin 1024) :
    k0_pay6 A B g (ix2 i k) = normRow (fun j => A (ix2 i j) + B (ix2 i j)) (fun j => g (ix2 (0 : Fin 1) j)) k := by
  unfold k0_pay6
  dsimp only
  rw [mulf_apply, mulf_apply, addf_apply,
    broadcastTo_apply _ broadcasts_S64x1_S64x1024 (ix2 i k) (ix2 i (0 : Fin 1)) (fun a => by match a with | ⟨0, _⟩ => rfl | ⟨1, _⟩ => rfl),
    broadcastTo_apply _ broadcasts_S1x1024_S64x1024 (ix2 i k) (ix2 (0 : Fin 1) k) (fun a => by match a with | ⟨0, _⟩ => rfl | ⟨1, _⟩ => rfl),
    shapeCast_apply _ shapeCasts_S1024_S1x1024 (ix2 (0 : Fin 1) k) (ix1 k) (by
      rw [Shape.rowMajor_val_one, Shape.rowMajor_val_two]; show k.val = 0 * 1024 + k.val; omega),
    shapeCast_apply _ shapeCasts_S1x1024_S1024 (ix1 k) (ix2 (0 : Fin 1) k) (by
      rw [Shape.rowMajor_val_one, Shape.rowMajor_val_two]; show 0 * 1024 + k.val = k.val; omega)]
  show _ * Ideal.rsqrt (Ideal.div (shapeCast S64x1 _ _ (ix2 i (0 : Fin 1))) _ + _) * _ = _
  rw [shapeCast_apply _ shapeCasts_S64_S64x1 (ix2 i (0 : Fin 1)) (ix1 i) (by
      rw [Shape.rowMajor_val_one, Shape.rowMajor_val_two]; show i.val = i.val * 1 + 0; omega)]
  exact congrArg (fun s => (A (ix2 i k) + B (ix2 i k))
    * Ideal.rsqrt (Ideal.div s (Ideal.ofBits .f32 0x44800000#32) + Ideal.ofBits .f32 0x358637BD#32) * g (ix2 (0 : Fin 1) k))
    (row_sum (mulf (addf A B) (addf A B)) i _ _)

/-- The four blocks of finished rows are computed by the same operations. -/
theorem pay7_eq : (k0_pay7 : Vec Ideal S64x1024 .f32 → _ → _ → _) = k0_pay6 := rfl
/-- Two of the normalisations are one function. -/
theorem pay8_eq : (k0_pay8 : Vec Ideal S64x1024 .f32 → _ → _ → _) = k0_pay6 := rfl
/-- So are these two. -/
theorem pay9_eq : (k0_pay9 : Vec Ideal S64x1024 .f32 → _ → _ → _) = k0_pay6 := rfl

/-! ## The sums -/

/-- Row `r` of device `d`'s addend. -/
def X (d : Dev nD) (r : ℕ) (k : Fin 1024) : EReal := I.x d (ix3 (0 : Fin 1) (Fin.ofNat 1024 r) k)

/-- Row `r` of the four addends and device `d`'s residual, summed. -/
def total (d : Dev nD) (r : ℕ) (k : Fin 1024) : EReal := (∑ c, X I c r k) + I.r d (ix2 (Fin.ofNat 1024 r) k)

/-- The two-device sum sent on in the lower half. -/
theorem P1_apply (d : Dev nD) (i : Fin 128) (k : Fin 1024) :
    P1 I d (ix2 i k) = X I (q1 d) (g1 d + i.val) k + X I d (g1 d + i.val) k := by
  unfold P1
  rw [pay1_apply]
  show X I (q1 d) (a1 d + (f1 d + i.val) % 256) k + X I d (g1 d + i.val) k = _
  have := num d; have := i.isLt
  rw [show a1 d + (f1 d + i.val) % 256 = g1 d + i.val from by omega]

/-- The two-device sum sent on in the upper half. -/
theorem P2_apply (d : Dev nD) (i : Fin 128) (k : Fin 1024) :
    P2 I d (ix2 i k) = X I (q2 d) (g2 d + i.val) k + X I d (g2 d + i.val) k := by
  unfold P2
  rw [pay2_eq, pay1_apply]
  show X I (q2 d) (512 + a2 d + (f2 d + i.val) % 256) k + X I d (g2 d + i.val) k = _
  have := num d; have := i.isLt
  rw [show 512 + a2 d + (f2 d + i.val) % 256 = g2 d + i.val from by omega]

/-- The sum a device keeps in the lower half. -/
theorem T1_apply (d : Dev nD) (i : Fin 128) (k : Fin 1024) :
    T1 I d (ix2 i k) = X I (q1 d) (o1 d + i.val) k + X I d (o1 d + i.val) k + I.r d (ix2 (Fin.ofNat 1024 (o1 d + i.val)) k) := by
  unfold T1
  rw [pay3_apply]
  show X I (q1 d) (a1 d + (c1 d + i.val) % 256) k + X I d (o1 d + i.val) k + I.r d (ix2 (Fin.ofNat 1024 (o1 d + i.val)) k) = _
  have := num d; have := i.isLt
  rw [show a1 d + (c1 d + i.val) % 256 = o1 d + i.val from by omega]

/-- The sum a device keeps in the upper half. -/
theorem T2_apply (d : Dev nD) (i : Fin 128) (k : Fin 1024) :
    T2 I d (ix2 i k) = X I (q2 d) (o2 d + i.val) k + X I d (o2 d + i.val) k + I.r d (ix2 (Fin.ofNat 1024 (o2 d + i.val)) k) := by
  unfold T2
  rw [pay5_eq, pay3_apply]
  show X I (q2 d) (512 + a2 d + (c2 d + i.val) % 256) k + X I d (o2 d + i.val) k + I.r d (ix2 (Fin.ofNat 1024 (o2 d + i.val)) k) = _
  have := num d; have := i.isLt
  rw [show 512 + a2 d + (c2 d + i.val) % 256 = o2 d + i.val from by omega]

/-- The four devices are a device, its two partners and the partners' partner. -/
theorem sum_lo (f : Dev nD → EReal) (d : Dev nD) : f (q1 (q2 d)) + f (q2 d) + (f (q1 d) + f d) = ∑ c, f c := by
  rw [show (∑ c, f c) = f 0 + f 1 + f 2 + f 3 from Fin.sum_univ_four f]
  match d with
  | 0 => show f 2 + f 3 + (f 1 + f 0) = _; abel
  | 1 => show f 3 + f 2 + (f 0 + f 1) = _; abel
  | 2 => show f 0 + f 1 + (f 3 + f 2) = _; abel
  | 3 => show f 1 + f 0 + (f 2 + f 3) = _; abel

/-- The same in the order of the upper half. -/
theorem sum_hi (f : Dev nD → EReal) (d : Dev nD) : f (q2 (q1 d)) + f (q1 d) + (f (q2 d) + f d) = ∑ c, f c := by
  rw [← sum_lo f d, show q2 (q1 d) = q1 (q2 d) from by revert d; decide +kernel]; abel

/-- In the lower half the two sums add up to everything. -/
theorem y_lo (d : Dev nD) (i : Fin 128) (k : Fin 1024) : R3 I d (ix2 i k) + T1 I d (ix2 i k) = total I d (o1 d + i.val) k := by
  unfold R3 total
  rw [P1_apply, T1_apply, (num2 d).2.2.2.2.2.2, ← sum_lo (fun c => X I c (o1 d + i.val) k) d, ← add_assoc]

/-- In the upper half the two sums add up to everything. -/
theorem y_hi (d : Dev nD) (i : Fin 128) (k : Fin 1024) : R4 I d (ix2 i k) + T2 I d (ix2 i k) = total I d (o2 d + i.val) k := by
  unfold R4 total
  rw [P2_apply, T2_apply, (num1 d).2.2.2.2.2.2, ← sum_hi (fun c => X I c (o2 d + i.val) k) d, ← add_assoc]

/-! ## The finished rows -/

/-- An index of one of two blocks of 64 rows. -/
theorem cut_half (p : ℕ) (V : Vec Ideal S128x1024 .f32) (i : Fin 128) (hp : i.val / 64 * 64 = p) (j : Fin 1024) :
    cut 64 p V (ix2 (Fin.ofNat 64 i.val) j) = V (ix2 i j) := by
  unfold cut
  refine congrArg V (funext fun a => ?_)
  match a with
  | ⟨0, _⟩ =>
    apply Fin.ext
    show (p + i.val % 64) % 128 = i.val
    have := i.isLt
    omega
  | ⟨1, _⟩ => rfl

/-- Two blocks of 64 finished rows, each normalised from its part of the sums `A` and `B`, are the 128 rows normalised. -/
theorem halves (A B : Vec Ideal S128x1024 .f32) (g : Vec Ideal S1x1024 .f32) (i : Fin 128) (k : Fin 1024) :
    (if i.val < 64 then k0_pay6 (cut 64 0 A) (cut 64 0 B) g (ix2 (Fin.ofNat 64 i.val) k) else k0_pay6 (cut 64 64 A) (cut 64 64 B) g (ix2 (Fin.ofNat 64 i.val) k))
      = normRow (fun j => A (ix2 i j) + B (ix2 i j)) (fun j => g (ix2 (0 : Fin 1) j)) k := by
  have := i.isLt
  by_cases h : i.val < 64
  · rw [if_pos h, pay6_apply]
    refine congrArg (fun y => normRow y _ k) (funext fun j => ?_)
    rw [cut_half 0 A i (by omega), cut_half 0 B i (by omega)]
  · rw [if_neg h, pay6_apply]
    refine congrArg (fun y => normRow y _ k) (funext fun j => ?_)
    rw [cut_half 64 A i (by omega), cut_half 64 B i (by omega)]

/-- The lower rows device `d` finishes, elementwise. -/
theorem fin1_apply (d : Dev nD) (i : Fin 128) (k : Fin 1024) :
    fin1 I d (ix2 i k) = normRow (total I d (o1 d + i.val)) (fun j => I.g d (ix2 (0 : Fin 1) j)) k := by
  unfold fin1
  rw [pay8_eq]
  refine (halves (R3 I d) (T1 I d) (I.g d) i k).trans (congrArg (fun y => normRow y _ k) (funext fun j => y_lo I d i j))

/-- The upper rows device `d` finishes, elementwise. -/
theorem fin2_apply (d : Dev nD) (i : Fin 128) (k : Fin 1024) :
    fin2 I d (ix2 i k) = normRow (total I d (o2 d + i.val)) (fun j => I.g d (ix2 (0 : Fin 1) j)) k := by
  unfold fin2
  rw [pay7_eq, pay9_eq]
  refine (halves (R4 I d) (T2 I d) (I.g d) i k).trans (congrArg (fun y => normRow y _ k) (funext fun j => y_hi I d i j))

/-- Every row has a device that finishes it. -/
theorem owner (r : ℕ) (h : r < 1024) : (∃ d, o1 d ≤ r ∧ r < o1 d + 128) ∨ ∃ d, o2 d ≤ r ∧ r < o2 d + 128 := by
  by_cases h1 : r < 512
  · left
    by_cases h2 : r < 256
    · by_cases h3 : r < 128
      · exact ⟨0, show 0 ≤ r ∧ r < 0 + 128 from by omega⟩
      · exact ⟨3, show 128 ≤ r ∧ r < 128 + 128 from by omega⟩
    · by_cases h3 : r < 384
      · exact ⟨1, show 256 ≤ r ∧ r < 256 + 128 from by omega⟩
      · exact ⟨2, show 384 ≤ r ∧ r < 384 + 128 from by omega⟩
  · right
    by_cases h2 : r < 768
    · by_cases h3 : r < 640
      · exact ⟨0, show 512 ≤ r ∧ r < 512 + 128 from by omega⟩
      · exact ⟨1, show 640 ≤ r ∧ r < 640 + 128 from by omega⟩
    · by_cases h3 : r < 896
      · exact ⟨2, show 768 ≤ r ∧ r < 768 + 128 from by omega⟩
      · exact ⟨3, show 896 ≤ r ∧ r < 896 + 128 from by omega⟩

/-- The finished matrix, where every device has the same residual and the same scale: row `r` is the normalised row of
    the four addends and the residual, summed. -/
theorem OUT_apply (R : Vec Ideal S1024x1024 .f32) (g : Vec Ideal S1x1024 .f32) (hR : ∀ d, I.r d = R) (hg : ∀ d, I.g d = g) (r k : Fin 1024) :
    OUT I (ix2 r k)
      = normRow (fun j => (∑ c, I.x c (ix3 (0 : Fin 1) r j)) + R (ix2 r j)) (fun j => g (ix2 (0 : Fin 1) j)) k := by
  have hm : Fin.ofNat 1024 r.val = r := Fin.ext (Nat.mod_eq_of_lt r.isLt)
  have hrow (o : ℕ) (ho : o % 128 = 0) (h : o ≤ r.val) (h' : r.val < o + 128) : o + (Fin.ofNat 128 r.val).val = r.val := by
    show o + r.val % 128 = r.val
    omega
  have hsum (d : Dev nD) : total I d r.val = fun j => (∑ c, I.x c (ix3 (0 : Fin 1) r j)) + R (ix2 r j) := by
    funext j; unfold total X; rw [hm, hR]
  show outRow I r.val k = _
  rcases owner r.val r.isLt with ⟨d, h, h'⟩ | ⟨d, h, h'⟩
  · rw [outRow_lo I d r.val k h h', fin1_apply, hrow _ (by clear h h'; revert d; decide +kernel) h h', hsum, hg]
  · rw [outRow_hi I d r.val k h h', fin2_apply, hrow _ (by clear h h'; revert d; decide +kernel) h h', hsum, hg]

end Proto
-- ==== Proof.Answer.lean ====
module

public import proofs.«01_k».proof.Proof.Value
public import proofs.«01_k».proof.Proof.Launch
public import proofs.«01_k».proof.Proof.Gen.ReferenceIdeal.Run
public import Idealize.ShloMosaic.Lib.Layout

/-! # The reference's result, and that the kernel's is the same

The reference adds the four addends and the residual, divides each row by its root mean square, and scales it. Read at
an element this is the kernel's normalised row with the product by a reciprocal root written as a quotient by a root,
which over the extended reals is the same wherever the number under the root is positive; here it always is, a mean of
squares raised by a positive constant. -/

@[expose] public section

noncomputable section

namespace Proto

open Idealize.ShloMosaic hiding ix1 ix2 ix3
open Idealize.ShloMosaic.TcCoe Idealize.ShloMosaic.ValueIdx
open scoped BigOperators

/-! ## A product by a reciprocal root is a quotient by a root -/

/-- For a positive number under the root. -/
theorem mul_rsqrt (y z : EReal) (hz : 0 < z) : y * Ideal.rsqrt z = Ideal.div y (Ideal.sqrt z) := by
  induction z with
  | bot => exact absurd hz (by simp)
  | top => show y * 0 = Ideal.div y ⊤; unfold Ideal.div; rw [if_neg (by simp), EReal.inv_top]
  | coe r =>
    have hr : 0 < r := EReal.coe_pos.mp hz
    have hs : Real.sqrt r ≠ 0 := (Real.sqrt_pos.mpr hr).ne'
    rw [Ideal.rsqrt_coe, if_neg hr.le.not_gt, if_neg hr.ne', Ideal.sqrt_coe, if_neg hr.le.not_gt]
    unfold Ideal.div
    rw [if_neg (fun h => hs (EReal.coe_eq_zero.mp h)), EReal.coe_inv]

/-- The row's length as the programs write it is positive. -/
theorem len_pos : 0 < Ideal.ofBits .f32 0x44800000#32 := by
  have h : Ideal.ofBits .f32 0x44800000#32 = ((1024 : ℝ) : EReal) := by
    simp [Ideal.ofBits, Ideal.ieee, -EReal.coe_mul]; norm_num
  rw [h]; exact EReal.coe_pos.mpr (by norm_num)

/-- The constant added to the mean is positive. -/
theorem eps_pos : 0 < Ideal.ofBits .f32 0x358637BD#32 := by
  have h : ∃ r : ℝ, 0 < r ∧ Ideal.ofBits .f32 0x358637BD#32 = (r : EReal) := by
    refine ⟨_, ?_, by simp [Ideal.ofBits, Ideal.ieee, -EReal.coe_mul]; rfl⟩
    positivity
  obtain ⟨r, hr, h⟩ := h
  rw [h]; exact EReal.coe_pos.mpr hr

/-- A square is not negative. -/
theorem sq_nonneg' (a : EReal) : 0 ≤ a * a := by
  rcases le_total 0 a with h | h
  · exact mul_nonneg h h
  · rw [← neg_mul_neg]; exact mul_nonneg (EReal.neg_nonneg.mpr h) (EReal.neg_nonneg.mpr h)

/-- The number under the root is positive. -/
theorem under_pos (y : Fin 1024 → EReal) :
    0 < Ideal.div (∑ j, y j * y j) (Ideal.ofBits .f32 0x44800000#32) + Ideal.ofBits .f32 0x358637BD#32 := by
  have h : 0 ≤ Ideal.div (∑ j, y j * y j) (Ideal.ofBits .f32 0x44800000#32) := by
    unfold Ideal.div
    rw [if_neg len_pos.ne']
    exact mul_nonneg (Finset.sum_nonneg fun j _ => sq_nonneg' _) (EReal.inv_nonneg_of_nonneg len_pos.le)
  exact lt_of_lt_of_le eps_pos (le_add_of_nonneg_left h)

/-- The normalised row as a quotient. -/
theorem normRow_eq (y g : Fin 1024 → EReal) (k : Fin 1024) : normRow y g k
    = Ideal.div (y k) (Ideal.sqrt (Ideal.div (∑ j, y j * y j) (Ideal.ofBits .f32 0x44800000#32) + Ideal.ofBits .f32 0x358637BD#32)) * g k := by
  unfold normRow; rw [mul_rsqrt _ _ (under_pos y)]

/-! ## The reference at an element -/

section Reference
open Cert.ReferenceIdeal Cert.ReferenceIdeal.Gen

/-- The four addends and the residual, summed. -/
def sums (x : FVec Ideal S4x1024x1024 .f32) (r : FVec Ideal S1024x1024 .f32) : FVec Ideal S1024x1024 .f32 :=
  addf (Host.reduceAdd x (constant S_ .f32 0x00000000#32) reducesTo_S4x1024x1024_S1024x1024_d0 h_S_) r

/-- What the reference computes, as its operations stand. -/
def answer (x : FVec Ideal S4x1024x1024 .f32) (r : FVec Ideal S1024x1024 .f32) (g : FVec Ideal S1024 .f32) : FVec Ideal S1024x1024 .f32 :=
  mulf (Host.divf (sums x r) (broadcastInDim S1024x1024 ![0, 1] bcast_S1024x1_S1024x1024_0_1 (Host.sqrt (addf
    (Host.divf (broadcastInDim S1024x1 ![0] bcast_S1024_S1024x1_0
        (Host.reduceAdd (mulf (sums x r) (sums x r)) (constant S_ .f32 0x00000000#32) reducesTo_S1024x1024_S1024_d1 h_S_))
      (broadcastInDim S1024x1 ![] bcast_S_S1024x1 (constant S_ .f32 0x44800000#32)))
    (broadcastInDim S1024x1 ![] bcast_S_S1024x1 (constant S_ .f32 0x358637BD#32))))))
    (broadcastInDim S1024x1024 ![0, 1] bcast_S1x1024_S1024x1024_0_1 (broadcastInDim S1x1024 ![1] bcast_S1024_S1x1024_1 g))

/-- The sum of four addends at an element. -/
theorem sums_apply (x : FVec Ideal S4x1024x1024 .f32) (r : FVec Ideal S1024x1024 .f32) (i k : Fin 1024) :
    sums x r (ix2 i k) = (∑ c : Fin 4, x (ix3 c i k)) + r (ix2 i k) := by
  unfold sums
  rw [addf_apply, hostReduceAdd_apply, Ideal.hostReduceAdd_single _ (by decide : S4x1024x1024.Reduces [0] S1024x1024), constant_apply,
    Ideal.ofBits_zero_f32, zero_add]
  refine congrArg (· + _) (Finset.sum_congr rfl fun c _ => congrArg x (funext fun a => ?_))
  match a with
  | ⟨0, _⟩ => rfl
  | ⟨1, _⟩ => rfl
  | ⟨2, _⟩ => rfl

/-- The sum over a row. -/
theorem host_row_sum (Y : FVec Ideal S1024x1024 .f32) (i : Fin 1024) :
    Host.reduceAdd Y (constant S_ .f32 0x00000000#32) reducesTo_S1024x1024_S1024_d1 h_S_ (ix1 i) = ∑ j, Y (ix2 i j) := by
  rw [hostReduceAdd_apply, Ideal.hostReduceAdd_single _ (by decide : S1024x1024.Reduces [1] S1024), constant_apply, Ideal.ofBits_zero_f32, zero_add]
  refine Finset.sum_congr rfl fun c _ => congrArg Y (funext fun a => ?_)
  match a with
  | ⟨0, _⟩ => rfl
  | ⟨1, _⟩ => rfl

/-- What the reference computes, at an element. -/
theorem answer_apply (x : FVec Ideal S4x1024x1024 .f32) (r : FVec Ideal S1024x1024 .f32) (g : FVec Ideal S1024 .f32) (i k : Fin 1024) :
    answer x r g (ix2 i k) = normRow (fun j => (∑ c : Fin 4, x (ix3 c i j)) + r (ix2 i j)) (fun j => g (ix1 j)) k := by
  have hy (j : Fin 1024) := sums_apply x r i j
  have hs : (∑ j, mulf (sums x r) (sums x r) (ix2 i j)) = ∑ j, ((∑ c : Fin 4, x (ix3 c i j)) + r (ix2 i j)) * ((∑ c : Fin 4, x (ix3 c i j)) + r (ix2 i j)) :=
    Finset.sum_congr rfl fun j _ => by rw [mulf_apply, hy]
  rw [normRow_eq]
  unfold answer
  rw [mulf_apply, hostDivf_apply, hy,
    broadcastInDim_apply _ bcast_S1024x1_S1024x1024_0_1 _ (ix2 i k) (ix2 i (0 : Fin 1)) (fun a => by match a with | ⟨0, _⟩ => rfl | ⟨1, _⟩ => rfl),
    broadcastInDim_apply _ bcast_S1x1024_S1024x1024_0_1 _ (ix2 i k) (ix2 (0 : Fin 1) k) (fun a => by match a with | ⟨0, _⟩ => rfl | ⟨1, _⟩ => rfl),
    broadcastInDim_apply _ bcast_S1024_S1x1024_1 _ (ix2 (0 : Fin 1) k) (ix1 k) (fun a => by match a with | ⟨0, _⟩ => rfl)]
  refine congrArg (fun s => Ideal.div _ (Ideal.sqrt (Ideal.div s _ + _)) * _) ((broadcastInDim_apply _ bcast_S1024_S1024x1_0 _ (ix2 i (0 : Fin 1)) (ix1 i)
    (fun a => by match a with | ⟨0, _⟩ => rfl)).trans ((host_row_sum _ i).trans hs))

end Reference

/-! ## The kernel's blocks -/

section Kernel
open Cert.KernelIdeal Cert.KernelIdeal.Gen
variable {F : FTy → Type} [FloatOps F] (m : (ℓ : Loc nD τ sig) → Buf (Elt F) ℓ)

/-- Every input window's one block is its whole array. -/
theorem index_zero : (∀ a, win0_0.index t0_0 a = 0) ∧ (∀ a, win0_1.index t0_0 a = 0) ∧ (∀ a, win0_2.index t0_0 a = 0) :=
  ⟨fun _ => rfl, fun _ => rfl, fun _ => rfl⟩

/-- A device's addend is its first argument. -/
theorem Im_x (c : Dev nD) : (Im m).x c = m ((c : Thread nD τ).loc main_arg0) := by
  show iblk m c 0 t0_0 = _
  blk_ext! [iblk, V, index_zero.1]

/-- A device's residual is its second argument. -/
theorem Im_r (c : Dev nD) : (Im m).r c = m ((c : Thread nD τ).loc main_arg1) := by
  show iblk m c 1 t0_0 = _
  blk_ext! [iblk, V, index_zero.2.1]

/-- The host's reshape of the third argument. -/
theorem V_main_v1 (c : Dev nD) : V m c main_v1 = shapeCast S1x1024 (m ((c : Thread nD τ).loc main_arg2)) shapeCasts_S1024_S1x1024 := by
  unfold V hostOps0
  after_results
  rfl

/-- A device's scale as it is staged. -/
theorem Im_g' (c : Dev nD) : (Im m).g c = V m c main_v1 := by
  show iblk m c 2 t0_0 = _
  blk_ext! [iblk, index_zero.2.2]

/-- A device's scale is its third argument. -/
theorem Im_g (c : Dev nD) (k : Fin 1024) : (Im m).g c (ix2 (0 : Fin 1) k) = (m ((c : Thread nD τ).loc main_arg2) : Vec F S1024 .f32) (ix1 k) := by
  rw [Im_g', V_main_v1]
  exact shapeCast_apply _ _ _ (ix1 k) (by rw [Shape.rowMajor_val_one, Shape.rowMajor_val_two]; show k.val = 0 * 1024 + k.val; omega)

end Kernel

/-! ## They are the same -/

/-- Where the devices' addends are the blocks of the reference's and the other arguments are the same, the finished
    matrix is the reference's. -/
theorem OUT_eq (m : (ℓ : Loc Cert.KernelIdeal.nD Cert.KernelIdeal.τ Cert.KernelIdeal.sig) → Buf (Elt Ideal) ℓ)
    (x : FVec Ideal Cert.ReferenceIdeal.S4x1024x1024 .f32) (r : FVec Ideal Cert.ReferenceIdeal.S1024x1024 .f32) (g : FVec Ideal Cert.ReferenceIdeal.S1024 .f32)
    (hx : ∀ c : Dev Cert.KernelIdeal.nD, m ((c : Thread Cert.KernelIdeal.nD Cert.KernelIdeal.τ).loc Cert.KernelIdeal.main_arg0)
      = Layout.block ⟨3, ![1, 1024, 1024]⟩ ⟨3, ![4, 1024, 1024]⟩ 0 4 c x)
    (hr : ∀ c : Dev Cert.KernelIdeal.nD, m ((c : Thread Cert.KernelIdeal.nD Cert.KernelIdeal.τ).loc Cert.KernelIdeal.main_arg1) = r)
    (hg : ∀ c : Dev Cert.KernelIdeal.nD, m ((c : Thread Cert.KernelIdeal.nD Cert.KernelIdeal.τ).loc Cert.KernelIdeal.main_arg2) = g) :
    OUT (Im m) = answer x r g := by
  have hG (c) : (Im m).g c = (Im m).g 0 := by
    funext j
    obtain ⟨b, rfl⟩ : ∃ b : Fin 1024, j = ix2 (0 : Fin 1) b := ⟨j 1, funext fun a => by
      match a with
      | ⟨0, _⟩ => exact Fin.ext (by have : (j 0).val < 1 := (j 0).isLt; show (j 0).val = 0; omega)
      | ⟨1, _⟩ => rfl⟩
    rw [Im_g, Im_g, hg, hg]
  funext i
  obtain ⟨a, b, rfl⟩ : ∃ a b : Fin 1024, i = ix2 a b := ⟨i 0, i 1, funext fun a => by match a with | ⟨0, _⟩ => rfl | ⟨1, _⟩ => rfl⟩
  rw [OUT_apply (Im m) r ((Im m).g 0) (fun c => (Im_r m c).trans (hr c)) hG, answer_apply]
  have hX (c : Dev Cert.KernelIdeal.nD) (j : Fin 1024) : (Im m).x c (ix3 (0 : Fin 1) a j) = x (ix3 c a j) := by
    rw [Im_x, hx]
    refine (Layout.block_apply c x _ _).trans (congrArg x (funext fun e => ?_))
    match e with
    | ⟨0, _⟩ => exact Fin.ext (show c.val * 1 + 0 = c.val by omega)
    | ⟨1, _⟩ => rfl
    | ⟨2, _⟩ => rfl
  have hgk (j : Fin 1024) : (Im m).g 0 (ix2 (0 : Fin 1) j) = g (ix1 j) := (Im_g m 0 j).trans (congrFun (hg 0) _)
  simp only [hX, hgk]

end Proto
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Answer
public import Idealize.ShloMosaic.Adequacy
public import Idealize.ShloMosaic.Init

@[expose] public section

noncomputable section

namespace Cert.Proof

open Idealize.ShloMosaic Idealize.SL.Sem Cert.Kernel

/-- The two printings of the kernel have one body table. -/
theorem bodies_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl

/-- The two printings of the program have one table of functions. -/
theorem defs_eq : Cert.Kernel.defs (F := Bits) = Cert.KernelIdeal.defs (F := Bits) := by
  unfold Cert.Kernel.defs Cert.KernelIdeal.defs
  exact congrArg (Pipeline.defs _) bodies_eq

/-- The kernel at bit patterns: it ends, its arguments are unchanged, every counter is at zero. The program is the
    same text as the one the run is stated of, so its run is that run at bit patterns. -/
theorem frame_kernel : Cert.quiescent_Kernel := fun m ρ _ => by
  rw [defs_eq]
  have h := (θ_run (Cert.KernelIdeal.defs (F := Bits)) _ _).mono
    (fun r (h : (∀ c, _ ∧ _ ∧ _ ∧ _) ∧ _) => (⟨fun c => ⟨(h.1 c).1, (h.1 c).2.1, (h.1 c).2.2.1⟩, h.2⟩ : (∀ c, _ ∧ _ ∧ _) ∧ _)) (Proto.run_main (F := Bits) m ρ)
  exact h

/-- The kernel over the extended reals: the same. -/
theorem frame_ideal : Cert.quiescent_KernelIdeal := fun m ρ _ =>
  (θ_run Cert.KernelIdeal.defs _ _).mono (fun _ h => ⟨fun c => ⟨(h.1 c).1, (h.1 c).2.1, (h.1 c).2.2.1⟩, h.2⟩) (Proto.run_main (F := Ideal) m ρ)

/-- The reference: the same; it has no semaphore. -/
theorem frame_reference : Cert.quiescent_ReferenceIdeal := fun m ρ _ =>
  (θ_run Cert.ReferenceIdeal.defs _ _).mono (fun r h => ⟨fun c => ⟨(h c).2.1, (h c).2.2.1, (h c).2.2.2⟩,
      Idealize.ShloMosaic.sem_eq_zero_of_no_sems (by decide) r.2⟩) (Cert.ReferenceIdeal.Value.run (F := Ideal) m ρ)

/-- Over the extended reals every device's result is the reference's, from arguments that are the reference's: the
    first cut in four blocks, the others whole on each device. -/
theorem algebraic : Cert.algebraic_KernelIdeal_ReferenceIdeal := fun m g m' g' _ hin =>
  have e := Proto.OUT_eq m _ _ _ (fun c => (hin c).1) (fun c => (hin c).2.1) (fun c => (hin c).2.2)
  ⟨_, (θ_run Cert.KernelIdeal.defs _ _).mono (fun _ h c => ⟨((h.1 c).2.2.2).trans e, (h.1 c).1, (h.1 c).2.1, (h.1 c).2.2.1⟩)
      (Proto.run_main (F := Ideal) m g),
    (θ_run Cert.ReferenceIdeal.defs _ _).mono (fun _ h => h 0) (Cert.ReferenceIdeal.Value.run (F := Ideal) m' g')⟩

/-- Everything this certificate claims. -/
theorem claim : Cert.Claim := ⟨Cert.Kernel.Gen.facts, Cert.KernelIdeal.Gen.facts, Cert.ReferenceIdeal.Gen.facts,
  frame_kernel, frame_ideal, frame_reference, trivial, algebraic⟩

end Cert.Proof

end
